-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 2048, 2048]⟩ ⟨3, ![16, 2048, 2048]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x2048 : Shape := ⟨3, ![1, 2048, 2048]⟩
abbrev S2048x2048 : Shape := ⟨2, ![2048, 2048]⟩
abbrev S2048 : Shape := ⟨1, ![2048]⟩
abbrev S15x64x2048 : Shape := ⟨3, ![15, 64, 2048]⟩
abbrev S2x64x2048 : Shape := ⟨3, ![2, 64, 2048]⟩
abbrev S2 : Shape := ⟨1, ![2]⟩
abbrev S2x4 : Shape := ⟨2, ![2, 4]⟩
abbrev S15x4 : Shape := ⟨2, ![15, 4]⟩
abbrev S_ : Shape := ⟨0, ![]⟩
abbrev S1 : Shape := ⟨1, ![1]⟩
abbrev S1x64x2048 : Shape := ⟨3, ![1, 64, 2048]⟩
abbrev S64x2048 : Shape := ⟨2, ![64, 2048]⟩
abbrev S1x1 : Shape := ⟨2, ![1, 1]⟩
abbrev S1x64x512 : Shape := ⟨3, ![1, 64, 512]⟩
abbrev S64x512 : Shape := ⟨2, ![64, 512]⟩
abbrev S64 : Shape := ⟨1, ![64]⟩
abbrev S64x1 : Shape := ⟨2, ![64, 1]⟩
abbrev S512 : Shape := ⟨1, ![512]⟩
abbrev S1x512 : Shape := ⟨2, ![1, 512]⟩

abbrev nBuf : Space → Nat
  | .hbm => 4
  | .vmem => 7
  | .smem => 0
  | _ => 0

abbrev bufTy : (tb : Table) → Fin (tcTables nBuf tb) → BufTy
  | .hbm, ⟨0, _⟩ => ⟨S1x2048x2048, .f32⟩
  | .hbm, ⟨1, _⟩ => ⟨S2048x2048, .f32⟩
  | .hbm, ⟨2, _⟩ => ⟨S2048, .f32⟩
  | .hbm, ⟨3, _⟩ => ⟨S2048x2048, .f32⟩
  | .local _ .vmem, ⟨0, _⟩ => ⟨S2048, .f32⟩
  | .local _ .vmem, ⟨1, _⟩ => ⟨S2048x2048, .f32⟩
  | .local _ .vmem, ⟨2, _⟩ => ⟨S15x64x2048, .f32⟩
  | .local _ .vmem, ⟨3, _⟩ => ⟨S15x64x2048, .f32⟩
  | .local _ .vmem, ⟨4, _⟩ => ⟨S2x64x2048, .f32⟩
  | .local _ .vmem, ⟨5, _⟩ => ⟨S2x64x2048, .f32⟩
  | .local _ .vmem, ⟨6, _⟩ => ⟨S2x64x2048, .f32⟩
  | _, _ => ⟨S1x2048x2048, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | _ => false

abbrev dmaSemScopedAt (i : Nat) : Bool := match i / 128 with
  | 0 => dmaSemScopedAt0_0 i
  | 1 => dmaSemScopedAt0_1 i
  | 2 => dmaSemScopedAt0_2 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 280 → Bool
  | ⟨i, _⟩ => dmaSemScopedAt i

abbrev sig : RefSig :=
  (ofTc nBuf bufTy 1 280 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_15 : BitVec 32 := 1#32
  let v27 : BitVec 32 := Scalar.muli v14 c1_i32_15
  let v28 : BitVec 32 := Scalar.addi c0_i32_16 v27
  v28.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_18 : BitVec 32 := 1#32
  let v29 : BitVec 32 := Scalar.muli v25 c1_i32_18
  let v30 : BitVec 32 := Scalar.addi c0_i32_19 v29
  v30.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_20 : BitVec 32 := 1#32
  let v31 : BitVec 32 := Scalar.addi v2 c1_i32_20
  let c16_i32_21 : BitVec 32 := 16#32
  let c0_i32_22 : BitVec 32 := 0#32
  let v32 : BitVec 1 := Scalar.cmpi .eq c16_i32_21 c0_i32_22
  let c1_i32_23 : BitVec 32 := 1#32
  let v33 : BitVec 32 := Scalar.select v32 c1_i32_23 c16_i32_21
  let v34 : BitVec 32 := Scalar.remsi v31 v33
  let c0_i32_25 : BitVec 32 := 0#32
  let v36 : BitVec 1 := Scalar.cmpi .slt v34 c0_i32_25
  let c0_i32_26 : BitVec 32 := 0#32
  let v37 : BitVec 1 := Scalar.cmpi .slt v33 c0_i32_26
  let v38 : BitVec 1 := Scalar.xori v36 v37
  let c0_i32_24 : BitVec 32 := 0#32
  let v35 : BitVec 1 := Scalar.cmpi .ne v34 c0_i32_24
  let v39 : BitVec 1 := Scalar.andi v38 v35
  let v40 : BitVec 32 := Scalar.addi v34 v33
  let v41 : BitVec 32 := Scalar.select v39 v40 v34
  let c128_i32 : BitVec 32 := 128#32
  let v42 : BitVec 32 := Scalar.muli v41 c128_i32
  let c0_i32_40 : BitVec 32 := 0#32
  ![v42.toNat, 0]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_27 : BitVec 32 := 1#32
  let v43 : BitVec 32 := Scalar.subi v2 c1_i32_27
  let c16_i32_28 : BitVec 32 := 16#32
  let v44 : BitVec 32 := Scalar.addi v43 c16_i32_28
  let c16_i32_29 : BitVec 32 := 16#32
  let c0_i32_30 : BitVec 32 := 0#32
  let v45 : BitVec 1 := Scalar.cmpi .eq c16_i32_29 c0_i32_30
  let c1_i32_31 : BitVec 32 := 1#32
  let v46 : BitVec 32 := Scalar.select v45 c1_i32_31 c16_i32_29
  let v47 : BitVec 32 := Scalar.remsi v44 v46
  let c0_i32_33 : BitVec 32 := 0#32
  let v49 : BitVec 1 := Scalar.cmpi .slt v47 c0_i32_33
  let c0_i32_34 : BitVec 32 := 0#32
  let v50 : BitVec 1 := Scalar.cmpi .slt v46 c0_i32_34
  let v51 : BitVec 1 := Scalar.xori v49 v50
  let c0_i32_32 : BitVec 32 := 0#32
  let v48 : BitVec 1 := Scalar.cmpi .ne v47 c0_i32_32
  let v52 : BitVec 1 := Scalar.andi v51 v48
  let v53 : BitVec 32 := Scalar.addi v47 v46
  let v54 : BitVec 32 := Scalar.select v52 v53 v47
  let c128_i32_35 : BitVec 32 := 128#32
  let v55 : BitVec 32 := Scalar.muli v54 c128_i32_35
  let c64_i32 : BitVec 32 := 64#32
  let v56 : BitVec 32 := Scalar.addi v55 c64_i32
  let c0_i32_45 : BitVec 32 := 0#32
  ![v56.toNat, 0]
def k0_off3 (d0 : Dev nD) (c0_i32_46 : BitVec 32) : Fin 3 → Nat :=
  let c0_i32_64 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v67 : BitVec 32 := Scalar.subi v2 c0_i32_46
  let c16_i32_47 : BitVec 32 := 16#32
  let v68 : BitVec 32 := Scalar.addi v67 c16_i32_47
  let c16_i32_48 : BitVec 32 := 16#32
  let c0_i32_49 : BitVec 32 := 0#32
  let v69 : BitVec 1 := Scalar.cmpi .eq c16_i32_48 c0_i32_49
  let c1_i32_50 : BitVec 32 := 1#32
  let v70 : BitVec 32 := Scalar.select v69 c1_i32_50 c16_i32_48
  let v71 : BitVec 32 := Scalar.remsi v68 v70
  let c0_i32_52 : BitVec 32 := 0#32
  let v73 : BitVec 1 := Scalar.cmpi .slt v71 c0_i32_52
  let c0_i32_53 : BitVec 32 := 0#32
  let v74 : BitVec 1 := Scalar.cmpi .slt v70 c0_i32_53
  let v75 : BitVec 1 := Scalar.xori v73 v74
  let c0_i32_51 : BitVec 32 := 0#32
  let v72 : BitVec 1 := Scalar.cmpi .ne v71 c0_i32_51
  let v76 : BitVec 1 := Scalar.andi v75 v72
  let v77 : BitVec 32 := Scalar.addi v71 v70
  let v78 : BitVec 32 := Scalar.select v76 v77 v71
  let c128_i32_54 : BitVec 32 := 128#32
  let v79 : BitVec 32 := Scalar.muli v78 c128_i32_54
  let c0_i32_69 : BitVec 32 := 0#32
  ![0, v79.toNat, 0]
def k0_off4 (d0 : Dev nD) (c0_i32_55 : BitVec 32) : Fin 3 → Nat :=
  let c0_i32_70 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v80 : BitVec 32 := Scalar.addi v2 c0_i32_55
  let c16_i32_56 : BitVec 32 := 16#32
  let c0_i32_57 : BitVec 32 := 0#32
  let v81 : BitVec 1 := Scalar.cmpi .eq c16_i32_56 c0_i32_57
  let c1_i32_58 : BitVec 32 := 1#32
  let v82 : BitVec 32 := Scalar.select v81 c1_i32_58 c16_i32_56
  let v83 : BitVec 32 := Scalar.remsi v80 v82
  let c0_i32_60 : BitVec 32 := 0#32
  let v85 : BitVec 1 := Scalar.cmpi .slt v83 c0_i32_60
  let c0_i32_61 : BitVec 32 := 0#32
  let v86 : BitVec 1 := Scalar.cmpi .slt v82 c0_i32_61
  let v87 : BitVec 1 := Scalar.xori v85 v86
  let c0_i32_59 : BitVec 32 := 0#32
  let v84 : BitVec 1 := Scalar.cmpi .ne v83 c0_i32_59
  let v88 : BitVec 1 := Scalar.andi v87 v84
  let v89 : BitVec 32 := Scalar.addi v83 v82
  let v90 : BitVec 32 := Scalar.select v88 v89 v83
  let c128_i32_62 : BitVec 32 := 128#32
  let v91 : BitVec 32 := Scalar.muli v90 c128_i32_62
  let c64_i32_63 : BitVec 32 := 64#32
  let v92 : BitVec 32 := Scalar.addi v91 c64_i32_63
  let c0_i32_75 : BitVec 32 := 0#32
  ![0, v92.toNat, 0]
def k0_dev3 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_124 : BitVec 32 := 1#32
  let v155 : BitVec 32 := Scalar.muli v25 c1_i32_124
  let v156 : BitVec 32 := Scalar.addi c0_i32_125 v155
  v156.toNat
def k0_dev4 (d0 : Dev nD) : Nat :=
  let c0_i32_139 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_138 : BitVec 32 := 1#32
  let v166 : BitVec 32 := Scalar.muli v14 c1_i32_138
  let v167 : BitVec 32 := Scalar.addi c0_i32_139 v166
  v167.toNat
def k0_dev5 (d0 : Dev nD) : Nat :=
  let c0_i32_153 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_152 : BitVec 32 := 1#32
  let v177 : BitVec 32 := Scalar.muli v25 c1_i32_152
  let v178 : BitVec 32 := Scalar.addi c0_i32_153 v177
  v178.toNat
def k0_dev6 (d0 : Dev nD) : Nat :=
  let c0_i32_166 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_165 : BitVec 32 := 1#32
  let v188 : BitVec 32 := Scalar.muli v14 c1_i32_165
  let v189 : BitVec 32 := Scalar.addi c0_i32_166 v188
  v189.toNat
def k0_dev7 (d0 : Dev nD) : Nat :=
  let c0_i32_180 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_179 : BitVec 32 := 1#32
  let v199 : BitVec 32 := Scalar.muli v25 c1_i32_179
  let v200 : BitVec 32 := Scalar.addi c0_i32_180 v199
  v200.toNat
def k0_dev8 (d0 : Dev nD) : Nat :=
  let c0_i32_193 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_192 : BitVec 32 := 1#32
  let v210 : BitVec 32 := Scalar.muli v14 c1_i32_192
  let v211 : BitVec 32 := Scalar.addi c0_i32_193 v210
  v211.toNat
def k0_dev9 (d0 : Dev nD) : Nat :=
  let c0_i32_206 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_205 : BitVec 32 := 1#32
  let v221 : BitVec 32 := Scalar.muli v25 c1_i32_205
  let v222 : BitVec 32 := Scalar.addi c0_i32_206 v221
  v222.toNat
def k0_dev10 (d0 : Dev nD) : Nat :=
  let c0_i32_219 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_218 : BitVec 32 := 1#32
  let v232 : BitVec 32 := Scalar.muli v14 c1_i32_218
  let v233 : BitVec 32 := Scalar.addi c0_i32_219 v232
  v233.toNat
def k0_dev11 (d0 : Dev nD) : Nat :=
  let c0_i32_423 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_422 : BitVec 32 := 1#32
  let v383 : BitVec 32 := Scalar.muli v25 c1_i32_422
  let v384 : BitVec 32 := Scalar.addi c0_i32_423 v383
  v384.toNat
def k0_dev12 (d0 : Dev nD) : Nat :=
  let c0_i32_437 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_436 : BitVec 32 := 1#32
  let v394 : BitVec 32 := Scalar.muli v14 c1_i32_436
  let v395 : BitVec 32 := Scalar.addi c0_i32_437 v394
  v395.toNat
def k0_dev13 (d0 : Dev nD) : Nat :=
  let c0_i32_496 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_495 : BitVec 32 := 1#32
  let v439 : BitVec 32 := Scalar.muli v25 c1_i32_495
  let v440 : BitVec 32 := Scalar.addi c0_i32_496 v439
  v440.toNat
def k0_dev14 (d0 : Dev nD) : Nat :=
  let c0_i32_510 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_509 : BitVec 32 := 1#32
  let v450 : BitVec 32 := Scalar.muli v14 c1_i32_509
  let v451 : BitVec 32 := Scalar.addi c0_i32_510 v450
  v451.toNat
def k0_dev15 (d0 : Dev nD) : Nat :=
  let c0_i32_569 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_568 : BitVec 32 := 1#32
  let v495 : BitVec 32 := Scalar.muli v25 c1_i32_568
  let v496 : BitVec 32 := Scalar.addi c0_i32_569 v495
  v496.toNat
def k0_dev16 (d0 : Dev nD) : Nat :=
  let c0_i32_583 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_582 : BitVec 32 := 1#32
  let v506 : BitVec 32 := Scalar.muli v14 c1_i32_582
  let v507 : BitVec 32 := Scalar.addi c0_i32_583 v506
  v507.toNat
def k0_dev17 (d0 : Dev nD) : Nat :=
  let c0_i32_642 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_641 : BitVec 32 := 1#32
  let v551 : BitVec 32 := Scalar.muli v25 c1_i32_641
  let v552 : BitVec 32 := Scalar.addi c0_i32_642 v551
  v552.toNat
def k0_dev18 (d0 : Dev nD) : Nat :=
  let c0_i32_656 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_655 : BitVec 32 := 1#32
  let v562 : BitVec 32 := Scalar.muli v14 c1_i32_655
  let v563 : BitVec 32 := Scalar.addi c0_i32_656 v562
  v563.toNat
def k0_dev19 (d0 : Dev nD) : Nat :=
  let c0_i32_758 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_757 : BitVec 32 := 1#32
  let v657 : BitVec 32 := Scalar.muli v25 c1_i32_757
  let v658 : BitVec 32 := Scalar.addi c0_i32_758 v657
  v658.toNat
def k0_dev20 (d0 : Dev nD) : Nat :=
  let c0_i32_772 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_771 : BitVec 32 := 1#32
  let v668 : BitVec 32 := Scalar.muli v14 c1_i32_771
  let v669 : BitVec 32 := Scalar.addi c0_i32_772 v668
  v669.toNat
def k0_dev21 (d0 : Dev nD) : Nat :=
  let c0_i32_832 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_831 : BitVec 32 := 1#32
  let v713 : BitVec 32 := Scalar.muli v25 c1_i32_831
  let v714 : BitVec 32 := Scalar.addi c0_i32_832 v713
  v714.toNat
def k0_dev22 (d0 : Dev nD) : Nat :=
  let c0_i32_846 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_845 : BitVec 32 := 1#32
  let v724 : BitVec 32 := Scalar.muli v14 c1_i32_845
  let v725 : BitVec 32 := Scalar.addi c0_i32_846 v724
  v725.toNat
def k0_dev23 (d0 : Dev nD) : Nat :=
  let c0_i32_906 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_905 : BitVec 32 := 1#32
  let v769 : BitVec 32 := Scalar.muli v25 c1_i32_905
  let v770 : BitVec 32 := Scalar.addi c0_i32_906 v769
  v770.toNat
def k0_dev24 (d0 : Dev nD) : Nat :=
  let c0_i32_920 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_919 : BitVec 32 := 1#32
  let v780 : BitVec 32 := Scalar.muli v14 c1_i32_919
  let v781 : BitVec 32 := Scalar.addi c0_i32_920 v780
  v781.toNat
def k0_dev25 (d0 : Dev nD) : Nat :=
  let c0_i32_980 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_979 : BitVec 32 := 1#32
  let v825 : BitVec 32 := Scalar.muli v25 c1_i32_979
  let v826 : BitVec 32 := Scalar.addi c0_i32_980 v825
  v826.toNat
def k0_dev26 (d0 : Dev nD) : Nat :=
  let c0_i32_994 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_993 : BitVec 32 := 1#32
  let v836 : BitVec 32 := Scalar.muli v14 c1_i32_993
  let v837 : BitVec 32 := Scalar.addi c0_i32_994 v836
  v837.toNat
def k0_dev27 (d0 : Dev nD) : Nat :=
  let c0_i32_1120 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1119 : BitVec 32 := 1#32
  let v945 : BitVec 32 := Scalar.muli v25 c1_i32_1119
  let v946 : BitVec 32 := Scalar.addi c0_i32_1120 v945
  v946.toNat
def k0_dev28 (d0 : Dev nD) : Nat :=
  let c0_i32_1134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1133 : BitVec 32 := 1#32
  let v956 : BitVec 32 := Scalar.muli v14 c1_i32_1133
  let v957 : BitVec 32 := Scalar.addi c0_i32_1134 v956
  v957.toNat
def k0_dev29 (d0 : Dev nD) : Nat :=
  let c0_i32_1220 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1219 : BitVec 32 := 1#32
  let v1015 : BitVec 32 := Scalar.muli v25 c1_i32_1219
  let v1016 : BitVec 32 := Scalar.addi c0_i32_1220 v1015
  v1016.toNat
def k0_dev30 (d0 : Dev nD) : Nat :=
  let c0_i32_1234 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1233 : BitVec 32 := 1#32
  let v1026 : BitVec 32 := Scalar.muli v14 c1_i32_1233
  let v1027 : BitVec 32 := Scalar.addi c0_i32_1234 v1026
  v1027.toNat
def k0_dev31 (d0 : Dev nD) : Nat :=
  let c0_i32_1320 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1319 : BitVec 32 := 1#32
  let v1085 : BitVec 32 := Scalar.muli v25 c1_i32_1319
  let v1086 : BitVec 32 := Scalar.addi c0_i32_1320 v1085
  v1086.toNat
def k0_dev32 (d0 : Dev nD) : Nat :=
  let c0_i32_1334 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1333 : BitVec 32 := 1#32
  let v1096 : BitVec 32 := Scalar.muli v14 c1_i32_1333
  let v1097 : BitVec 32 := Scalar.addi c0_i32_1334 v1096
  v1097.toNat
def k0_dev33 (d0 : Dev nD) : Nat :=
  let c0_i32_1420 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1419 : BitVec 32 := 1#32
  let v1155 : BitVec 32 := Scalar.muli v25 c1_i32_1419
  let v1156 : BitVec 32 := Scalar.addi c0_i32_1420 v1155
  v1156.toNat
def k0_dev34 (d0 : Dev nD) : Nat :=
  let c0_i32_1434 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1433 : BitVec 32 := 1#32
  let v1166 : BitVec 32 := Scalar.muli v14 c1_i32_1433
  let v1167 : BitVec 32 := Scalar.addi c0_i32_1434 v1166
  v1167.toNat
def k0_dev35 (d0 : Dev nD) : Nat :=
  let c0_i32_1560 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1559 : BitVec 32 := 1#32
  let v1275 : BitVec 32 := Scalar.muli v25 c1_i32_1559
  let v1276 : BitVec 32 := Scalar.addi c0_i32_1560 v1275
  v1276.toNat
def k0_dev36 (d0 : Dev nD) : Nat :=
  let c0_i32_1574 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1573 : BitVec 32 := 1#32
  let v1286 : BitVec 32 := Scalar.muli v14 c1_i32_1573
  let v1287 : BitVec 32 := Scalar.addi c0_i32_1574 v1286
  v1287.toNat
def k0_dev37 (d0 : Dev nD) : Nat :=
  let c0_i32_1660 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1659 : BitVec 32 := 1#32
  let v1345 : BitVec 32 := Scalar.muli v25 c1_i32_1659
  let v1346 : BitVec 32 := Scalar.addi c0_i32_1660 v1345
  v1346.toNat
def k0_dev38 (d0 : Dev nD) : Nat :=
  let c0_i32_1674 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1673 : BitVec 32 := 1#32
  let v1356 : BitVec 32 := Scalar.muli v14 c1_i32_1673
  let v1357 : BitVec 32 := Scalar.addi c0_i32_1674 v1356
  v1357.toNat
def k0_dev39 (d0 : Dev nD) : Nat :=
  let c0_i32_1760 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1759 : BitVec 32 := 1#32
  let v1415 : BitVec 32 := Scalar.muli v25 c1_i32_1759
  let v1416 : BitVec 32 := Scalar.addi c0_i32_1760 v1415
  v1416.toNat
def k0_dev40 (d0 : Dev nD) : Nat :=
  let c0_i32_1774 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1773 : BitVec 32 := 1#32
  let v1426 : BitVec 32 := Scalar.muli v14 c1_i32_1773
  let v1427 : BitVec 32 := Scalar.addi c0_i32_1774 v1426
  v1427.toNat
def k0_dev41 (d0 : Dev nD) : Nat :=
  let c0_i32_1860 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1859 : BitVec 32 := 1#32
  let v1485 : BitVec 32 := Scalar.muli v25 c1_i32_1859
  let v1486 : BitVec 32 := Scalar.addi c0_i32_1860 v1485
  v1486.toNat
def k0_dev42 (d0 : Dev nD) : Nat :=
  let c0_i32_1874 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1873 : BitVec 32 := 1#32
  let v1496 : BitVec 32 := Scalar.muli v14 c1_i32_1873
  let v1497 : BitVec 32 := Scalar.addi c0_i32_1874 v1496
  v1497.toNat
def k0_dev43 (d0 : Dev nD) : Nat :=
  let c0_i32_2000 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1999 : BitVec 32 := 1#32
  let v1605 : BitVec 32 := Scalar.muli v25 c1_i32_1999
  let v1606 : BitVec 32 := Scalar.addi c0_i32_2000 v1605
  v1606.toNat
def k0_dev44 (d0 : Dev nD) : Nat :=
  let c0_i32_2014 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2013 : BitVec 32 := 1#32
  let v1616 : BitVec 32 := Scalar.muli v14 c1_i32_2013
  let v1617 : BitVec 32 := Scalar.addi c0_i32_2014 v1616
  v1617.toNat
def k0_dev45 (d0 : Dev nD) : Nat :=
  let c0_i32_2100 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2099 : BitVec 32 := 1#32
  let v1675 : BitVec 32 := Scalar.muli v25 c1_i32_2099
  let v1676 : BitVec 32 := Scalar.addi c0_i32_2100 v1675
  v1676.toNat
def k0_dev46 (d0 : Dev nD) : Nat :=
  let c0_i32_2114 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2113 : BitVec 32 := 1#32
  let v1686 : BitVec 32 := Scalar.muli v14 c1_i32_2113
  let v1687 : BitVec 32 := Scalar.addi c0_i32_2114 v1686
  v1687.toNat
def k0_dev47 (d0 : Dev nD) : Nat :=
  let c0_i32_2200 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2199 : BitVec 32 := 1#32
  let v1745 : BitVec 32 := Scalar.muli v25 c1_i32_2199
  let v1746 : BitVec 32 := Scalar.addi c0_i32_2200 v1745
  v1746.toNat
def k0_dev48 (d0 : Dev nD) : Nat :=
  let c0_i32_2214 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2213 : BitVec 32 := 1#32
  let v1756 : BitVec 32 := Scalar.muli v14 c1_i32_2213
  let v1757 : BitVec 32 := Scalar.addi c0_i32_2214 v1756
  v1757.toNat
def k0_dev49 (d0 : Dev nD) : Nat :=
  let c0_i32_2300 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2299 : BitVec 32 := 1#32
  let v1815 : BitVec 32 := Scalar.muli v25 c1_i32_2299
  let v1816 : BitVec 32 := Scalar.addi c0_i32_2300 v1815
  v1816.toNat
def k0_dev50 (d0 : Dev nD) : Nat :=
  let c0_i32_2314 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2313 : BitVec 32 := 1#32
  let v1826 : BitVec 32 := Scalar.muli v14 c1_i32_2313
  let v1827 : BitVec 32 := Scalar.addi c0_i32_2314 v1826
  v1827.toNat
def k0_dev51 (d0 : Dev nD) : Nat :=
  let c0_i32_2440 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2439 : BitVec 32 := 1#32
  let v1935 : BitVec 32 := Scalar.muli v25 c1_i32_2439
  let v1936 : BitVec 32 := Scalar.addi c0_i32_2440 v1935
  v1936.toNat
def k0_dev52 (d0 : Dev nD) : Nat :=
  let c0_i32_2454 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2453 : BitVec 32 := 1#32
  let v1946 : BitVec 32 := Scalar.muli v14 c1_i32_2453
  let v1947 : BitVec 32 := Scalar.addi c0_i32_2454 v1946
  v1947.toNat
def k0_dev53 (d0 : Dev nD) : Nat :=
  let c0_i32_2540 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2539 : BitVec 32 := 1#32
  let v2005 : BitVec 32 := Scalar.muli v25 c1_i32_2539
  let v2006 : BitVec 32 := Scalar.addi c0_i32_2540 v2005
  v2006.toNat
def k0_dev54 (d0 : Dev nD) : Nat :=
  let c0_i32_2554 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2553 : BitVec 32 := 1#32
  let v2016 : BitVec 32 := Scalar.muli v14 c1_i32_2553
  let v2017 : BitVec 32 := Scalar.addi c0_i32_2554 v2016
  v2017.toNat
def k0_dev55 (d0 : Dev nD) : Nat :=
  let c0_i32_2640 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2639 : BitVec 32 := 1#32
  let v2075 : BitVec 32 := Scalar.muli v25 c1_i32_2639
  let v2076 : BitVec 32 := Scalar.addi c0_i32_2640 v2075
  v2076.toNat
def k0_dev56 (d0 : Dev nD) : Nat :=
  let c0_i32_2654 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2653 : BitVec 32 := 1#32
  let v2086 : BitVec 32 := Scalar.muli v14 c1_i32_2653
  let v2087 : BitVec 32 := Scalar.addi c0_i32_2654 v2086
  v2087.toNat
def k0_dev57 (d0 : Dev nD) : Nat :=
  let c0_i32_2740 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2739 : BitVec 32 := 1#32
  let v2145 : BitVec 32 := Scalar.muli v25 c1_i32_2739
  let v2146 : BitVec 32 := Scalar.addi c0_i32_2740 v2145
  v2146.toNat
def k0_dev58 (d0 : Dev nD) : Nat :=
  let c0_i32_2754 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2753 : BitVec 32 := 1#32
  let v2156 : BitVec 32 := Scalar.muli v14 c1_i32_2753
  let v2157 : BitVec 32 := Scalar.addi c0_i32_2754 v2156
  v2157.toNat
def k0_dev59 (d0 : Dev nD) : Nat :=
  let c0_i32_2880 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2879 : BitVec 32 := 1#32
  let v2265 : BitVec 32 := Scalar.muli v25 c1_i32_2879
  let v2266 : BitVec 32 := Scalar.addi c0_i32_2880 v2265
  v2266.toNat
def k0_dev60 (d0 : Dev nD) : Nat :=
  let c0_i32_2894 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2893 : BitVec 32 := 1#32
  let v2276 : BitVec 32 := Scalar.muli v14 c1_i32_2893
  let v2277 : BitVec 32 := Scalar.addi c0_i32_2894 v2276
  v2277.toNat
def k0_dev61 (d0 : Dev nD) : Nat :=
  let c0_i32_2980 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2979 : BitVec 32 := 1#32
  let v2335 : BitVec 32 := Scalar.muli v25 c1_i32_2979
  let v2336 : BitVec 32 := Scalar.addi c0_i32_2980 v2335
  v2336.toNat
def k0_dev62 (d0 : Dev nD) : Nat :=
  let c0_i32_2994 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2993 : BitVec 32 := 1#32
  let v2346 : BitVec 32 := Scalar.muli v14 c1_i32_2993
  let v2347 : BitVec 32 := Scalar.addi c0_i32_2994 v2346
  v2347.toNat
def k0_dev63 (d0 : Dev nD) : Nat :=
  let c0_i32_3080 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3079 : BitVec 32 := 1#32
  let v2405 : BitVec 32 := Scalar.muli v25 c1_i32_3079
  let v2406 : BitVec 32 := Scalar.addi c0_i32_3080 v2405
  v2406.toNat
def k0_dev64 (d0 : Dev nD) : Nat :=
  let c0_i32_3094 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3093 : BitVec 32 := 1#32
  let v2416 : BitVec 32 := Scalar.muli v14 c1_i32_3093
  let v2417 : BitVec 32 := Scalar.addi c0_i32_3094 v2416
  v2417.toNat
def k0_dev65 (d0 : Dev nD) : Nat :=
  let c0_i32_3180 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3179 : BitVec 32 := 1#32
  let v2475 : BitVec 32 := Scalar.muli v25 c1_i32_3179
  let v2476 : BitVec 32 := Scalar.addi c0_i32_3180 v2475
  v2476.toNat
def k0_dev66 (d0 : Dev nD) : Nat :=
  let c0_i32_3194 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3193 : BitVec 32 := 1#32
  let v2486 : BitVec 32 := Scalar.muli v14 c1_i32_3193
  let v2487 : BitVec 32 := Scalar.addi c0_i32_3194 v2486
  v2487.toNat
def k0_dev67 (d0 : Dev nD) : Nat :=
  let c0_i32_3320 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3319 : BitVec 32 := 1#32
  let v2595 : BitVec 32 := Scalar.muli v25 c1_i32_3319
  let v2596 : BitVec 32 := Scalar.addi c0_i32_3320 v2595
  v2596.toNat
def k0_dev68 (d0 : Dev nD) : Nat :=
  let c0_i32_3334 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3333 : BitVec 32 := 1#32
  let v2606 : BitVec 32 := Scalar.muli v14 c1_i32_3333
  let v2607 : BitVec 32 := Scalar.addi c0_i32_3334 v2606
  v2607.toNat
def k0_dev69 (d0 : Dev nD) : Nat :=
  let c0_i32_3420 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3419 : BitVec 32 := 1#32
  let v2665 : BitVec 32 := Scalar.muli v25 c1_i32_3419
  let v2666 : BitVec 32 := Scalar.addi c0_i32_3420 v2665
  v2666.toNat
def k0_dev70 (d0 : Dev nD) : Nat :=
  let c0_i32_3434 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3433 : BitVec 32 := 1#32
  let v2676 : BitVec 32 := Scalar.muli v14 c1_i32_3433
  let v2677 : BitVec 32 := Scalar.addi c0_i32_3434 v2676
  v2677.toNat
def k0_dev71 (d0 : Dev nD) : Nat :=
  let c0_i32_3520 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3519 : BitVec 32 := 1#32
  let v2735 : BitVec 32 := Scalar.muli v25 c1_i32_3519
  let v2736 : BitVec 32 := Scalar.addi c0_i32_3520 v2735
  v2736.toNat
def k0_dev72 (d0 : Dev nD) : Nat :=
  let c0_i32_3534 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3533 : BitVec 32 := 1#32
  let v2746 : BitVec 32 := Scalar.muli v14 c1_i32_3533
  let v2747 : BitVec 32 := Scalar.addi c0_i32_3534 v2746
  v2747.toNat
def k0_dev73 (d0 : Dev nD) : Nat :=
  let c0_i32_3620 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3619 : BitVec 32 := 1#32
  let v2805 : BitVec 32 := Scalar.muli v25 c1_i32_3619
  let v2806 : BitVec 32 := Scalar.addi c0_i32_3620 v2805
  v2806.toNat
def k0_dev74 (d0 : Dev nD) : Nat :=
  let c0_i32_3634 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3633 : BitVec 32 := 1#32
  let v2816 : BitVec 32 := Scalar.muli v14 c1_i32_3633
  let v2817 : BitVec 32 := Scalar.addi c0_i32_3634 v2816
  v2817.toNat
def k0_dev75 (d0 : Dev nD) : Nat :=
  let c0_i32_3760 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3759 : BitVec 32 := 1#32
  let v2925 : BitVec 32 := Scalar.muli v25 c1_i32_3759
  let v2926 : BitVec 32 := Scalar.addi c0_i32_3760 v2925
  v2926.toNat
def k0_dev76 (d0 : Dev nD) : Nat :=
  let c0_i32_3774 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3773 : BitVec 32 := 1#32
  let v2936 : BitVec 32 := Scalar.muli v14 c1_i32_3773
  let v2937 : BitVec 32 := Scalar.addi c0_i32_3774 v2936
  v2937.toNat
def k0_dev77 (d0 : Dev nD) : Nat :=
  let c0_i32_3860 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3859 : BitVec 32 := 1#32
  let v2995 : BitVec 32 := Scalar.muli v25 c1_i32_3859
  let v2996 : BitVec 32 := Scalar.addi c0_i32_3860 v2995
  v2996.toNat
def k0_dev78 (d0 : Dev nD) : Nat :=
  let c0_i32_3874 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3873 : BitVec 32 := 1#32
  let v3006 : BitVec 32 := Scalar.muli v14 c1_i32_3873
  let v3007 : BitVec 32 := Scalar.addi c0_i32_3874 v3006
  v3007.toNat
def k0_dev79 (d0 : Dev nD) : Nat :=
  let c0_i32_3960 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3959 : BitVec 32 := 1#32
  let v3065 : BitVec 32 := Scalar.muli v25 c1_i32_3959
  let v3066 : BitVec 32 := Scalar.addi c0_i32_3960 v3065
  v3066.toNat
def k0_dev80 (d0 : Dev nD) : Nat :=
  let c0_i32_3974 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3973 : BitVec 32 := 1#32
  let v3076 : BitVec 32 := Scalar.muli v14 c1_i32_3973
  let v3077 : BitVec 32 := Scalar.addi c0_i32_3974 v3076
  v3077.toNat
def k0_dev81 (d0 : Dev nD) : Nat :=
  let c0_i32_4060 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_4059 : BitVec 32 := 1#32
  let v3135 : BitVec 32 := Scalar.muli v25 c1_i32_4059
  let v3136 : BitVec 32 := Scalar.addi c0_i32_4060 v3135
  v3136.toNat
def k0_dev82 (d0 : Dev nD) : Nat :=
  let c0_i32_4074 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_4073 : BitVec 32 := 1#32
  let v3146 : BitVec 32 := Scalar.muli v14 c1_i32_4073
  let v3147 : BitVec 32 := Scalar.addi c0_i32_4074 v3146
  v3147.toNat
def k0_dev83 (d0 : Dev nD) : Nat :=
  let c0_i32_4200 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_4199 : BitVec 32 := 1#32
  let v3255 : BitVec 32 := Scalar.muli v25 c1_i32_4199
  let v3256 : BitVec 32 := Scalar.addi c0_i32_4200 v3255
  v3256.toNat
def k0_dev84 (d0 : Dev nD) : Nat :=
  let c0_i32_4214 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_4213 : BitVec 32 := 1#32
  let v3266 : BitVec 32 := Scalar.muli v14 c1_i32_4213
  let v3267 : BitVec 32 := Scalar.addi c0_i32_4214 v3266
  v3267.toNat
def k0_dev85 (d0 : Dev nD) : Nat :=
  let c0_i32_4300 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_4299 : BitVec 32 := 1#32
  let v3325 : BitVec 32 := Scalar.muli v25 c1_i32_4299
  let v3326 : BitVec 32 := Scalar.addi c0_i32_4300 v3325
  v3326.toNat
def k0_dev86 (d0 : Dev nD) : Nat :=
  let c0_i32_4314 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_4313 : BitVec 32 := 1#32
  let v3336 : BitVec 32 := Scalar.muli v14 c1_i32_4313
  let v3337 : BitVec 32 := Scalar.addi c0_i32_4314 v3336
  v3337.toNat
def k0_dev87 (d0 : Dev nD) : Nat :=
  let c0_i32_4400 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_4399 : BitVec 32 := 1#32
  let v3395 : BitVec 32 := Scalar.muli v25 c1_i32_4399
  let v3396 : BitVec 32 := Scalar.addi c0_i32_4400 v3395
  v3396.toNat
def k0_dev88 (d0 : Dev nD) : Nat :=
  let c0_i32_4414 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_4413 : BitVec 32 := 1#32
  let v3406 : BitVec 32 := Scalar.muli v14 c1_i32_4413
  let v3407 : BitVec 32 := Scalar.addi c0_i32_4414 v3406
  v3407.toNat
def k0_dev89 (d0 : Dev nD) : Nat :=
  let c0_i32_4500 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_4499 : BitVec 32 := 1#32
  let v3465 : BitVec 32 := Scalar.muli v25 c1_i32_4499
  let v3466 : BitVec 32 := Scalar.addi c0_i32_4500 v3465
  v3466.toNat
def k0_dev90 (d0 : Dev nD) : Nat :=
  let c0_i32_4514 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_4513 : BitVec 32 := 1#32
  let v3476 : BitVec 32 := Scalar.muli v14 c1_i32_4513
  let v3477 : BitVec 32 := Scalar.addi c0_i32_4514 v3476
  v3477.toNat
def k0_dev91 (d0 : Dev nD) : Nat :=
  let c0_i32_4640 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_4639 : BitVec 32 := 1#32
  let v3585 : BitVec 32 := Scalar.muli v25 c1_i32_4639
  let v3586 : BitVec 32 := Scalar.addi c0_i32_4640 v3585
  v3586.toNat
def k0_dev92 (d0 : Dev nD) : Nat :=
  let c0_i32_4654 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_4653 : BitVec 32 := 1#32
  let v3596 : BitVec 32 := Scalar.muli v14 c1_i32_4653
  let v3597 : BitVec 32 := Scalar.addi c0_i32_4654 v3596
  v3597.toNat
def k0_dev93 (d0 : Dev nD) : Nat :=
  let c0_i32_4740 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_4739 : BitVec 32 := 1#32
  let v3655 : BitVec 32 := Scalar.muli v25 c1_i32_4739
  let v3656 : BitVec 32 := Scalar.addi c0_i32_4740 v3655
  v3656.toNat
def k0_dev94 (d0 : Dev nD) : Nat :=
  let c0_i32_4754 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_4753 : BitVec 32 := 1#32
  let v3666 : BitVec 32 := Scalar.muli v14 c1_i32_4753
  let v3667 : BitVec 32 := Scalar.addi c0_i32_4754 v3666
  v3667.toNat
def k0_dev95 (d0 : Dev nD) : Nat :=
  let c0_i32_4840 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_4839 : BitVec 32 := 1#32
  let v3725 : BitVec 32 := Scalar.muli v25 c1_i32_4839
  let v3726 : BitVec 32 := Scalar.addi c0_i32_4840 v3725
  v3726.toNat
def k0_dev96 (d0 : Dev nD) : Nat :=
  let c0_i32_4854 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_4853 : BitVec 32 := 1#32
  let v3736 : BitVec 32 := Scalar.muli v14 c1_i32_4853
  let v3737 : BitVec 32 := Scalar.addi c0_i32_4854 v3736
  v3737.toNat
def k0_dev97 (d0 : Dev nD) : Nat :=
  let c0_i32_4940 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_4939 : BitVec 32 := 1#32
  let v3795 : BitVec 32 := Scalar.muli v25 c1_i32_4939
  let v3796 : BitVec 32 := Scalar.addi c0_i32_4940 v3795
  v3796.toNat
def k0_dev98 (d0 : Dev nD) : Nat :=
  let c0_i32_4954 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_4953 : BitVec 32 := 1#32
  let v3806 : BitVec 32 := Scalar.muli v14 c1_i32_4953
  let v3807 : BitVec 32 := Scalar.addi c0_i32_4954 v3806
  v3807.toNat
def k0_dev99 (d0 : Dev nD) : Nat :=
  let c0_i32_5080 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_5079 : BitVec 32 := 1#32
  let v3915 : BitVec 32 := Scalar.muli v25 c1_i32_5079
  let v3916 : BitVec 32 := Scalar.addi c0_i32_5080 v3915
  v3916.toNat
def k0_dev100 (d0 : Dev nD) : Nat :=
  let c0_i32_5094 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_5093 : BitVec 32 := 1#32
  let v3926 : BitVec 32 := Scalar.muli v14 c1_i32_5093
  let v3927 : BitVec 32 := Scalar.addi c0_i32_5094 v3926
  v3927.toNat
def k0_dev101 (d0 : Dev nD) : Nat :=
  let c0_i32_5180 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_5179 : BitVec 32 := 1#32
  let v3985 : BitVec 32 := Scalar.muli v25 c1_i32_5179
  let v3986 : BitVec 32 := Scalar.addi c0_i32_5180 v3985
  v3986.toNat
def k0_dev102 (d0 : Dev nD) : Nat :=
  let c0_i32_5194 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_5193 : BitVec 32 := 1#32
  let v3996 : BitVec 32 := Scalar.muli v14 c1_i32_5193
  let v3997 : BitVec 32 := Scalar.addi c0_i32_5194 v3996
  v3997.toNat
def k0_dev103 (d0 : Dev nD) : Nat :=
  let c0_i32_5280 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_5279 : BitVec 32 := 1#32
  let v4055 : BitVec 32 := Scalar.muli v25 c1_i32_5279
  let v4056 : BitVec 32 := Scalar.addi c0_i32_5280 v4055
  v4056.toNat
def k0_dev104 (d0 : Dev nD) : Nat :=
  let c0_i32_5294 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_5293 : BitVec 32 := 1#32
  let v4066 : BitVec 32 := Scalar.muli v14 c1_i32_5293
  let v4067 : BitVec 32 := Scalar.addi c0_i32_5294 v4066
  v4067.toNat
def k0_dev105 (d0 : Dev nD) : Nat :=
  let c0_i32_5380 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_5379 : BitVec 32 := 1#32
  let v4125 : BitVec 32 := Scalar.muli v25 c1_i32_5379
  let v4126 : BitVec 32 := Scalar.addi c0_i32_5380 v4125
  v4126.toNat
def k0_dev106 (d0 : Dev nD) : Nat :=
  let c0_i32_5394 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_5393 : BitVec 32 := 1#32
  let v4136 : BitVec 32 := Scalar.muli v14 c1_i32_5393
  let v4137 : BitVec 32 := Scalar.addi c0_i32_5394 v4136
  v4137.toNat
def k0_dev107 (d0 : Dev nD) : Nat :=
  let c0_i32_5520 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_5519 : BitVec 32 := 1#32
  let v4245 : BitVec 32 := Scalar.muli v25 c1_i32_5519
  let v4246 : BitVec 32 := Scalar.addi c0_i32_5520 v4245
  v4246.toNat
def k0_dev108 (d0 : Dev nD) : Nat :=
  let c0_i32_5534 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_5533 : BitVec 32 := 1#32
  let v4256 : BitVec 32 := Scalar.muli v14 c1_i32_5533
  let v4257 : BitVec 32 := Scalar.addi c0_i32_5534 v4256
  v4257.toNat
def k0_dev109 (d0 : Dev nD) : Nat :=
  let c0_i32_5620 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_5619 : BitVec 32 := 1#32
  let v4315 : BitVec 32 := Scalar.muli v25 c1_i32_5619
  let v4316 : BitVec 32 := Scalar.addi c0_i32_5620 v4315
  v4316.toNat
def k0_dev110 (d0 : Dev nD) : Nat :=
  let c0_i32_5634 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_5633 : BitVec 32 := 1#32
  let v4326 : BitVec 32 := Scalar.muli v14 c1_i32_5633
  let v4327 : BitVec 32 := Scalar.addi c0_i32_5634 v4326
  v4327.toNat
def k0_dev111 (d0 : Dev nD) : Nat :=
  let c0_i32_5720 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_5719 : BitVec 32 := 1#32
  let v4385 : BitVec 32 := Scalar.muli v25 c1_i32_5719
  let v4386 : BitVec 32 := Scalar.addi c0_i32_5720 v4385
  v4386.toNat
def k0_dev112 (d0 : Dev nD) : Nat :=
  let c0_i32_5734 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_5733 : BitVec 32 := 1#32
  let v4396 : BitVec 32 := Scalar.muli v14 c1_i32_5733
  let v4397 : BitVec 32 := Scalar.addi c0_i32_5734 v4396
  v4397.toNat
def k0_dev113 (d0 : Dev nD) : Nat :=
  let c0_i32_5820 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_5819 : BitVec 32 := 1#32
  let v4455 : BitVec 32 := Scalar.muli v25 c1_i32_5819
  let v4456 : BitVec 32 := Scalar.addi c0_i32_5820 v4455
  v4456.toNat
def k0_dev114 (d0 : Dev nD) : Nat :=
  let c0_i32_5834 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_5833 : BitVec 32 := 1#32
  let v4466 : BitVec 32 := Scalar.muli v14 c1_i32_5833
  let v4467 : BitVec 32 := Scalar.addi c0_i32_5834 v4466
  v4467.toNat
def k0_dev115 (d0 : Dev nD) : Nat :=
  let c0_i32_5960 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_5959 : BitVec 32 := 1#32
  let v4575 : BitVec 32 := Scalar.muli v25 c1_i32_5959
  let v4576 : BitVec 32 := Scalar.addi c0_i32_5960 v4575
  v4576.toNat
def k0_dev116 (d0 : Dev nD) : Nat :=
  let c0_i32_5974 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_5973 : BitVec 32 := 1#32
  let v4586 : BitVec 32 := Scalar.muli v14 c1_i32_5973
  let v4587 : BitVec 32 := Scalar.addi c0_i32_5974 v4586
  v4587.toNat
def k0_dev117 (d0 : Dev nD) : Nat :=
  let c0_i32_6060 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_6059 : BitVec 32 := 1#32
  let v4645 : BitVec 32 := Scalar.muli v25 c1_i32_6059
  let v4646 : BitVec 32 := Scalar.addi c0_i32_6060 v4645
  v4646.toNat
def k0_dev118 (d0 : Dev nD) : Nat :=
  let c0_i32_6074 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_6073 : BitVec 32 := 1#32
  let v4656 : BitVec 32 := Scalar.muli v14 c1_i32_6073
  let v4657 : BitVec 32 := Scalar.addi c0_i32_6074 v4656
  v4657.toNat
def k0_dev119 (d0 : Dev nD) : Nat :=
  let c0_i32_6160 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_6159 : BitVec 32 := 1#32
  let v4715 : BitVec 32 := Scalar.muli v25 c1_i32_6159
  let v4716 : BitVec 32 := Scalar.addi c0_i32_6160 v4715
  v4716.toNat
def k0_dev120 (d0 : Dev nD) : Nat :=
  let c0_i32_6174 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_6173 : BitVec 32 := 1#32
  let v4726 : BitVec 32 := Scalar.muli v14 c1_i32_6173
  let v4727 : BitVec 32 := Scalar.addi c0_i32_6174 v4726
  v4727.toNat
def k0_dev121 (d0 : Dev nD) : Nat :=
  let c0_i32_6260 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_6259 : BitVec 32 := 1#32
  let v4785 : BitVec 32 := Scalar.muli v25 c1_i32_6259
  let v4786 : BitVec 32 := Scalar.addi c0_i32_6260 v4785
  v4786.toNat
def k0_dev122 (d0 : Dev nD) : Nat :=
  let c0_i32_6274 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_6273 : BitVec 32 := 1#32
  let v4796 : BitVec 32 := Scalar.muli v14 c1_i32_6273
  let v4797 : BitVec 32 := Scalar.addi c0_i32_6274 v4796
  v4797.toNat
def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_20 : BitVec 32 := 1#32
  let v31 : BitVec 32 := Scalar.addi v2 c1_i32_20
  let c16_i32_21 : BitVec 32 := 16#32
  let c0_i32_22 : BitVec 32 := 0#32
  let v32 : BitVec 1 := Scalar.cmpi .eq c16_i32_21 c0_i32_22
  let c1_i32_23 : BitVec 32 := 1#32
  let v33 : BitVec 32 := Scalar.select v32 c1_i32_23 c16_i32_21
  let v34 : BitVec 32 := Scalar.remsi v31 v33
  let c0_i32_25 : BitVec 32 := 0#32
  let v36 : BitVec 1 := Scalar.cmpi .slt v34 c0_i32_25
  let c0_i32_26 : BitVec 32 := 0#32
  let v37 : BitVec 1 := Scalar.cmpi .slt v33 c0_i32_26
  let v38 : BitVec 1 := Scalar.xori v36 v37
  let c0_i32_24 : BitVec 32 := 0#32
  let v35 : BitVec 1 := Scalar.cmpi .ne v34 c0_i32_24
  let v39 : BitVec 1 := Scalar.andi v38 v35
  let v40 : BitVec 32 := Scalar.addi v34 v33
  let v41 : BitVec 32 := Scalar.select v39 v40 v34
  let c128_i32 : BitVec 32 := 128#32
  let v42 : BitVec 32 := Scalar.muli v41 c128_i32
  let v5016 : Index := Scalar.indexCast v42
  let c0_6500 : Index := 0#32
  ![v5016.toNat, 0]
def k0_off6 (d0 : Dev nD) (c1_i32_20 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v31 : BitVec 32 := Scalar.addi v2 c1_i32_20
  let c16_i32_21 : BitVec 32 := 16#32
  let c0_i32_22 : BitVec 32 := 0#32
  let v32 : BitVec 1 := Scalar.cmpi .eq c16_i32_21 c0_i32_22
  let c1_i32_23 : BitVec 32 := 1#32
  let v33 : BitVec 32 := Scalar.select v32 c1_i32_23 c16_i32_21
  let v34 : BitVec 32 := Scalar.remsi v31 v33
  let c0_i32_25 : BitVec 32 := 0#32
  let v36 : BitVec 1 := Scalar.cmpi .slt v34 c0_i32_25
  let c0_i32_26 : BitVec 32 := 0#32
  let v37 : BitVec 1 := Scalar.cmpi .slt v33 c0_i32_26
  let v38 : BitVec 1 := Scalar.xori v36 v37
  let c0_i32_24 : BitVec 32 := 0#32
  let v35 : BitVec 1 := Scalar.cmpi .ne v34 c0_i32_24
  let v39 : BitVec 1 := Scalar.andi v38 v35
  let v40 : BitVec 32 := Scalar.addi v34 v33
  let v41 : BitVec 32 := Scalar.select v39 v40 v34
  let c128_i32 : BitVec 32 := 128#32
  let v42 : BitVec 32 := Scalar.muli v41 c128_i32
  let c0_i32_6507 : BitVec 32 := 0#32
  ![v42.toNat, 0]
def k0_dev123 (d0 : Dev nD) : Nat :=
  let c0_i32_6506 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_6505 : BitVec 32 := 1#32
  let v5018 : BitVec 32 := Scalar.muli v25 c1_i32_6505
  let v5019 : BitVec 32 := Scalar.addi c0_i32_6506 v5018
  v5019.toNat
def k0_off7 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_27 : BitVec 32 := 1#32
  let v43 : BitVec 32 := Scalar.subi v2 c1_i32_27
  let c16_i32_28 : BitVec 32 := 16#32
  let v44 : BitVec 32 := Scalar.addi v43 c16_i32_28
  let c16_i32_29 : BitVec 32 := 16#32
  let c0_i32_30 : BitVec 32 := 0#32
  let v45 : BitVec 1 := Scalar.cmpi .eq c16_i32_29 c0_i32_30
  let c1_i32_31 : BitVec 32 := 1#32
  let v46 : BitVec 32 := Scalar.select v45 c1_i32_31 c16_i32_29
  let v47 : BitVec 32 := Scalar.remsi v44 v46
  let c0_i32_33 : BitVec 32 := 0#32
  let v49 : BitVec 1 := Scalar.cmpi .slt v47 c0_i32_33
  let c0_i32_34 : BitVec 32 := 0#32
  let v50 : BitVec 1 := Scalar.cmpi .slt v46 c0_i32_34
  let v51 : BitVec 1 := Scalar.xori v49 v50
  let c0_i32_32 : BitVec 32 := 0#32
  let v48 : BitVec 1 := Scalar.cmpi .ne v47 c0_i32_32
  let v52 : BitVec 1 := Scalar.andi v51 v48
  let v53 : BitVec 32 := Scalar.addi v47 v46
  let v54 : BitVec 32 := Scalar.select v52 v53 v47
  let c128_i32_35 : BitVec 32 := 128#32
  let v55 : BitVec 32 := Scalar.muli v54 c128_i32_35
  let c64_i32 : BitVec 32 := 64#32
  let v56 : BitVec 32 := Scalar.addi v55 c64_i32
  let v5030 : Index := Scalar.indexCast v56
  let c0_6509 : Index := 0#32
  ![v5030.toNat, 0]
def k0_off8 (d0 : Dev nD) (c1_i32_27 : BitVec 32) (c16_i32_28 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v43 : BitVec 32 := Scalar.subi v2 c1_i32_27
  let v44 : BitVec 32 := Scalar.addi v43 c16_i32_28
  let c16_i32_29 : BitVec 32 := 16#32
  let c0_i32_30 : BitVec 32 := 0#32
  let v45 : BitVec 1 := Scalar.cmpi .eq c16_i32_29 c0_i32_30
  let c1_i32_31 : BitVec 32 := 1#32
  let v46 : BitVec 32 := Scalar.select v45 c1_i32_31 c16_i32_29
  let v47 : BitVec 32 := Scalar.remsi v44 v46
  let c0_i32_33 : BitVec 32 := 0#32
  let v49 : BitVec 1 := Scalar.cmpi .slt v47 c0_i32_33
  let c0_i32_34 : BitVec 32 := 0#32
  let v50 : BitVec 1 := Scalar.cmpi .slt v46 c0_i32_34
  let v51 : BitVec 1 := Scalar.xori v49 v50
  let c0_i32_32 : BitVec 32 := 0#32
  let v48 : BitVec 1 := Scalar.cmpi .ne v47 c0_i32_32
  let v52 : BitVec 1 := Scalar.andi v51 v48
  let v53 : BitVec 32 := Scalar.addi v47 v46
  let v54 : BitVec 32 := Scalar.select v52 v53 v47
  let c128_i32_35 : BitVec 32 := 128#32
  let v55 : BitVec 32 := Scalar.muli v54 c128_i32_35
  let c64_i32 : BitVec 32 := 64#32
  let v56 : BitVec 32 := Scalar.addi v55 c64_i32
  let c0_i32_6516 : BitVec 32 := 0#32
  ![v56.toNat, 0]
def k0_off8_at (r : Fin 16) : BitVec 32 × BitVec 32 :=
  if r.val < 8 then
    if r.val < 4 then
      if r.val < 2 then
        if r.val < 1 then
          (1#32, 16#32)
        else
          (1#32, 1#32)
      else
        if r.val < 3 then
          (1#32, 2#32)
        else
          (1#32, 3#32)
    else
      if r.val < 6 then
        if r.val < 5 then
          (1#32, 4#32)
        else
          (1#32, 5#32)
      else
        if r.val < 7 then
          (1#32, 6#32)
        else
          (1#32, 7#32)
  else
    if r.val < 12 then
      if r.val < 10 then
        if r.val < 9 then
          (1#32, 8#32)
        else
          (1#32, 9#32)
      else
        if r.val < 11 then
          (1#32, 10#32)
        else
          (1#32, 11#32)
    else
      if r.val < 14 then
        if r.val < 13 then
          (1#32, 12#32)
        else
          (1#32, 13#32)
      else
        if r.val < 15 then
          (1#32, 14#32)
        else
          (2#32, 16#32)
def k0_dev124 (d0 : Dev nD) : Nat :=
  let c0_i32_6515 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_6514 : BitVec 32 := 1#32
  let v5032 : BitVec 32 := Scalar.muli v14 c1_i32_6514
  let v5033 : BitVec 32 := Scalar.addi c0_i32_6515 v5032
  v5033.toNat
def k0_off9 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_20 : BitVec 32 := 1#32
  let v31 : BitVec 32 := Scalar.addi v2 c1_i32_20
  let c16_i32_21 : BitVec 32 := 16#32
  let c0_i32_22 : BitVec 32 := 0#32
  let v32 : BitVec 1 := Scalar.cmpi .eq c16_i32_21 c0_i32_22
  let c1_i32_23 : BitVec 32 := 1#32
  let v33 : BitVec 32 := Scalar.select v32 c1_i32_23 c16_i32_21
  let v34 : BitVec 32 := Scalar.remsi v31 v33
  let c0_i32_25 : BitVec 32 := 0#32
  let v36 : BitVec 1 := Scalar.cmpi .slt v34 c0_i32_25
  let c0_i32_26 : BitVec 32 := 0#32
  let v37 : BitVec 1 := Scalar.cmpi .slt v33 c0_i32_26
  let v38 : BitVec 1 := Scalar.xori v36 v37
  let c0_i32_24 : BitVec 32 := 0#32
  let v35 : BitVec 1 := Scalar.cmpi .ne v34 c0_i32_24
  let v39 : BitVec 1 := Scalar.andi v38 v35
  let v40 : BitVec 32 := Scalar.addi v34 v33
  let v41 : BitVec 32 := Scalar.select v39 v40 v34
  let c128_i32 : BitVec 32 := 128#32
  let v42 : BitVec 32 := Scalar.muli v41 c128_i32
  let v5047 : Index := Scalar.indexCast v42
  let c512_6519 : Index := 512#32
  ![v5047.toNat, 512]
def k0_off10 (d0 : Dev nD) (c1_i32_20 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v31 : BitVec 32 := Scalar.addi v2 c1_i32_20
  let c16_i32_21 : BitVec 32 := 16#32
  let c0_i32_22 : BitVec 32 := 0#32
  let v32 : BitVec 1 := Scalar.cmpi .eq c16_i32_21 c0_i32_22
  let c1_i32_23 : BitVec 32 := 1#32
  let v33 : BitVec 32 := Scalar.select v32 c1_i32_23 c16_i32_21
  let v34 : BitVec 32 := Scalar.remsi v31 v33
  let c0_i32_25 : BitVec 32 := 0#32
  let v36 : BitVec 1 := Scalar.cmpi .slt v34 c0_i32_25
  let c0_i32_26 : BitVec 32 := 0#32
  let v37 : BitVec 1 := Scalar.cmpi .slt v33 c0_i32_26
  let v38 : BitVec 1 := Scalar.xori v36 v37
  let c0_i32_24 : BitVec 32 := 0#32
  let v35 : BitVec 1 := Scalar.cmpi .ne v34 c0_i32_24
  let v39 : BitVec 1 := Scalar.andi v38 v35
  let v40 : BitVec 32 := Scalar.addi v34 v33
  let v41 : BitVec 32 := Scalar.select v39 v40 v34
  let c128_i32 : BitVec 32 := 128#32
  let v42 : BitVec 32 := Scalar.muli v41 c128_i32
  let c512_i32_6526 : BitVec 32 := 512#32
  ![v42.toNat, 512]
def k0_dev125 (d0 : Dev nD) : Nat :=
  let c0_i32_6525 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_6524 : BitVec 32 := 1#32
  let v5049 : BitVec 32 := Scalar.muli v25 c1_i32_6524
  let v5050 : BitVec 32 := Scalar.addi c0_i32_6525 v5049
  v5050.toNat
def k0_off11 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_27 : BitVec 32 := 1#32
  let v43 : BitVec 32 := Scalar.subi v2 c1_i32_27
  let c16_i32_28 : BitVec 32 := 16#32
  let v44 : BitVec 32 := Scalar.addi v43 c16_i32_28
  let c16_i32_29 : BitVec 32 := 16#32
  let c0_i32_30 : BitVec 32 := 0#32
  let v45 : BitVec 1 := Scalar.cmpi .eq c16_i32_29 c0_i32_30
  let c1_i32_31 : BitVec 32 := 1#32
  let v46 : BitVec 32 := Scalar.select v45 c1_i32_31 c16_i32_29
  let v47 : BitVec 32 := Scalar.remsi v44 v46
  let c0_i32_33 : BitVec 32 := 0#32
  let v49 : BitVec 1 := Scalar.cmpi .slt v47 c0_i32_33
  let c0_i32_34 : BitVec 32 := 0#32
  let v50 : BitVec 1 := Scalar.cmpi .slt v46 c0_i32_34
  let v51 : BitVec 1 := Scalar.xori v49 v50
  let c0_i32_32 : BitVec 32 := 0#32
  let v48 : BitVec 1 := Scalar.cmpi .ne v47 c0_i32_32
  let v52 : BitVec 1 := Scalar.andi v51 v48
  let v53 : BitVec 32 := Scalar.addi v47 v46
  let v54 : BitVec 32 := Scalar.select v52 v53 v47
  let c128_i32_35 : BitVec 32 := 128#32
  let v55 : BitVec 32 := Scalar.muli v54 c128_i32_35
  let c64_i32 : BitVec 32 := 64#32
  let v56 : BitVec 32 := Scalar.addi v55 c64_i32
  let v5061 : Index := Scalar.indexCast v56
  let c512_6528 : Index := 512#32
  ![v5061.toNat, 512]
def k0_off12 (d0 : Dev nD) (c1_i32_27 : BitVec 32) (c16_i32_28 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v43 : BitVec 32 := Scalar.subi v2 c1_i32_27
  let v44 : BitVec 32 := Scalar.addi v43 c16_i32_28
  let c16_i32_29 : BitVec 32 := 16#32
  let c0_i32_30 : BitVec 32 := 0#32
  let v45 : BitVec 1 := Scalar.cmpi .eq c16_i32_29 c0_i32_30
  let c1_i32_31 : BitVec 32 := 1#32
  let v46 : BitVec 32 := Scalar.select v45 c1_i32_31 c16_i32_29
  let v47 : BitVec 32 := Scalar.remsi v44 v46
  let c0_i32_33 : BitVec 32 := 0#32
  let v49 : BitVec 1 := Scalar.cmpi .slt v47 c0_i32_33
  let c0_i32_34 : BitVec 32 := 0#32
  let v50 : BitVec 1 := Scalar.cmpi .slt v46 c0_i32_34
  let v51 : BitVec 1 := Scalar.xori v49 v50
  let c0_i32_32 : BitVec 32 := 0#32
  let v48 : BitVec 1 := Scalar.cmpi .ne v47 c0_i32_32
  let v52 : BitVec 1 := Scalar.andi v51 v48
  let v53 : BitVec 32 := Scalar.addi v47 v46
  let v54 : BitVec 32 := Scalar.select v52 v53 v47
  let c128_i32_35 : BitVec 32 := 128#32
  let v55 : BitVec 32 := Scalar.muli v54 c128_i32_35
  let c64_i32 : BitVec 32 := 64#32
  let v56 : BitVec 32 := Scalar.addi v55 c64_i32
  let c512_i32_6535 : BitVec 32 := 512#32
  ![v56.toNat, 512]
def k0_off12_at (r : Fin 16) : BitVec 32 × BitVec 32 :=
  if r.val < 8 then
    if r.val < 4 then
      if r.val < 2 then
        if r.val < 1 then
          (1#32, 16#32)
        else
          (1#32, 1#32)
      else
        if r.val < 3 then
          (1#32, 2#32)
        else
          (1#32, 3#32)
    else
      if r.val < 6 then
        if r.val < 5 then
          (1#32, 4#32)
        else
          (1#32, 5#32)
      else
        if r.val < 7 then
          (1#32, 6#32)
        else
          (1#32, 7#32)
  else
    if r.val < 12 then
      if r.val < 10 then
        if r.val < 9 then
          (1#32, 8#32)
        else
          (1#32, 9#32)
      else
        if r.val < 11 then
          (1#32, 10#32)
        else
          (1#32, 11#32)
    else
      if r.val < 14 then
        if r.val < 13 then
          (1#32, 12#32)
        else
          (1#32, 13#32)
      else
        if r.val < 15 then
          (1#32, 14#32)
        else
          (2#32, 16#32)
def k0_dev126 (d0 : Dev nD) : Nat :=
  let c0_i32_6534 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_6533 : BitVec 32 := 1#32
  let v5063 : BitVec 32 := Scalar.muli v14 c1_i32_6533
  let v5064 : BitVec 32 := Scalar.addi c0_i32_6534 v5063
  v5064.toNat
def k0_off13 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_20 : BitVec 32 := 1#32
  let v31 : BitVec 32 := Scalar.addi v2 c1_i32_20
  let c16_i32_21 : BitVec 32 := 16#32
  let c0_i32_22 : BitVec 32 := 0#32
  let v32 : BitVec 1 := Scalar.cmpi .eq c16_i32_21 c0_i32_22
  let c1_i32_23 : BitVec 32 := 1#32
  let v33 : BitVec 32 := Scalar.select v32 c1_i32_23 c16_i32_21
  let v34 : BitVec 32 := Scalar.remsi v31 v33
  let c0_i32_25 : BitVec 32 := 0#32
  let v36 : BitVec 1 := Scalar.cmpi .slt v34 c0_i32_25
  let c0_i32_26 : BitVec 32 := 0#32
  let v37 : BitVec 1 := Scalar.cmpi .slt v33 c0_i32_26
  let v38 : BitVec 1 := Scalar.xori v36 v37
  let c0_i32_24 : BitVec 32 := 0#32
  let v35 : BitVec 1 := Scalar.cmpi .ne v34 c0_i32_24
  let v39 : BitVec 1 := Scalar.andi v38 v35
  let v40 : BitVec 32 := Scalar.addi v34 v33
  let v41 : BitVec 32 := Scalar.select v39 v40 v34
  let c128_i32 : BitVec 32 := 128#32
  let v42 : BitVec 32 := Scalar.muli v41 c128_i32
  let v5078 : Index := Scalar.indexCast v42
  let c1024_6538 : Index := 1024#32
  ![v5078.toNat, 1024]
def k0_off14 (d0 : Dev nD) (c1_i32_20 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v31 : BitVec 32 := Scalar.addi v2 c1_i32_20
  let c16_i32_21 : BitVec 32 := 16#32
  let c0_i32_22 : BitVec 32 := 0#32
  let v32 : BitVec 1 := Scalar.cmpi .eq c16_i32_21 c0_i32_22
  let c1_i32_23 : BitVec 32 := 1#32
  let v33 : BitVec 32 := Scalar.select v32 c1_i32_23 c16_i32_21
  let v34 : BitVec 32 := Scalar.remsi v31 v33
  let c0_i32_25 : BitVec 32 := 0#32
  let v36 : BitVec 1 := Scalar.cmpi .slt v34 c0_i32_25
  let c0_i32_26 : BitVec 32 := 0#32
  let v37 : BitVec 1 := Scalar.cmpi .slt v33 c0_i32_26
  let v38 : BitVec 1 := Scalar.xori v36 v37
  let c0_i32_24 : BitVec 32 := 0#32
  let v35 : BitVec 1 := Scalar.cmpi .ne v34 c0_i32_24
  let v39 : BitVec 1 := Scalar.andi v38 v35
  let v40 : BitVec 32 := Scalar.addi v34 v33
  let v41 : BitVec 32 := Scalar.select v39 v40 v34
  let c128_i32 : BitVec 32 := 128#32
  let v42 : BitVec 32 := Scalar.muli v41 c128_i32
  let c1024_i32_6545 : BitVec 32 := 1024#32
  ![v42.toNat, 1024]
def k0_dev127 (d0 : Dev nD) : Nat :=
  let c0_i32_6544 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_6543 : BitVec 32 := 1#32
  let v5080 : BitVec 32 := Scalar.muli v25 c1_i32_6543
  let v5081 : BitVec 32 := Scalar.addi c0_i32_6544 v5080
  v5081.toNat
def k0_off15 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_27 : BitVec 32 := 1#32
  let v43 : BitVec 32 := Scalar.subi v2 c1_i32_27
  let c16_i32_28 : BitVec 32 := 16#32
  let v44 : BitVec 32 := Scalar.addi v43 c16_i32_28
  let c16_i32_29 : BitVec 32 := 16#32
  let c0_i32_30 : BitVec 32 := 0#32
  let v45 : BitVec 1 := Scalar.cmpi .eq c16_i32_29 c0_i32_30
  let c1_i32_31 : BitVec 32 := 1#32
  let v46 : BitVec 32 := Scalar.select v45 c1_i32_31 c16_i32_29
  let v47 : BitVec 32 := Scalar.remsi v44 v46
  let c0_i32_33 : BitVec 32 := 0#32
  let v49 : BitVec 1 := Scalar.cmpi .slt v47 c0_i32_33
  let c0_i32_34 : BitVec 32 := 0#32
  let v50 : BitVec 1 := Scalar.cmpi .slt v46 c0_i32_34
  let v51 : BitVec 1 := Scalar.xori v49 v50
  let c0_i32_32 : BitVec 32 := 0#32
  let v48 : BitVec 1 := Scalar.cmpi .ne v47 c0_i32_32
  let v52 : BitVec 1 := Scalar.andi v51 v48
  let v53 : BitVec 32 := Scalar.addi v47 v46
  let v54 : BitVec 32 := Scalar.select v52 v53 v47
  let c128_i32_35 : BitVec 32 := 128#32
  let v55 : BitVec 32 := Scalar.muli v54 c128_i32_35
  let c64_i32 : BitVec 32 := 64#32
  let v56 : BitVec 32 := Scalar.addi v55 c64_i32
  let v5092 : Index := Scalar.indexCast v56
  let c1024_6547 : Index := 1024#32
  ![v5092.toNat, 1024]
def k0_off16 (d0 : Dev nD) (c1_i32_27 : BitVec 32) (c16_i32_28 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v43 : BitVec 32 := Scalar.subi v2 c1_i32_27
  let v44 : BitVec 32 := Scalar.addi v43 c16_i32_28
  let c16_i32_29 : BitVec 32 := 16#32
  let c0_i32_30 : BitVec 32 := 0#32
  let v45 : BitVec 1 := Scalar.cmpi .eq c16_i32_29 c0_i32_30
  let c1_i32_31 : BitVec 32 := 1#32
  let v46 : BitVec 32 := Scalar.select v45 c1_i32_31 c16_i32_29
  let v47 : BitVec 32 := Scalar.remsi v44 v46
  let c0_i32_33 : BitVec 32 := 0#32
  let v49 : BitVec 1 := Scalar.cmpi .slt v47 c0_i32_33
  let c0_i32_34 : BitVec 32 := 0#32
  let v50 : BitVec 1 := Scalar.cmpi .slt v46 c0_i32_34
  let v51 : BitVec 1 := Scalar.xori v49 v50
  let c0_i32_32 : BitVec 32 := 0#32
  let v48 : BitVec 1 := Scalar.cmpi .ne v47 c0_i32_32
  let v52 : BitVec 1 := Scalar.andi v51 v48
  let v53 : BitVec 32 := Scalar.addi v47 v46
  let v54 : BitVec 32 := Scalar.select v52 v53 v47
  let c128_i32_35 : BitVec 32 := 128#32
  let v55 : BitVec 32 := Scalar.muli v54 c128_i32_35
  let c64_i32 : BitVec 32 := 64#32
  let v56 : BitVec 32 := Scalar.addi v55 c64_i32
  let c1024_i32_6554 : BitVec 32 := 1024#32
  ![v56.toNat, 1024]
def k0_off16_at (r : Fin 16) : BitVec 32 × BitVec 32 :=
  if r.val < 8 then
    if r.val < 4 then
      if r.val < 2 then
        if r.val < 1 then
          (1#32, 16#32)
        else
          (1#32, 1#32)
      else
        if r.val < 3 then
          (1#32, 2#32)
        else
          (1#32, 3#32)
    else
      if r.val < 6 then
        if r.val < 5 then
          (1#32, 4#32)
        else
          (1#32, 5#32)
      else
        if r.val < 7 then
          (1#32, 6#32)
        else
          (1#32, 7#32)
  else
    if r.val < 12 then
      if r.val < 10 then
        if r.val < 9 then
          (1#32, 8#32)
        else
          (1#32, 9#32)
      else
        if r.val < 11 then
          (1#32, 10#32)
        else
          (1#32, 11#32)
    else
      if r.val < 14 then
        if r.val < 13 then
          (1#32, 12#32)
        else
          (1#32, 13#32)
      else
        if r.val < 15 then
          (1#32, 14#32)
        else
          (2#32, 16#32)
def k0_dev128 (d0 : Dev nD) : Nat :=
  let c0_i32_6553 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_6552 : BitVec 32 := 1#32
  let v5094 : BitVec 32 := Scalar.muli v14 c1_i32_6552
  let v5095 : BitVec 32 := Scalar.addi c0_i32_6553 v5094
  v5095.toNat
def k0_off17 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_20 : BitVec 32 := 1#32
  let v31 : BitVec 32 := Scalar.addi v2 c1_i32_20
  let c16_i32_21 : BitVec 32 := 16#32
  let c0_i32_22 : BitVec 32 := 0#32
  let v32 : BitVec 1 := Scalar.cmpi .eq c16_i32_21 c0_i32_22
  let c1_i32_23 : BitVec 32 := 1#32
  let v33 : BitVec 32 := Scalar.select v32 c1_i32_23 c16_i32_21
  let v34 : BitVec 32 := Scalar.remsi v31 v33
  let c0_i32_25 : BitVec 32 := 0#32
  let v36 : BitVec 1 := Scalar.cmpi .slt v34 c0_i32_25
  let c0_i32_26 : BitVec 32 := 0#32
  let v37 : BitVec 1 := Scalar.cmpi .slt v33 c0_i32_26
  let v38 : BitVec 1 := Scalar.xori v36 v37
  let c0_i32_24 : BitVec 32 := 0#32
  let v35 : BitVec 1 := Scalar.cmpi .ne v34 c0_i32_24
  let v39 : BitVec 1 := Scalar.andi v38 v35
  let v40 : BitVec 32 := Scalar.addi v34 v33
  let v41 : BitVec 32 := Scalar.select v39 v40 v34
  let c128_i32 : BitVec 32 := 128#32
  let v42 : BitVec 32 := Scalar.muli v41 c128_i32
  let v5109 : Index := Scalar.indexCast v42
  let c1536_6557 : Index := 1536#32
  ![v5109.toNat, 1536]
def k0_off18 (d0 : Dev nD) (c1_i32_20 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v31 : BitVec 32 := Scalar.addi v2 c1_i32_20
  let c16_i32_21 : BitVec 32 := 16#32
  let c0_i32_22 : BitVec 32 := 0#32
  let v32 : BitVec 1 := Scalar.cmpi .eq c16_i32_21 c0_i32_22
  let c1_i32_23 : BitVec 32 := 1#32
  let v33 : BitVec 32 := Scalar.select v32 c1_i32_23 c16_i32_21
  let v34 : BitVec 32 := Scalar.remsi v31 v33
  let c0_i32_25 : BitVec 32 := 0#32
  let v36 : BitVec 1 := Scalar.cmpi .slt v34 c0_i32_25
  let c0_i32_26 : BitVec 32 := 0#32
  let v37 : BitVec 1 := Scalar.cmpi .slt v33 c0_i32_26
  let v38 : BitVec 1 := Scalar.xori v36 v37
  let c0_i32_24 : BitVec 32 := 0#32
  let v35 : BitVec 1 := Scalar.cmpi .ne v34 c0_i32_24
  let v39 : BitVec 1 := Scalar.andi v38 v35
  let v40 : BitVec 32 := Scalar.addi v34 v33
  let v41 : BitVec 32 := Scalar.select v39 v40 v34
  let c128_i32 : BitVec 32 := 128#32
  let v42 : BitVec 32 := Scalar.muli v41 c128_i32
  let c1536_i32_6564 : BitVec 32 := 1536#32
  ![v42.toNat, 1536]
def k0_dev129 (d0 : Dev nD) : Nat :=
  let c0_i32_6563 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_6562 : BitVec 32 := 1#32
  let v5111 : BitVec 32 := Scalar.muli v25 c1_i32_6562
  let v5112 : BitVec 32 := Scalar.addi c0_i32_6563 v5111
  v5112.toNat
def k0_off19 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_27 : BitVec 32 := 1#32
  let v43 : BitVec 32 := Scalar.subi v2 c1_i32_27
  let c16_i32_28 : BitVec 32 := 16#32
  let v44 : BitVec 32 := Scalar.addi v43 c16_i32_28
  let c16_i32_29 : BitVec 32 := 16#32
  let c0_i32_30 : BitVec 32 := 0#32
  let v45 : BitVec 1 := Scalar.cmpi .eq c16_i32_29 c0_i32_30
  let c1_i32_31 : BitVec 32 := 1#32
  let v46 : BitVec 32 := Scalar.select v45 c1_i32_31 c16_i32_29
  let v47 : BitVec 32 := Scalar.remsi v44 v46
  let c0_i32_33 : BitVec 32 := 0#32
  let v49 : BitVec 1 := Scalar.cmpi .slt v47 c0_i32_33
  let c0_i32_34 : BitVec 32 := 0#32
  let v50 : BitVec 1 := Scalar.cmpi .slt v46 c0_i32_34
  let v51 : BitVec 1 := Scalar.xori v49 v50
  let c0_i32_32 : BitVec 32 := 0#32
  let v48 : BitVec 1 := Scalar.cmpi .ne v47 c0_i32_32
  let v52 : BitVec 1 := Scalar.andi v51 v48
  let v53 : BitVec 32 := Scalar.addi v47 v46
  let v54 : BitVec 32 := Scalar.select v52 v53 v47
  let c128_i32_35 : BitVec 32 := 128#32
  let v55 : BitVec 32 := Scalar.muli v54 c128_i32_35
  let c64_i32 : BitVec 32 := 64#32
  let v56 : BitVec 32 := Scalar.addi v55 c64_i32
  let v5123 : Index := Scalar.indexCast v56
  let c1536_6566 : Index := 1536#32
  ![v5123.toNat, 1536]
def k0_off20 (d0 : Dev nD) (c1_i32_27 : BitVec 32) (c16_i32_28 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v43 : BitVec 32 := Scalar.subi v2 c1_i32_27
  let v44 : BitVec 32 := Scalar.addi v43 c16_i32_28
  let c16_i32_29 : BitVec 32 := 16#32
  let c0_i32_30 : BitVec 32 := 0#32
  let v45 : BitVec 1 := Scalar.cmpi .eq c16_i32_29 c0_i32_30
  let c1_i32_31 : BitVec 32 := 1#32
  let v46 : BitVec 32 := Scalar.select v45 c1_i32_31 c16_i32_29
  let v47 : BitVec 32 := Scalar.remsi v44 v46
  let c0_i32_33 : BitVec 32 := 0#32
  let v49 : BitVec 1 := Scalar.cmpi .slt v47 c0_i32_33
  let c0_i32_34 : BitVec 32 := 0#32
  let v50 : BitVec 1 := Scalar.cmpi .slt v46 c0_i32_34
  let v51 : BitVec 1 := Scalar.xori v49 v50
  let c0_i32_32 : BitVec 32 := 0#32
  let v48 : BitVec 1 := Scalar.cmpi .ne v47 c0_i32_32
  let v52 : BitVec 1 := Scalar.andi v51 v48
  let v53 : BitVec 32 := Scalar.addi v47 v46
  let v54 : BitVec 32 := Scalar.select v52 v53 v47
  let c128_i32_35 : BitVec 32 := 128#32
  let v55 : BitVec 32 := Scalar.muli v54 c128_i32_35
  let c64_i32 : BitVec 32 := 64#32
  let v56 : BitVec 32 := Scalar.addi v55 c64_i32
  let c1536_i32_6573 : BitVec 32 := 1536#32
  ![v56.toNat, 1536]
def k0_off20_at (r : Fin 16) : BitVec 32 × BitVec 32 :=
  if r.val < 8 then
    if r.val < 4 then
      if r.val < 2 then
        if r.val < 1 then
          (1#32, 16#32)
        else
          (1#32, 1#32)
      else
        if r.val < 3 then
          (1#32, 2#32)
        else
          (1#32, 3#32)
    else
      if r.val < 6 then
        if r.val < 5 then
          (1#32, 4#32)
        else
          (1#32, 5#32)
      else
        if r.val < 7 then
          (1#32, 6#32)
        else
          (1#32, 7#32)
  else
    if r.val < 12 then
      if r.val < 10 then
        if r.val < 9 then
          (1#32, 8#32)
        else
          (1#32, 9#32)
      else
        if r.val < 11 then
          (1#32, 10#32)
        else
          (1#32, 11#32)
    else
      if r.val < 14 then
        if r.val < 13 then
          (1#32, 12#32)
        else
          (1#32, 13#32)
      else
        if r.val < 15 then
          (1#32, 14#32)
        else
          (2#32, 16#32)
def k0_dev130 (d0 : Dev nD) : Nat :=
  let c0_i32_6572 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_6571 : BitVec 32 := 1#32
  let v5125 : BitVec 32 := Scalar.muli v14 c1_i32_6571
  let v5126 : BitVec 32 := Scalar.addi c0_i32_6572 v5125
  v5126.toNat
def k0_off21 (d0 : Dev nD) (c1_i32_6784 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6783 : BitVec 32 := 1#32
  let v5245 : BitVec 32 := Scalar.addi v2 c1_i32_6783
  let v5246 : BitVec 32 := Scalar.subi v5245 c1_i32_6784
  let c16_i32_6785 : BitVec 32 := 16#32
  let v5247 : BitVec 32 := Scalar.addi v5246 c16_i32_6785
  let c16_i32_6786 : BitVec 32 := 16#32
  let c0_i32_6787 : BitVec 32 := 0#32
  let v5248 : BitVec 1 := Scalar.cmpi .eq c16_i32_6786 c0_i32_6787
  let c1_i32_6788 : BitVec 32 := 1#32
  let v5249 : BitVec 32 := Scalar.select v5248 c1_i32_6788 c16_i32_6786
  let v5250 : BitVec 32 := Scalar.remsi v5247 v5249
  let c0_i32_6790 : BitVec 32 := 0#32
  let v5252 : BitVec 1 := Scalar.cmpi .slt v5250 c0_i32_6790
  let c0_i32_6791 : BitVec 32 := 0#32
  let v5253 : BitVec 1 := Scalar.cmpi .slt v5249 c0_i32_6791
  let v5254 : BitVec 1 := Scalar.xori v5252 v5253
  let c0_i32_6789 : BitVec 32 := 0#32
  let v5251 : BitVec 1 := Scalar.cmpi .ne v5250 c0_i32_6789
  let v5255 : BitVec 1 := Scalar.andi v5254 v5251
  let v5256 : BitVec 32 := Scalar.addi v5250 v5249
  let v5257 : BitVec 32 := Scalar.select v5255 v5256 v5250
  let c128_i32_6792 : BitVec 32 := 128#32
  let v5258 : BitVec 32 := Scalar.muli v5257 c128_i32_6792
  let c0_i32_6809 : BitVec 32 := 0#32
  ![v5258.toNat, 0]
def k0_dev131 (d0 : Dev nD) : Nat :=
  let c0_i32_6824 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_6823 : BitVec 32 := 1#32
  let v5285 : BitVec 32 := Scalar.muli v25 c1_i32_6823
  let v5286 : BitVec 32 := Scalar.addi c0_i32_6824 v5285
  v5286.toNat
def k0_dev132 (d0 : Dev nD) : Nat :=
  let c0_i32_6832 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_6831 : BitVec 32 := 1#32
  let v5293 : BitVec 32 := Scalar.muli v14 c1_i32_6831
  let v5294 : BitVec 32 := Scalar.addi c0_i32_6832 v5293
  v5294.toNat
def k0_off22 (d0 : Dev nD) (c1_i32_6784 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6783 : BitVec 32 := 1#32
  let v5245 : BitVec 32 := Scalar.addi v2 c1_i32_6783
  let v5246 : BitVec 32 := Scalar.subi v5245 c1_i32_6784
  let c16_i32_6785 : BitVec 32 := 16#32
  let v5247 : BitVec 32 := Scalar.addi v5246 c16_i32_6785
  let c16_i32_6786 : BitVec 32 := 16#32
  let c0_i32_6787 : BitVec 32 := 0#32
  let v5248 : BitVec 1 := Scalar.cmpi .eq c16_i32_6786 c0_i32_6787
  let c1_i32_6788 : BitVec 32 := 1#32
  let v5249 : BitVec 32 := Scalar.select v5248 c1_i32_6788 c16_i32_6786
  let v5250 : BitVec 32 := Scalar.remsi v5247 v5249
  let c0_i32_6790 : BitVec 32 := 0#32
  let v5252 : BitVec 1 := Scalar.cmpi .slt v5250 c0_i32_6790
  let c0_i32_6791 : BitVec 32 := 0#32
  let v5253 : BitVec 1 := Scalar.cmpi .slt v5249 c0_i32_6791
  let v5254 : BitVec 1 := Scalar.xori v5252 v5253
  let c0_i32_6789 : BitVec 32 := 0#32
  let v5251 : BitVec 1 := Scalar.cmpi .ne v5250 c0_i32_6789
  let v5255 : BitVec 1 := Scalar.andi v5254 v5251
  let v5256 : BitVec 32 := Scalar.addi v5250 v5249
  let v5257 : BitVec 32 := Scalar.select v5255 v5256 v5250
  let c128_i32_6792 : BitVec 32 := 128#32
  let v5258 : BitVec 32 := Scalar.muli v5257 c128_i32_6792
  let c512_i32_6841 : BitVec 32 := 512#32
  ![v5258.toNat, 512]
def k0_dev133 (d0 : Dev nD) : Nat :=
  let c0_i32_6856 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_6855 : BitVec 32 := 1#32
  let v5313 : BitVec 32 := Scalar.muli v25 c1_i32_6855
  let v5314 : BitVec 32 := Scalar.addi c0_i32_6856 v5313
  v5314.toNat
def k0_dev134 (d0 : Dev nD) : Nat :=
  let c0_i32_6864 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_6863 : BitVec 32 := 1#32
  let v5321 : BitVec 32 := Scalar.muli v14 c1_i32_6863
  let v5322 : BitVec 32 := Scalar.addi c0_i32_6864 v5321
  v5322.toNat
def k0_off23 (d0 : Dev nD) (c1_i32_6784 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6783 : BitVec 32 := 1#32
  let v5245 : BitVec 32 := Scalar.addi v2 c1_i32_6783
  let v5246 : BitVec 32 := Scalar.subi v5245 c1_i32_6784
  let c16_i32_6785 : BitVec 32 := 16#32
  let v5247 : BitVec 32 := Scalar.addi v5246 c16_i32_6785
  let c16_i32_6786 : BitVec 32 := 16#32
  let c0_i32_6787 : BitVec 32 := 0#32
  let v5248 : BitVec 1 := Scalar.cmpi .eq c16_i32_6786 c0_i32_6787
  let c1_i32_6788 : BitVec 32 := 1#32
  let v5249 : BitVec 32 := Scalar.select v5248 c1_i32_6788 c16_i32_6786
  let v5250 : BitVec 32 := Scalar.remsi v5247 v5249
  let c0_i32_6790 : BitVec 32 := 0#32
  let v5252 : BitVec 1 := Scalar.cmpi .slt v5250 c0_i32_6790
  let c0_i32_6791 : BitVec 32 := 0#32
  let v5253 : BitVec 1 := Scalar.cmpi .slt v5249 c0_i32_6791
  let v5254 : BitVec 1 := Scalar.xori v5252 v5253
  let c0_i32_6789 : BitVec 32 := 0#32
  let v5251 : BitVec 1 := Scalar.cmpi .ne v5250 c0_i32_6789
  let v5255 : BitVec 1 := Scalar.andi v5254 v5251
  let v5256 : BitVec 32 := Scalar.addi v5250 v5249
  let v5257 : BitVec 32 := Scalar.select v5255 v5256 v5250
  let c128_i32_6792 : BitVec 32 := 128#32
  let v5258 : BitVec 32 := Scalar.muli v5257 c128_i32_6792
  let c1024_i32_6873 : BitVec 32 := 1024#32
  ![v5258.toNat, 1024]
def k0_dev135 (d0 : Dev nD) : Nat :=
  let c0_i32_6888 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_6887 : BitVec 32 := 1#32
  let v5341 : BitVec 32 := Scalar.muli v25 c1_i32_6887
  let v5342 : BitVec 32 := Scalar.addi c0_i32_6888 v5341
  v5342.toNat
def k0_dev136 (d0 : Dev nD) : Nat :=
  let c0_i32_6896 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_6895 : BitVec 32 := 1#32
  let v5349 : BitVec 32 := Scalar.muli v14 c1_i32_6895
  let v5350 : BitVec 32 := Scalar.addi c0_i32_6896 v5349
  v5350.toNat
def k0_off24 (d0 : Dev nD) (c1_i32_6784 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6783 : BitVec 32 := 1#32
  let v5245 : BitVec 32 := Scalar.addi v2 c1_i32_6783
  let v5246 : BitVec 32 := Scalar.subi v5245 c1_i32_6784
  let c16_i32_6785 : BitVec 32 := 16#32
  let v5247 : BitVec 32 := Scalar.addi v5246 c16_i32_6785
  let c16_i32_6786 : BitVec 32 := 16#32
  let c0_i32_6787 : BitVec 32 := 0#32
  let v5248 : BitVec 1 := Scalar.cmpi .eq c16_i32_6786 c0_i32_6787
  let c1_i32_6788 : BitVec 32 := 1#32
  let v5249 : BitVec 32 := Scalar.select v5248 c1_i32_6788 c16_i32_6786
  let v5250 : BitVec 32 := Scalar.remsi v5247 v5249
  let c0_i32_6790 : BitVec 32 := 0#32
  let v5252 : BitVec 1 := Scalar.cmpi .slt v5250 c0_i32_6790
  let c0_i32_6791 : BitVec 32 := 0#32
  let v5253 : BitVec 1 := Scalar.cmpi .slt v5249 c0_i32_6791
  let v5254 : BitVec 1 := Scalar.xori v5252 v5253
  let c0_i32_6789 : BitVec 32 := 0#32
  let v5251 : BitVec 1 := Scalar.cmpi .ne v5250 c0_i32_6789
  let v5255 : BitVec 1 := Scalar.andi v5254 v5251
  let v5256 : BitVec 32 := Scalar.addi v5250 v5249
  let v5257 : BitVec 32 := Scalar.select v5255 v5256 v5250
  let c128_i32_6792 : BitVec 32 := 128#32
  let v5258 : BitVec 32 := Scalar.muli v5257 c128_i32_6792
  let c1536_i32_6905 : BitVec 32 := 1536#32
  ![v5258.toNat, 1536]
def k0_dev137 (d0 : Dev nD) : Nat :=
  let c0_i32_6920 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_6919 : BitVec 32 := 1#32
  let v5369 : BitVec 32 := Scalar.muli v25 c1_i32_6919
  let v5370 : BitVec 32 := Scalar.addi c0_i32_6920 v5369
  v5370.toNat
def k0_dev138 (d0 : Dev nD) : Nat :=
  let c0_i32_6928 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_6927 : BitVec 32 := 1#32
  let v5377 : BitVec 32 := Scalar.muli v14 c1_i32_6927
  let v5378 : BitVec 32 := Scalar.addi c0_i32_6928 v5377
  v5378.toNat
def k0_dev139 (d0 : Dev nD) : Nat :=
  let c0_i32_6986 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_6985 : BitVec 32 := 1#32
  let v5433 : BitVec 32 := Scalar.muli v25 c1_i32_6985
  let v5434 : BitVec 32 := Scalar.addi c0_i32_6986 v5433
  v5434.toNat
def k0_dev140 (d0 : Dev nD) : Nat :=
  let c0_i32_6994 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_6993 : BitVec 32 := 1#32
  let v5441 : BitVec 32 := Scalar.muli v14 c1_i32_6993
  let v5442 : BitVec 32 := Scalar.addi c0_i32_6994 v5441
  v5442.toNat
def k0_dev141 (d0 : Dev nD) : Nat :=
  let c0_i32_7032 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_7031 : BitVec 32 := 1#32
  let v5469 : BitVec 32 := Scalar.muli v25 c1_i32_7031
  let v5470 : BitVec 32 := Scalar.addi c0_i32_7032 v5469
  v5470.toNat
def k0_dev142 (d0 : Dev nD) : Nat :=
  let c0_i32_7040 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_7039 : BitVec 32 := 1#32
  let v5477 : BitVec 32 := Scalar.muli v14 c1_i32_7039
  let v5478 : BitVec 32 := Scalar.addi c0_i32_7040 v5477
  v5478.toNat
def k0_dev143 (d0 : Dev nD) : Nat :=
  let c0_i32_7078 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_7077 : BitVec 32 := 1#32
  let v5505 : BitVec 32 := Scalar.muli v25 c1_i32_7077
  let v5506 : BitVec 32 := Scalar.addi c0_i32_7078 v5505
  v5506.toNat
def k0_dev144 (d0 : Dev nD) : Nat :=
  let c0_i32_7086 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_7085 : BitVec 32 := 1#32
  let v5513 : BitVec 32 := Scalar.muli v14 c1_i32_7085
  let v5514 : BitVec 32 := Scalar.addi c0_i32_7086 v5513
  v5514.toNat
def k0_dev145 (d0 : Dev nD) : Nat :=
  let c0_i32_7124 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_7123 : BitVec 32 := 1#32
  let v5541 : BitVec 32 := Scalar.muli v25 c1_i32_7123
  let v5542 : BitVec 32 := Scalar.addi c0_i32_7124 v5541
  v5542.toNat
def k0_dev146 (d0 : Dev nD) : Nat :=
  let c0_i32_7132 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_7131 : BitVec 32 := 1#32
  let v5549 : BitVec 32 := Scalar.muli v14 c1_i32_7131
  let v5550 : BitVec 32 := Scalar.addi c0_i32_7132 v5549
  v5550.toNat
def k0_dev147 (d0 : Dev nD) : Nat :=
  let c0_i32_7190 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_7189 : BitVec 32 := 1#32
  let v5605 : BitVec 32 := Scalar.muli v25 c1_i32_7189
  let v5606 : BitVec 32 := Scalar.addi c0_i32_7190 v5605
  v5606.toNat
def k0_dev148 (d0 : Dev nD) : Nat :=
  let c0_i32_7198 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_7197 : BitVec 32 := 1#32
  let v5613 : BitVec 32 := Scalar.muli v14 c1_i32_7197
  let v5614 : BitVec 32 := Scalar.addi c0_i32_7198 v5613
  v5614.toNat
def k0_dev149 (d0 : Dev nD) : Nat :=
  let c0_i32_7236 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_7235 : BitVec 32 := 1#32
  let v5641 : BitVec 32 := Scalar.muli v25 c1_i32_7235
  let v5642 : BitVec 32 := Scalar.addi c0_i32_7236 v5641
  v5642.toNat
def k0_dev150 (d0 : Dev nD) : Nat :=
  let c0_i32_7244 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_7243 : BitVec 32 := 1#32
  let v5649 : BitVec 32 := Scalar.muli v14 c1_i32_7243
  let v5650 : BitVec 32 := Scalar.addi c0_i32_7244 v5649
  v5650.toNat
def k0_dev151 (d0 : Dev nD) : Nat :=
  let c0_i32_7282 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_7281 : BitVec 32 := 1#32
  let v5677 : BitVec 32 := Scalar.muli v25 c1_i32_7281
  let v5678 : BitVec 32 := Scalar.addi c0_i32_7282 v5677
  v5678.toNat
def k0_dev152 (d0 : Dev nD) : Nat :=
  let c0_i32_7290 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_7289 : BitVec 32 := 1#32
  let v5685 : BitVec 32 := Scalar.muli v14 c1_i32_7289
  let v5686 : BitVec 32 := Scalar.addi c0_i32_7290 v5685
  v5686.toNat
def k0_dev153 (d0 : Dev nD) : Nat :=
  let c0_i32_7328 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_7327 : BitVec 32 := 1#32
  let v5713 : BitVec 32 := Scalar.muli v25 c1_i32_7327
  let v5714 : BitVec 32 := Scalar.addi c0_i32_7328 v5713
  v5714.toNat
def k0_dev154 (d0 : Dev nD) : Nat :=
  let c0_i32_7336 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_7335 : BitVec 32 := 1#32
  let v5721 : BitVec 32 := Scalar.muli v14 c1_i32_7335
  let v5722 : BitVec 32 := Scalar.addi c0_i32_7336 v5721
  v5722.toNat
def k0_dev155 (d0 : Dev nD) : Nat :=
  let c0_i32_7394 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_7393 : BitVec 32 := 1#32
  let v5777 : BitVec 32 := Scalar.muli v25 c1_i32_7393
  let v5778 : BitVec 32 := Scalar.addi c0_i32_7394 v5777
  v5778.toNat
def k0_dev156 (d0 : Dev nD) : Nat :=
  let c0_i32_7402 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_7401 : BitVec 32 := 1#32
  let v5785 : BitVec 32 := Scalar.muli v14 c1_i32_7401
  let v5786 : BitVec 32 := Scalar.addi c0_i32_7402 v5785
  v5786.toNat
def k0_dev157 (d0 : Dev nD) : Nat :=
  let c0_i32_7440 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_7439 : BitVec 32 := 1#32
  let v5813 : BitVec 32 := Scalar.muli v25 c1_i32_7439
  let v5814 : BitVec 32 := Scalar.addi c0_i32_7440 v5813
  v5814.toNat
def k0_dev158 (d0 : Dev nD) : Nat :=
  let c0_i32_7448 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_7447 : BitVec 32 := 1#32
  let v5821 : BitVec 32 := Scalar.muli v14 c1_i32_7447
  let v5822 : BitVec 32 := Scalar.addi c0_i32_7448 v5821
  v5822.toNat
def k0_dev159 (d0 : Dev nD) : Nat :=
  let c0_i32_7486 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_7485 : BitVec 32 := 1#32
  let v5849 : BitVec 32 := Scalar.muli v25 c1_i32_7485
  let v5850 : BitVec 32 := Scalar.addi c0_i32_7486 v5849
  v5850.toNat
def k0_dev160 (d0 : Dev nD) : Nat :=
  let c0_i32_7494 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_7493 : BitVec 32 := 1#32
  let v5857 : BitVec 32 := Scalar.muli v14 c1_i32_7493
  let v5858 : BitVec 32 := Scalar.addi c0_i32_7494 v5857
  v5858.toNat
def k0_dev161 (d0 : Dev nD) : Nat :=
  let c0_i32_7532 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_7531 : BitVec 32 := 1#32
  let v5885 : BitVec 32 := Scalar.muli v25 c1_i32_7531
  let v5886 : BitVec 32 := Scalar.addi c0_i32_7532 v5885
  v5886.toNat
def k0_dev162 (d0 : Dev nD) : Nat :=
  let c0_i32_7540 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_7539 : BitVec 32 := 1#32
  let v5893 : BitVec 32 := Scalar.muli v14 c1_i32_7539
  let v5894 : BitVec 32 := Scalar.addi c0_i32_7540 v5893
  v5894.toNat
def k0_dev163 (d0 : Dev nD) : Nat :=
  let c0_i32_7598 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_7597 : BitVec 32 := 1#32
  let v5949 : BitVec 32 := Scalar.muli v25 c1_i32_7597
  let v5950 : BitVec 32 := Scalar.addi c0_i32_7598 v5949
  v5950.toNat
def k0_dev164 (d0 : Dev nD) : Nat :=
  let c0_i32_7606 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_7605 : BitVec 32 := 1#32
  let v5957 : BitVec 32 := Scalar.muli v14 c1_i32_7605
  let v5958 : BitVec 32 := Scalar.addi c0_i32_7606 v5957
  v5958.toNat
def k0_dev165 (d0 : Dev nD) : Nat :=
  let c0_i32_7644 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_7643 : BitVec 32 := 1#32
  let v5985 : BitVec 32 := Scalar.muli v25 c1_i32_7643
  let v5986 : BitVec 32 := Scalar.addi c0_i32_7644 v5985
  v5986.toNat
def k0_dev166 (d0 : Dev nD) : Nat :=
  let c0_i32_7652 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_7651 : BitVec 32 := 1#32
  let v5993 : BitVec 32 := Scalar.muli v14 c1_i32_7651
  let v5994 : BitVec 32 := Scalar.addi c0_i32_7652 v5993
  v5994.toNat
def k0_dev167 (d0 : Dev nD) : Nat :=
  let c0_i32_7690 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_7689 : BitVec 32 := 1#32
  let v6021 : BitVec 32 := Scalar.muli v25 c1_i32_7689
  let v6022 : BitVec 32 := Scalar.addi c0_i32_7690 v6021
  v6022.toNat
def k0_dev168 (d0 : Dev nD) : Nat :=
  let c0_i32_7698 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_7697 : BitVec 32 := 1#32
  let v6029 : BitVec 32 := Scalar.muli v14 c1_i32_7697
  let v6030 : BitVec 32 := Scalar.addi c0_i32_7698 v6029
  v6030.toNat
def k0_dev169 (d0 : Dev nD) : Nat :=
  let c0_i32_7736 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_7735 : BitVec 32 := 1#32
  let v6057 : BitVec 32 := Scalar.muli v25 c1_i32_7735
  let v6058 : BitVec 32 := Scalar.addi c0_i32_7736 v6057
  v6058.toNat
def k0_dev170 (d0 : Dev nD) : Nat :=
  let c0_i32_7744 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_7743 : BitVec 32 := 1#32
  let v6065 : BitVec 32 := Scalar.muli v14 c1_i32_7743
  let v6066 : BitVec 32 := Scalar.addi c0_i32_7744 v6065
  v6066.toNat
def k0_dev171 (d0 : Dev nD) : Nat :=
  let c0_i32_7802 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_7801 : BitVec 32 := 1#32
  let v6121 : BitVec 32 := Scalar.muli v25 c1_i32_7801
  let v6122 : BitVec 32 := Scalar.addi c0_i32_7802 v6121
  v6122.toNat
def k0_dev172 (d0 : Dev nD) : Nat :=
  let c0_i32_7810 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_7809 : BitVec 32 := 1#32
  let v6129 : BitVec 32 := Scalar.muli v14 c1_i32_7809
  let v6130 : BitVec 32 := Scalar.addi c0_i32_7810 v6129
  v6130.toNat
def k0_dev173 (d0 : Dev nD) : Nat :=
  let c0_i32_7848 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_7847 : BitVec 32 := 1#32
  let v6157 : BitVec 32 := Scalar.muli v25 c1_i32_7847
  let v6158 : BitVec 32 := Scalar.addi c0_i32_7848 v6157
  v6158.toNat
def k0_dev174 (d0 : Dev nD) : Nat :=
  let c0_i32_7856 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_7855 : BitVec 32 := 1#32
  let v6165 : BitVec 32 := Scalar.muli v14 c1_i32_7855
  let v6166 : BitVec 32 := Scalar.addi c0_i32_7856 v6165
  v6166.toNat
def k0_dev175 (d0 : Dev nD) : Nat :=
  let c0_i32_7894 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_7893 : BitVec 32 := 1#32
  let v6193 : BitVec 32 := Scalar.muli v25 c1_i32_7893
  let v6194 : BitVec 32 := Scalar.addi c0_i32_7894 v6193
  v6194.toNat
def k0_dev176 (d0 : Dev nD) : Nat :=
  let c0_i32_7902 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_7901 : BitVec 32 := 1#32
  let v6201 : BitVec 32 := Scalar.muli v14 c1_i32_7901
  let v6202 : BitVec 32 := Scalar.addi c0_i32_7902 v6201
  v6202.toNat
def k0_dev177 (d0 : Dev nD) : Nat :=
  let c0_i32_7940 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_7939 : BitVec 32 := 1#32
  let v6229 : BitVec 32 := Scalar.muli v25 c1_i32_7939
  let v6230 : BitVec 32 := Scalar.addi c0_i32_7940 v6229
  v6230.toNat
def k0_dev178 (d0 : Dev nD) : Nat :=
  let c0_i32_7948 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_7947 : BitVec 32 := 1#32
  let v6237 : BitVec 32 := Scalar.muli v14 c1_i32_7947
  let v6238 : BitVec 32 := Scalar.addi c0_i32_7948 v6237
  v6238.toNat
def k0_dev179 (d0 : Dev nD) : Nat :=
  let c0_i32_8006 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_8005 : BitVec 32 := 1#32
  let v6293 : BitVec 32 := Scalar.muli v25 c1_i32_8005
  let v6294 : BitVec 32 := Scalar.addi c0_i32_8006 v6293
  v6294.toNat
def k0_dev180 (d0 : Dev nD) : Nat :=
  let c0_i32_8014 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_8013 : BitVec 32 := 1#32
  let v6301 : BitVec 32 := Scalar.muli v14 c1_i32_8013
  let v6302 : BitVec 32 := Scalar.addi c0_i32_8014 v6301
  v6302.toNat
def k0_dev181 (d0 : Dev nD) : Nat :=
  let c0_i32_8052 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_8051 : BitVec 32 := 1#32
  let v6329 : BitVec 32 := Scalar.muli v25 c1_i32_8051
  let v6330 : BitVec 32 := Scalar.addi c0_i32_8052 v6329
  v6330.toNat
def k0_dev182 (d0 : Dev nD) : Nat :=
  let c0_i32_8060 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_8059 : BitVec 32 := 1#32
  let v6337 : BitVec 32 := Scalar.muli v14 c1_i32_8059
  let v6338 : BitVec 32 := Scalar.addi c0_i32_8060 v6337
  v6338.toNat
def k0_dev183 (d0 : Dev nD) : Nat :=
  let c0_i32_8098 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_8097 : BitVec 32 := 1#32
  let v6365 : BitVec 32 := Scalar.muli v25 c1_i32_8097
  let v6366 : BitVec 32 := Scalar.addi c0_i32_8098 v6365
  v6366.toNat
def k0_dev184 (d0 : Dev nD) : Nat :=
  let c0_i32_8106 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_8105 : BitVec 32 := 1#32
  let v6373 : BitVec 32 := Scalar.muli v14 c1_i32_8105
  let v6374 : BitVec 32 := Scalar.addi c0_i32_8106 v6373
  v6374.toNat
def k0_dev185 (d0 : Dev nD) : Nat :=
  let c0_i32_8144 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_8143 : BitVec 32 := 1#32
  let v6401 : BitVec 32 := Scalar.muli v25 c1_i32_8143
  let v6402 : BitVec 32 := Scalar.addi c0_i32_8144 v6401
  v6402.toNat
def k0_dev186 (d0 : Dev nD) : Nat :=
  let c0_i32_8152 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_8151 : BitVec 32 := 1#32
  let v6409 : BitVec 32 := Scalar.muli v14 c1_i32_8151
  let v6410 : BitVec 32 := Scalar.addi c0_i32_8152 v6409
  v6410.toNat
def k0_dev187 (d0 : Dev nD) : Nat :=
  let c0_i32_8210 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_8209 : BitVec 32 := 1#32
  let v6465 : BitVec 32 := Scalar.muli v25 c1_i32_8209
  let v6466 : BitVec 32 := Scalar.addi c0_i32_8210 v6465
  v6466.toNat
def k0_dev188 (d0 : Dev nD) : Nat :=
  let c0_i32_8218 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_8217 : BitVec 32 := 1#32
  let v6473 : BitVec 32 := Scalar.muli v14 c1_i32_8217
  let v6474 : BitVec 32 := Scalar.addi c0_i32_8218 v6473
  v6474.toNat
def k0_dev189 (d0 : Dev nD) : Nat :=
  let c0_i32_8256 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_8255 : BitVec 32 := 1#32
  let v6501 : BitVec 32 := Scalar.muli v25 c1_i32_8255
  let v6502 : BitVec 32 := Scalar.addi c0_i32_8256 v6501
  v6502.toNat
def k0_dev190 (d0 : Dev nD) : Nat :=
  let c0_i32_8264 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_8263 : BitVec 32 := 1#32
  let v6509 : BitVec 32 := Scalar.muli v14 c1_i32_8263
  let v6510 : BitVec 32 := Scalar.addi c0_i32_8264 v6509
  v6510.toNat
def k0_dev191 (d0 : Dev nD) : Nat :=
  let c0_i32_8302 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_8301 : BitVec 32 := 1#32
  let v6537 : BitVec 32 := Scalar.muli v25 c1_i32_8301
  let v6538 : BitVec 32 := Scalar.addi c0_i32_8302 v6537
  v6538.toNat
def k0_dev192 (d0 : Dev nD) : Nat :=
  let c0_i32_8310 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_8309 : BitVec 32 := 1#32
  let v6545 : BitVec 32 := Scalar.muli v14 c1_i32_8309
  let v6546 : BitVec 32 := Scalar.addi c0_i32_8310 v6545
  v6546.toNat
def k0_dev193 (d0 : Dev nD) : Nat :=
  let c0_i32_8348 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_8347 : BitVec 32 := 1#32
  let v6573 : BitVec 32 := Scalar.muli v25 c1_i32_8347
  let v6574 : BitVec 32 := Scalar.addi c0_i32_8348 v6573
  v6574.toNat
def k0_dev194 (d0 : Dev nD) : Nat :=
  let c0_i32_8356 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_8355 : BitVec 32 := 1#32
  let v6581 : BitVec 32 := Scalar.muli v14 c1_i32_8355
  let v6582 : BitVec 32 := Scalar.addi c0_i32_8356 v6581
  v6582.toNat
def k0_dev195 (d0 : Dev nD) : Nat :=
  let c0_i32_8414 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_8413 : BitVec 32 := 1#32
  let v6637 : BitVec 32 := Scalar.muli v25 c1_i32_8413
  let v6638 : BitVec 32 := Scalar.addi c0_i32_8414 v6637
  v6638.toNat
def k0_dev196 (d0 : Dev nD) : Nat :=
  let c0_i32_8422 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_8421 : BitVec 32 := 1#32
  let v6645 : BitVec 32 := Scalar.muli v14 c1_i32_8421
  let v6646 : BitVec 32 := Scalar.addi c0_i32_8422 v6645
  v6646.toNat
def k0_dev197 (d0 : Dev nD) : Nat :=
  let c0_i32_8460 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_8459 : BitVec 32 := 1#32
  let v6673 : BitVec 32 := Scalar.muli v25 c1_i32_8459
  let v6674 : BitVec 32 := Scalar.addi c0_i32_8460 v6673
  v6674.toNat
def k0_dev198 (d0 : Dev nD) : Nat :=
  let c0_i32_8468 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_8467 : BitVec 32 := 1#32
  let v6681 : BitVec 32 := Scalar.muli v14 c1_i32_8467
  let v6682 : BitVec 32 := Scalar.addi c0_i32_8468 v6681
  v6682.toNat
def k0_dev199 (d0 : Dev nD) : Nat :=
  let c0_i32_8506 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_8505 : BitVec 32 := 1#32
  let v6709 : BitVec 32 := Scalar.muli v25 c1_i32_8505
  let v6710 : BitVec 32 := Scalar.addi c0_i32_8506 v6709
  v6710.toNat
def k0_dev200 (d0 : Dev nD) : Nat :=
  let c0_i32_8514 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_8513 : BitVec 32 := 1#32
  let v6717 : BitVec 32 := Scalar.muli v14 c1_i32_8513
  let v6718 : BitVec 32 := Scalar.addi c0_i32_8514 v6717
  v6718.toNat
def k0_dev201 (d0 : Dev nD) : Nat :=
  let c0_i32_8552 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_8551 : BitVec 32 := 1#32
  let v6745 : BitVec 32 := Scalar.muli v25 c1_i32_8551
  let v6746 : BitVec 32 := Scalar.addi c0_i32_8552 v6745
  v6746.toNat
def k0_dev202 (d0 : Dev nD) : Nat :=
  let c0_i32_8560 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_8559 : BitVec 32 := 1#32
  let v6753 : BitVec 32 := Scalar.muli v14 c1_i32_8559
  let v6754 : BitVec 32 := Scalar.addi c0_i32_8560 v6753
  v6754.toNat
def k0_dev203 (d0 : Dev nD) : Nat :=
  let c0_i32_8618 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_8617 : BitVec 32 := 1#32
  let v6809 : BitVec 32 := Scalar.muli v25 c1_i32_8617
  let v6810 : BitVec 32 := Scalar.addi c0_i32_8618 v6809
  v6810.toNat
def k0_dev204 (d0 : Dev nD) : Nat :=
  let c0_i32_8626 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_8625 : BitVec 32 := 1#32
  let v6817 : BitVec 32 := Scalar.muli v14 c1_i32_8625
  let v6818 : BitVec 32 := Scalar.addi c0_i32_8626 v6817
  v6818.toNat
def k0_dev205 (d0 : Dev nD) : Nat :=
  let c0_i32_8664 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_8663 : BitVec 32 := 1#32
  let v6845 : BitVec 32 := Scalar.muli v25 c1_i32_8663
  let v6846 : BitVec 32 := Scalar.addi c0_i32_8664 v6845
  v6846.toNat
def k0_dev206 (d0 : Dev nD) : Nat :=
  let c0_i32_8672 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_8671 : BitVec 32 := 1#32
  let v6853 : BitVec 32 := Scalar.muli v14 c1_i32_8671
  let v6854 : BitVec 32 := Scalar.addi c0_i32_8672 v6853
  v6854.toNat
def k0_dev207 (d0 : Dev nD) : Nat :=
  let c0_i32_8710 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_8709 : BitVec 32 := 1#32
  let v6881 : BitVec 32 := Scalar.muli v25 c1_i32_8709
  let v6882 : BitVec 32 := Scalar.addi c0_i32_8710 v6881
  v6882.toNat
def k0_dev208 (d0 : Dev nD) : Nat :=
  let c0_i32_8718 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_8717 : BitVec 32 := 1#32
  let v6889 : BitVec 32 := Scalar.muli v14 c1_i32_8717
  let v6890 : BitVec 32 := Scalar.addi c0_i32_8718 v6889
  v6890.toNat
def k0_dev209 (d0 : Dev nD) : Nat :=
  let c0_i32_8756 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_8755 : BitVec 32 := 1#32
  let v6917 : BitVec 32 := Scalar.muli v25 c1_i32_8755
  let v6918 : BitVec 32 := Scalar.addi c0_i32_8756 v6917
  v6918.toNat
def k0_dev210 (d0 : Dev nD) : Nat :=
  let c0_i32_8764 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_8763 : BitVec 32 := 1#32
  let v6925 : BitVec 32 := Scalar.muli v14 c1_i32_8763
  let v6926 : BitVec 32 := Scalar.addi c0_i32_8764 v6925
  v6926.toNat
def k0_dev211 (d0 : Dev nD) : Nat :=
  let c0_i32_8822 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_8821 : BitVec 32 := 1#32
  let v6981 : BitVec 32 := Scalar.muli v25 c1_i32_8821
  let v6982 : BitVec 32 := Scalar.addi c0_i32_8822 v6981
  v6982.toNat
def k0_dev212 (d0 : Dev nD) : Nat :=
  let c0_i32_8830 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_8829 : BitVec 32 := 1#32
  let v6989 : BitVec 32 := Scalar.muli v14 c1_i32_8829
  let v6990 : BitVec 32 := Scalar.addi c0_i32_8830 v6989
  v6990.toNat
def k0_dev213 (d0 : Dev nD) : Nat :=
  let c0_i32_8868 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_8867 : BitVec 32 := 1#32
  let v7017 : BitVec 32 := Scalar.muli v25 c1_i32_8867
  let v7018 : BitVec 32 := Scalar.addi c0_i32_8868 v7017
  v7018.toNat
def k0_dev214 (d0 : Dev nD) : Nat :=
  let c0_i32_8876 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_8875 : BitVec 32 := 1#32
  let v7025 : BitVec 32 := Scalar.muli v14 c1_i32_8875
  let v7026 : BitVec 32 := Scalar.addi c0_i32_8876 v7025
  v7026.toNat
def k0_dev215 (d0 : Dev nD) : Nat :=
  let c0_i32_8914 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_8913 : BitVec 32 := 1#32
  let v7053 : BitVec 32 := Scalar.muli v25 c1_i32_8913
  let v7054 : BitVec 32 := Scalar.addi c0_i32_8914 v7053
  v7054.toNat
def k0_dev216 (d0 : Dev nD) : Nat :=
  let c0_i32_8922 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_8921 : BitVec 32 := 1#32
  let v7061 : BitVec 32 := Scalar.muli v14 c1_i32_8921
  let v7062 : BitVec 32 := Scalar.addi c0_i32_8922 v7061
  v7062.toNat
def k0_dev217 (d0 : Dev nD) : Nat :=
  let c0_i32_8960 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_8959 : BitVec 32 := 1#32
  let v7089 : BitVec 32 := Scalar.muli v25 c1_i32_8959
  let v7090 : BitVec 32 := Scalar.addi c0_i32_8960 v7089
  v7090.toNat
def k0_dev218 (d0 : Dev nD) : Nat :=
  let c0_i32_8968 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_8967 : BitVec 32 := 1#32
  let v7097 : BitVec 32 := Scalar.muli v14 c1_i32_8967
  let v7098 : BitVec 32 := Scalar.addi c0_i32_8968 v7097
  v7098.toNat
def k0_dev219 (d0 : Dev nD) : Nat :=
  let c0_i32_9026 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_9025 : BitVec 32 := 1#32
  let v7153 : BitVec 32 := Scalar.muli v25 c1_i32_9025
  let v7154 : BitVec 32 := Scalar.addi c0_i32_9026 v7153
  v7154.toNat
def k0_dev220 (d0 : Dev nD) : Nat :=
  let c0_i32_9034 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_9033 : BitVec 32 := 1#32
  let v7161 : BitVec 32 := Scalar.muli v14 c1_i32_9033
  let v7162 : BitVec 32 := Scalar.addi c0_i32_9034 v7161
  v7162.toNat
def k0_dev221 (d0 : Dev nD) : Nat :=
  let c0_i32_9072 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_9071 : BitVec 32 := 1#32
  let v7189 : BitVec 32 := Scalar.muli v25 c1_i32_9071
  let v7190 : BitVec 32 := Scalar.addi c0_i32_9072 v7189
  v7190.toNat
def k0_dev222 (d0 : Dev nD) : Nat :=
  let c0_i32_9080 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_9079 : BitVec 32 := 1#32
  let v7197 : BitVec 32 := Scalar.muli v14 c1_i32_9079
  let v7198 : BitVec 32 := Scalar.addi c0_i32_9080 v7197
  v7198.toNat
def k0_dev223 (d0 : Dev nD) : Nat :=
  let c0_i32_9118 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_9117 : BitVec 32 := 1#32
  let v7225 : BitVec 32 := Scalar.muli v25 c1_i32_9117
  let v7226 : BitVec 32 := Scalar.addi c0_i32_9118 v7225
  v7226.toNat
def k0_dev224 (d0 : Dev nD) : Nat :=
  let c0_i32_9126 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_9125 : BitVec 32 := 1#32
  let v7233 : BitVec 32 := Scalar.muli v14 c1_i32_9125
  let v7234 : BitVec 32 := Scalar.addi c0_i32_9126 v7233
  v7234.toNat
def k0_dev225 (d0 : Dev nD) : Nat :=
  let c0_i32_9164 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_9163 : BitVec 32 := 1#32
  let v7261 : BitVec 32 := Scalar.muli v25 c1_i32_9163
  let v7262 : BitVec 32 := Scalar.addi c0_i32_9164 v7261
  v7262.toNat
def k0_dev226 (d0 : Dev nD) : Nat :=
  let c0_i32_9172 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_9171 : BitVec 32 := 1#32
  let v7269 : BitVec 32 := Scalar.muli v14 c1_i32_9171
  let v7270 : BitVec 32 := Scalar.addi c0_i32_9172 v7269
  v7270.toNat
def k0_dev227 (d0 : Dev nD) : Nat :=
  let c0_i32_9230 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_9229 : BitVec 32 := 1#32
  let v7325 : BitVec 32 := Scalar.muli v25 c1_i32_9229
  let v7326 : BitVec 32 := Scalar.addi c0_i32_9230 v7325
  v7326.toNat
def k0_dev228 (d0 : Dev nD) : Nat :=
  let c0_i32_9238 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_9237 : BitVec 32 := 1#32
  let v7333 : BitVec 32 := Scalar.muli v14 c1_i32_9237
  let v7334 : BitVec 32 := Scalar.addi c0_i32_9238 v7333
  v7334.toNat
def k0_dev229 (d0 : Dev nD) : Nat :=
  let c0_i32_9276 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_9275 : BitVec 32 := 1#32
  let v7361 : BitVec 32 := Scalar.muli v25 c1_i32_9275
  let v7362 : BitVec 32 := Scalar.addi c0_i32_9276 v7361
  v7362.toNat
def k0_dev230 (d0 : Dev nD) : Nat :=
  let c0_i32_9284 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_9283 : BitVec 32 := 1#32
  let v7369 : BitVec 32 := Scalar.muli v14 c1_i32_9283
  let v7370 : BitVec 32 := Scalar.addi c0_i32_9284 v7369
  v7370.toNat
def k0_dev231 (d0 : Dev nD) : Nat :=
  let c0_i32_9322 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_9321 : BitVec 32 := 1#32
  let v7397 : BitVec 32 := Scalar.muli v25 c1_i32_9321
  let v7398 : BitVec 32 := Scalar.addi c0_i32_9322 v7397
  v7398.toNat
def k0_dev232 (d0 : Dev nD) : Nat :=
  let c0_i32_9330 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_9329 : BitVec 32 := 1#32
  let v7405 : BitVec 32 := Scalar.muli v14 c1_i32_9329
  let v7406 : BitVec 32 := Scalar.addi c0_i32_9330 v7405
  v7406.toNat
def k0_dev233 (d0 : Dev nD) : Nat :=
  let c0_i32_9368 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_9367 : BitVec 32 := 1#32
  let v7433 : BitVec 32 := Scalar.muli v25 c1_i32_9367
  let v7434 : BitVec 32 := Scalar.addi c0_i32_9368 v7433
  v7434.toNat
def k0_dev234 (d0 : Dev nD) : Nat :=
  let c0_i32_9376 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_9375 : BitVec 32 := 1#32
  let v7441 : BitVec 32 := Scalar.muli v14 c1_i32_9375
  let v7442 : BitVec 32 := Scalar.addi c0_i32_9376 v7441
  v7442.toNat
def k0_dev235 (d0 : Dev nD) : Nat :=
  let c0_i32_9434 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_9433 : BitVec 32 := 1#32
  let v7497 : BitVec 32 := Scalar.muli v25 c1_i32_9433
  let v7498 : BitVec 32 := Scalar.addi c0_i32_9434 v7497
  v7498.toNat
def k0_dev236 (d0 : Dev nD) : Nat :=
  let c0_i32_9442 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_9441 : BitVec 32 := 1#32
  let v7505 : BitVec 32 := Scalar.muli v14 c1_i32_9441
  let v7506 : BitVec 32 := Scalar.addi c0_i32_9442 v7505
  v7506.toNat
def k0_dev237 (d0 : Dev nD) : Nat :=
  let c0_i32_9480 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_9479 : BitVec 32 := 1#32
  let v7533 : BitVec 32 := Scalar.muli v25 c1_i32_9479
  let v7534 : BitVec 32 := Scalar.addi c0_i32_9480 v7533
  v7534.toNat
def k0_dev238 (d0 : Dev nD) : Nat :=
  let c0_i32_9488 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_9487 : BitVec 32 := 1#32
  let v7541 : BitVec 32 := Scalar.muli v14 c1_i32_9487
  let v7542 : BitVec 32 := Scalar.addi c0_i32_9488 v7541
  v7542.toNat
def k0_dev239 (d0 : Dev nD) : Nat :=
  let c0_i32_9526 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_9525 : BitVec 32 := 1#32
  let v7569 : BitVec 32 := Scalar.muli v25 c1_i32_9525
  let v7570 : BitVec 32 := Scalar.addi c0_i32_9526 v7569
  v7570.toNat
def k0_dev240 (d0 : Dev nD) : Nat :=
  let c0_i32_9534 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_9533 : BitVec 32 := 1#32
  let v7577 : BitVec 32 := Scalar.muli v14 c1_i32_9533
  let v7578 : BitVec 32 := Scalar.addi c0_i32_9534 v7577
  v7578.toNat
def k0_dev241 (d0 : Dev nD) : Nat :=
  let c0_i32_9572 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_9571 : BitVec 32 := 1#32
  let v7605 : BitVec 32 := Scalar.muli v25 c1_i32_9571
  let v7606 : BitVec 32 := Scalar.addi c0_i32_9572 v7605
  v7606.toNat
def k0_dev242 (d0 : Dev nD) : Nat :=
  let c0_i32_9580 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_9579 : BitVec 32 := 1#32
  let v7613 : BitVec 32 := Scalar.muli v14 c1_i32_9579
  let v7614 : BitVec 32 := Scalar.addi c0_i32_9580 v7613
  v7614.toNat
abbrev stage0_0 : Fin 1 → Memref sig .tc .vmem S2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S16x2048x2048 : Shape := ⟨3, ![16, 2048, 2048]⟩
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 22
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S2048x2048, .f32⟩
  | .hbm, ⟨2, _⟩ => ⟨S2048, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x2048, .f32⟩
  | .hbm, ⟨18, _⟩ => ⟨S2048x2048, .f32⟩
  | .hbm, ⟨19, _⟩ => ⟨S1x2048, .f32⟩
  | .hbm, ⟨20, _⟩ => ⟨S2048x2048, .f32⟩
  | .hbm, ⟨21, _⟩ => ⟨S2048x2048, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Proof.Kernel.Body.lean ====
module

public import proofs.«01_k».proof.Proof.Kernel.Prog

@[expose] public section
noncomputable section
namespace Cert.Kernel.Ar
open Idealize.ShloMosaic Idealize.SL.Sem Cert.Kernel.Gen
variable {F : FTy → Type} [FloatOps F]

set_option maxRecDepth 65536 in
/-- The printed body is that list of instructions. -/
theorem body_eq : cc0_body (F := F) part (Memref.isWhole_whole _) resid (Memref.isWhole_whole _) gam (Memref.isWhole_whole _) out (Memref.isWhole_whole _)
    (comm false) (Memref.isWhole_whole _) (comm true) (Memref.isWhole_whole _) (pbuf false) (Memref.isWhole_whole _) (pbuf true) (Memref.isWhole_whole _)
    rbuf (Memref.isWhole_whole _) cc0_scratch5 cc0_scratch6 cc0_scratch7 cc0_scratch8 cc0_scratch9 cc0_scratch10 cc0_scratch11 cc0_scratch12 cc0_scratch13 cc0_scratch14 cc0_scratch15
    = body := by
  chain_rfl

end Cert.Kernel.Ar
-- ==== Proof.KernelIdeal.Prog.lean ====
/-
  The kernel's body, instruction by instruction: every operation of the body is one of a dozen
  instructions, each on a ring (right or left), a hop and a column block, and the body is a list of them.
-/
module

public import proofs.«01_k».proof.Proof.Gen.KernelIdeal.Skeleton
public import proofs.«01_k».proof.Proof.Gen.KernelIdeal.Launch
public import Idealize.ShloMosaic.Lib.Tactic
public import Idealize.ShloMosaic.Lib.Pipeline.Regions

@[expose] public section

noncomputable section

namespace Cert.KernelIdeal.Ar

open Idealize.ShloMosaic Idealize.SL.Sem Cert.KernelIdeal.Gen

variable {F : FTy → Type} [FloatOps F]

/-! ## The buffers, by ring (`false`: the ring sending to the right; `true`: to the left) -/

def part : Memref sig .tc .hbm S1x2048x2048 .f32 := Memref.whole main_arg0
def resid : Memref sig .tc .hbm S2048x2048 .f32 := Memref.whole main_arg1
def gam : Memref sig .tc .vmem S2048 .f32 := Memref.whole cc0_stg0_0
def out : Memref sig .tc .vmem S2048x2048 .f32 := Memref.whole cc0_stg1_0
def comm : Bool → Memref sig .tc .vmem S15x64x2048 .f32
  | false => Memref.whole cc0_scratch0
  | true => Memref.whole cc0_scratch1
def pbuf : Bool → Memref sig .tc .vmem S2x64x2048 .f32
  | false => Memref.whole cc0_scratch2
  | true => Memref.whole cc0_scratch3
def rbuf : Memref sig .tc .vmem S2x64x2048 .f32 := Memref.whole cc0_scratch4

/-! ## The semaphores -/

theorem inb2 (j : Fin 2) : ∀ a, (![j.val] : Fin 1 → Nat) a + S1.size a ≤ S2.size a := by revert j; decide
theorem inb24 (j : Fin 2) (s : Fin 4) : ∀ a, (![j.val, s.val] : Fin 2 → Nat) a + S1x1.size a ≤ S2x4.size a := by revert j s; decide
theorem inb154 (h : Fin 15) (s : Fin 4) : ∀ a, (![h.val, s.val] : Fin 2 → Nat) a + S1x1.size a ≤ S15x4.size a := by revert h s; decide

def at2 (A : DmaSems sig S2) (j : Fin 2) := ((A.slice (Rect.unit (s := S2) ![j.val] S1.size (inb2 j))).squeeze S_ squeezes_S1_S_).sem
def at24 (A : DmaSems sig S2x4) (j : Fin 2) (s : Fin 4) := ((A.slice (Rect.unit (s := S2x4) ![j.val, s.val] S1x1.size (inb24 j s))).squeeze S_ squeezes_S1x1_S_).sem
def at154 (A : DmaSems sig S15x4) (h : Fin 15) (s : Fin 4) := ((A.slice (Rect.unit (s := S15x4) ![h.val, s.val] S1x1.size (inb154 h s))).squeeze S_ squeezes_S1x1_S_).sem

def par (h : Nat) : Fin 2 := ⟨h % 2, Nat.mod_lt _ (by decide)⟩

def partSem (b : Bool) (j : Fin 2) := at2 (match b with | false => cc0_scratch5 | true => cc0_scratch6) j
def residSem (b : Bool) := at2 cc0_scratch15 (match b with | false => 0 | true => 1)
def sendSem (b : Bool) (j : Fin 2) (s : Fin 4) := at24 (match b with | false => cc0_scratch7 | true => cc0_scratch8) j s
def recvSem (b : Bool) (h : Fin 15) (s : Fin 4) := at154 (match b with | false => cc0_scratch9 | true => cc0_scratch10) h s
def agSendSem (b : Bool) (j : Fin 2) (s : Fin 4) := at24 (match b with | false => cc0_scratch11 | true => cc0_scratch12) j s
def agRecvSem (b : Bool) (h : Fin 15) (s : Fin 4) := at154 (match b with | false => cc0_scratch13 | true => cc0_scratch14) h s

/-! ## The views -/

/-- The block of 64 rows that ring `b` sums on its own device. -/
def rOff (b : Bool) (d : Dev nD) : Fin 2 → Nat := match b with | false => k0_off1 d | true => k0_off2 d
theorem rOff_inb (b : Bool) (d : Dev nD) : ∀ a, rOff b d a + S64x2048.size a ≤ S2048x2048.size a := by
  cases b
  · exact k0_off1_inb d
  · exact k0_off2_inb d
def residV (b : Bool) (d : Dev nD) : Memref sig .tc .hbm S64x2048 .f32 :=
  resid.slice (Rect.unit (s := S2048x2048) (rOff b d) S64x2048.size (rOff_inb b d)) (fun _ => rfl)

theorem inbP (j : Fin 2) : ∀ a, (![j.val, 0, 0] : Fin 3 → Nat) a + S1x64x2048.size a ≤ S2x64x2048.size a := by revert j; decide
def slotV (M : Memref sig .tc .vmem S2x64x2048 .f32) (j : Fin 2) : Memref sig .tc .vmem S64x2048 .f32 :=
  (M.slice (Rect.unit (s := S2x64x2048) ![j.val, 0, 0] S1x64x2048.size (inbP j)) (fun _ => rfl)).squeeze S64x2048 squeezes_S1x64x2048_S64x2048

def rSlot (b : Bool) : Fin 2 := match b with | false => 0 | true => 1

/-- The rows of the partial that ring `b` adds at hop `h`. -/
def pOff (b : Bool) (h : Fin 16) (d : Dev nD) : Fin 3 → Nat :=
  match b with | false => k0_off3 d (BitVec.ofNat 32 h.val) | true => k0_off4 d (BitVec.ofNat 32 h.val)
theorem pOff_inb (b : Bool) (h : Fin 16) (d : Dev nD) : ∀ a, pOff b h d a + S1x64x2048.size a ≤ S1x2048x2048.size a := by
  cases b
  · exact k0_off3_inb d h
  · exact k0_off4_inb d h
def partV (b : Bool) (h : Fin 16) (d : Dev nD) : Memref sig .tc .hbm S64x2048 .f32 :=
  (part.slice (Rect.unit (s := S1x2048x2048) (pOff b h d) S1x64x2048.size (pOff_inb b h d)) (fun _ => rfl)).squeeze S64x2048 squeezes_S1x64x2048_S64x2048

def col (s : Fin 4) : Nat := 512 * s.val
theorem inbC (s : Fin 4) : ∀ a, (![0, col s] : Fin 2 → Nat) a + S64x512.size a ≤ S64x2048.size a := by revert s; decide
theorem inbK (h : Fin 15) : ∀ a, (![h.val, 0, 0] : Fin 3 → Nat) a + S1x64x2048.size a ≤ S15x64x2048.size a := by revert h; decide
theorem inbKC (h : Fin 15) (s : Fin 4) : ∀ a, (![h.val, 0, col s] : Fin 3 → Nat) a + S1x64x512.size a ≤ S15x64x2048.size a := by revert h s; decide
theorem inbPC (j : Fin 2) (s : Fin 4) : ∀ a, (![j.val, 0, col s] : Fin 3 → Nat) a + S1x64x512.size a ≤ S2x64x2048.size a := by revert j s; decide

def colV (M : Memref sig .tc .vmem S64x2048 .f32) (s : Fin 4) : Memref sig .tc .vmem S64x512 .f32 :=
  M.slice (Rect.unit (s := S64x2048) ![0, col s] S64x512.size (inbC s)) (fun _ => rfl)
def slabV (b : Bool) (h : Fin 15) : Memref sig .tc .vmem S64x2048 .f32 :=
  ((comm b).slice (Rect.unit (s := S15x64x2048) ![h.val, 0, 0] S1x64x2048.size (inbK h)) (fun _ => rfl)).squeeze S64x2048 squeezes_S1x64x2048_S64x2048
def rectKC (h : Fin 15) (s : Fin 4) : Rect S15x64x2048 := Rect.unit (s := S15x64x2048) ![h.val, 0, col s] S1x64x512.size (inbKC h s)
def rectPC (j : Fin 2) (s : Fin 4) : Rect S2x64x2048 := Rect.unit (s := S2x64x2048) ![j.val, 0, col s] S1x64x512.size (inbPC j s)
/-- Where hop `h`'s column block `s` lands. -/
def landV (b : Bool) (h : Fin 15) (s : Fin 4) : Memref sig .tc .vmem S64x512 .f32 :=
  ((comm b).slice (Rect.unit (s := S15x64x2048) ![h.val, 0, col s] S1x64x512.size (inbKC h s)) (fun _ => rfl)).squeeze S64x512 squeezes_S1x64x512_S64x512
/-- What hop `h` sends of column block `s`: the partial's block first, then what the hop before landed. -/
def fromV (b : Bool) (h : Fin 15) (s : Fin 4) : Memref sig .tc .vmem S64x512 .f32 :=
  match h with
  | ⟨0, _⟩ => colV (slotV (pbuf b) 0) s
  | ⟨n + 1, hn⟩ => colV (slabV b ⟨n, Nat.lt_of_succ_lt hn⟩) s

/-- The offset of the `t`-th block, in the order in which ring `b` passes them on, of the result's column block `s`. -/
def gOff (b : Bool) (s : Fin 4) (t : Fin 16) (d : Dev nD) : Fin 2 → Nat :=
  match b, s, t with
  | false, 0, ⟨0, _⟩ => k0_off6 d 1#32
  | false, 1, ⟨0, _⟩ => k0_off10 d 1#32
  | false, 2, ⟨0, _⟩ => k0_off14 d 1#32
  | false, 3, ⟨0, _⟩ => k0_off18 d 1#32
  | false, 0, ⟨15, _⟩ => k0_off6 d 2#32
  | false, 1, ⟨15, _⟩ => k0_off10 d 2#32
  | false, 2, ⟨15, _⟩ => k0_off14 d 2#32
  | false, 3, ⟨15, _⟩ => k0_off18 d 2#32
  | false, 0, t => k0_off21 d (BitVec.ofNat 32 t.val)
  | false, 1, t => k0_off22 d (BitVec.ofNat 32 t.val)
  | false, 2, t => k0_off23 d (BitVec.ofNat 32 t.val)
  | false, 3, t => k0_off24 d (BitVec.ofNat 32 t.val)
  | true, 0, ⟨0, _⟩ => k0_off8 d 1#32 16#32
  | true, 1, ⟨0, _⟩ => k0_off12 d 1#32 16#32
  | true, 2, ⟨0, _⟩ => k0_off16 d 1#32 16#32
  | true, 3, ⟨0, _⟩ => k0_off20 d 1#32 16#32
  | true, 0, ⟨15, _⟩ => k0_off8 d 2#32 16#32
  | true, 1, ⟨15, _⟩ => k0_off12 d 2#32 16#32
  | true, 2, ⟨15, _⟩ => k0_off16 d 2#32 16#32
  | true, 3, ⟨15, _⟩ => k0_off20 d 2#32 16#32
  | true, 0, t => k0_off8 d 1#32 (BitVec.ofNat 32 t.val)
  | true, 1, t => k0_off12 d 1#32 (BitVec.ofNat 32 t.val)
  | true, 2, t => k0_off16 d 1#32 (BitVec.ofNat 32 t.val)
  | true, 3, t => k0_off20 d 1#32 (BitVec.ofNat 32 t.val)
/-- The chunk of the result whose half the `t`-th block of ring `b` is. -/
def chunk (b : Bool) (t : Fin 16) (d : Dev nD) : Nat :=
  match b with | false => (d.val + 17 - t.val) % 16 | true => (d.val + 15 + t.val) % 16
def half (b : Bool) : Nat := match b with | false => 0 | true => 64
theorem gOff_eq : ∀ (b : Bool) (s : Fin 4) (t : Fin 16) (d : Dev nD), gOff b s t d = ![128 * chunk b t d + half b, col s] := by
  decide +kernel
theorem gOff_inb (b : Bool) (s : Fin 4) (t : Fin 16) (d : Dev nD) : ∀ a, gOff b s t d a + S64x512.size a ≤ S2048x2048.size a := by
  revert b s t d; decide +kernel
def outV (b : Bool) (s : Fin 4) (t : Fin 16) (d : Dev nD) : Memref sig .tc .vmem S64x512 .f32 :=
  out.slice (Rect.unit (s := S2048x2048) (gOff b s t d) S64x512.size (gOff_inb b s t d)) (fun _ => rfl)

/-- The offset at which the device's own block is stored. -/
def sOff (b : Bool) (s : Fin 4) (d : Dev nD) : Fin 2 → Nat :=
  match b, s with
  | false, 0 => k0_off5 d
  | false, 1 => k0_off9 d
  | false, 2 => k0_off13 d
  | false, 3 => k0_off17 d
  | true, 0 => k0_off7 d
  | true, 1 => k0_off11 d
  | true, 2 => k0_off15 d
  | true, 3 => k0_off19 d
theorem sOff_eq : ∀ (b : Bool) (s : Fin 4) (d : Dev nD), sOff b s d = gOff b s 0 d := by decide +kernel
theorem sOff_inb (b : Bool) (s : Fin 4) (d : Dev nD) : ∀ a, sOff b s d a + S64x512.size a ≤ S2048x2048.size a := by
  rw [sOff_eq]; exact gOff_inb b s 0 d
def rectS (b : Bool) (s : Fin 4) (d : Dev nD) : Rect S2048x2048 := Rect.unit (s := S2048x2048) (sOff b s d) S64x512.size (sOff_inb b s d)

theorem inbG (s : Fin 4) : ∀ a, (![col s] : Fin 1 → Nat) a + S512.size a ≤ S2048.size a := by revert s; decide
def rectG (s : Fin 4) : Rect S2048 := Rect.unit (s := S2048) ![col s] S512.size (inbG s)

/-- The device that ring `b` sends to. -/
def nbr (b : Bool) (d : Dev nD) : Dev nD := match b with | false => ⟨k0_dev3 d, k0_dev3_lt d⟩ | true => ⟨k0_dev4 d, k0_dev4_lt d⟩

/-! ## The instructions -/

inductive Ins where
  | startResid (b : Bool) | waitResid (b : Bool)
  | startPart (b : Bool) (h : Fin 16) | waitPart (b : Bool) (h : Fin 16)
  | send (b : Bool) (h : Fin 15) (s : Fin 4) | waitSend (b : Bool) (h : Fin 15) (s : Fin 4)
  | waitRecv (b : Bool) (h : Fin 15) (s : Fin 4) | accum (b : Bool) (h : Fin 14) (s : Fin 4)
  | agSend (b : Bool) (t : Fin 15) (s : Fin 4) | agWaitSend (b : Bool) (t : Fin 15) (s : Fin 4)
  | agWaitRecv (b : Bool) (t : Fin 15) (s : Fin 4)

abbrev K := Prog (TpuEff nD τ sig (Elt F) Λ₀ .tc) PUnit

def sumPay (v w : Vec F S1x64x512 .f32) : FVec F S1x64x512 .f32 :=
  shapeCast S1x64x512 (addf (shapeCast S64x512 v shapeCasts_S1x64x512_S64x512) (shapeCast S64x512 w shapeCasts_S1x64x512_S64x512)) shapeCasts_S64x512_S1x64x512

/-- What an instruction does. -/
def act (d : Dev nD) : Ins → K (F := F)
  | .startResid b => Prog.lift (.enqueueDma (residV b d) (.here (slotV rbuf (rSlot b))) (.dma (residSem b)) (View.wordExact_bits rfl) ((View.wordExact_bits rfl).reshape _ _) ⟨Or.inl rfl, trivial⟩)
  | .waitResid b => Prog.lift (.waitDma2 (residSem b) (residV b d) (slotV rbuf (rSlot b)) (View.wordExact_bits rfl) ((View.wordExact_bits rfl).reshape _ _))
  | .startPart b h => Prog.lift (.enqueueDma (partV b h d) (.here (slotV (pbuf b) (par h))) (.dma (partSem b (par h))) ((View.wordExact_bits rfl).reshape _ _) ((View.wordExact_bits rfl).reshape _ _) ⟨Or.inl rfl, trivial⟩)
  | .waitPart b h => Prog.lift (.waitDma2 (partSem b (par h)) (partV b h d) (slotV (pbuf b) (par h)) ((View.wordExact_bits rfl).reshape _ _) ((View.wordExact_bits rfl).reshape _ _))
  | .send b h s => Prog.lift (.enqueueDma (fromV b h s) (.remote (Dev.tc (nbr b d)) (landV b h s) (.dma (sendSem b (par h) s))) (.dma (recvSem b h s)) (View.wordExact_bits rfl) ((View.wordExact_bits rfl).reshape _ _) ⟨⟨rfl, Or.inl rfl⟩, trivial⟩)
  | .waitSend b h s => Prog.lift (.waitDma2 (sendSem b (par h) s) (landV b h s) (fromV b h s) ((View.wordExact_bits rfl).reshape _ _) (View.wordExact_bits rfl))
  | .waitRecv b h s => Prog.lift (.waitDma2 (recvSem b h s) (fromV b h s) (landV b h s) (View.wordExact_bits rfl) ((View.wordExact_bits rfl).reshape _ _))
  | .accum b h s => do
      let v : Vec F S1x64x512 .f32 ← Prog.lift (.load (comm b) (rectKC h.castSucc s).toLoadRect (View.loadsAt_vmem h_S1x64x512))
      let w : Vec F S1x64x512 .f32 ← Prog.lift (.load (pbuf b) (rectPC (par (h.val + 1)) s).toLoadRect (View.loadsAt_vmem h_S1x64x512))
      let _u : Vec F S1x64x512 .f32 ← Prog.lift (.load (comm b) (rectKC h.castSucc s).toLoadRect (View.loadsAt_vmem h_S1x64x512))
      Prog.lift (.store (comm b) (rectKC h.castSucc s) (sumPay v w) Finset.univ (View.stores_vmem_bits_univ h_S1x64x512 rfl) (.inl rfl))
  | .agSend b t s => Prog.lift (.enqueueDma (outV b s t.castSucc d) (.remote (Dev.tc (nbr b d)) (outV b s t.castSucc d) (.dma (agSendSem b (par t) s))) (.dma (agRecvSem b t s)) (View.wordExact_bits rfl) (View.wordExact_bits rfl) ⟨⟨rfl, Or.inl rfl⟩, trivial⟩)
  | .agWaitSend b t s => Prog.lift (.waitDma2 (agSendSem b (par t) s) (outV b s t.castSucc d) (outV b s t.castSucc d) (View.wordExact_bits rfl) (View.wordExact_bits rfl))
  | .agWaitRecv b t s => Prog.lift (.waitDma2 (agRecvSem b t s) (outV b s t.succ d) (outV b s t.succ d) (View.wordExact_bits rfl) (View.wordExact_bits rfl))

def run (d : Dev nD) : List Ins → K (F := F)
  | [] => .ret ⟨⟩
  | i :: l => act d i >>= fun _ => run d l

def both (f : Bool → Ins) : List Ins := [f false, f true]
def cols (f : Fin 4 → List Ins) : List Ins := f 0 ++ f 1 ++ f 2 ++ f 3

def hop0 : List Ins :=
  both (.waitPart · 0) ++ both (.startPart · 1) ++ cols fun s => both (.send · 0 s)
def hop1 : List Ins :=
  both (.waitPart · 1) ++ (cols fun s => both (.waitSend · 0 s)) ++ both (.startPart · 2) ++
    cols fun s => [.waitRecv false 0 s, .accum false 0 s, .waitRecv true 0 s, .accum true 0 s] ++ both (.send · 1 s)
def hop2 : List Ins :=
  both (.waitPart · 2) ++ both (.startPart · 3) ++
    cols fun s => [.waitRecv false 1 s, .accum false 1 s, .waitRecv true 1 s, .accum true 1 s] ++ both (.send · 2 s)
/-- Hop `h + 3`. -/
def hopN (h : Fin 12) : List Ins :=
  both (.waitPart · ⟨h.val + 3, by omega⟩) ++ both (.startPart · ⟨h.val + 4, by omega⟩) ++
    cols fun s => [.waitRecv false ⟨h.val + 2, by omega⟩ s, .accum false ⟨h.val + 2, by omega⟩ s,
      .waitRecv true ⟨h.val + 2, by omega⟩ s, .accum true ⟨h.val + 2, by omega⟩ s] ++
      both (.waitSend · ⟨h.val + 1, by omega⟩ s) ++ both (.send · ⟨h.val + 3, by omega⟩ s)

/-- The reduce-scatter. -/
def scatter : List Ins :=
  both .startResid ++ both (.startPart · 0) ++ hop0 ++ hop1 ++ hop2 ++
    hopN 0 ++ hopN 1 ++ hopN 2 ++ hopN 3 ++ hopN 4 ++ hopN 5 ++ hopN 6 ++ hopN 7 ++ hopN 8 ++ hopN 9 ++ hopN 10 ++ hopN 11 ++
    both (.waitPart · 15) ++ both .waitResid

def ag1 : List Ins := cols fun s => both (.agWaitRecv · 0 s) ++ both (.agSend · 1 s)
/-- Hop `h + 2` of the all-gather. -/
def agN (h : Fin 13) : List Ins :=
  cols fun s => both (.agWaitRecv · ⟨h.val + 1, by omega⟩ s) ++ both (.agWaitSend · ⟨h.val, by omega⟩ s) ++
    both (.agSend · ⟨h.val + 2, by omega⟩ s)
/-- The all-gather. -/
def gather : List Ins :=
  (cols fun s => [.waitSend false 13 s, .waitSend false 14 s, .waitSend true 13 s, .waitSend true 14 s]) ++
    ag1 ++ agN 0 ++ agN 1 ++ agN 2 ++ agN 3 ++ agN 4 ++ agN 5 ++ agN 6 ++ agN 7 ++ agN 8 ++ agN 9 ++ agN 10 ++ agN 11 ++ agN 12 ++
    (cols fun s => both (.agWaitRecv · 14 s)) ++
    cols fun s => [.agWaitSend false 13 s, .agWaitSend false 14 s, .agWaitSend true 13 s, .agWaitSend true 14 s]

/-! ## The norm -/

/-- One column block of the summed rows. -/
def yPay (u v w : Vec F S1x64x512 .f32) : FVec F S64x512 .f32 :=
  addf (addf (shapeCast S64x512 u shapeCasts_S1x64x512_S64x512) (shapeCast S64x512 v shapeCasts_S1x64x512_S64x512)) (shapeCast S64x512 w shapeCasts_S1x64x512_S64x512)
/-- Its sum of squares along the columns. -/
def sqPay (y : FVec F S64x512 .f32) : FVec F S64x1 .f32 :=
  shapeCast S64x1 (multiReduction .add [1] S64 (mulf y y) 0x00000000#32 reduces_S64x512_S64 (.inl rfl) rfl) shapeCasts_S64_S64x1
/-- The rows' inverse root mean square. -/
def invPay (y0 y1 y2 y3 : FVec F S64x512 .f32) : FVec F S64x1 .f32 :=
  rsqrt (addf (divf (addf (addf (addf (addf (broadcast S64x1 (Scalar.ofBits .f32 0x00000000#32)) (sqPay y0)) (sqPay y1)) (sqPay y2)) (sqPay y3))
    (broadcast S64x1 (Scalar.ofBits .f32 0x45000000#32))) (broadcast S64x1 (Scalar.ofBits .f32 0x358637BD#32)))
/-- The normalised block. -/
def outPay (y : FVec F S64x512 .f32) (iv : FVec F S64x1 .f32) (g : Vec F S512 .f32) : FVec F S64x512 .f32 :=
  mulf (mulf y (broadcastTo S64x512 iv broadcasts_S64x1_S64x512))
    (broadcastTo S64x512 (shapeCast S1x512 (shapeCast S512 g shapeCasts_S512_S512) shapeCasts_S512_S1x512) broadcasts_S1x512_S64x512)

/-- Wait for the last hop's column block `s` on ring `b`, and sum the block. -/
def sumUp (b : Bool) (s : Fin 4) : Prog (TpuEff nD τ sig (Elt F) Λ₀ .tc) (FVec F S64x512 .f32) := do
  Prog.lift (.waitDma2 (recvSem b 14 s) (fromV b 14 s) (landV b 14 s) (View.wordExact_bits rfl) ((View.wordExact_bits rfl).reshape _ _))
  let u : Vec F S1x64x512 .f32 ← Prog.lift (.load (comm b) (rectKC 14 s).toLoadRect (View.loadsAt_vmem h_S1x64x512))
  let v : Vec F S1x64x512 .f32 ← Prog.lift (.load (pbuf b) (rectPC 1 s).toLoadRect (View.loadsAt_vmem h_S1x64x512))
  let w : Vec F S1x64x512 .f32 ← Prog.lift (.load rbuf (rectPC (rSlot b) s).toLoadRect (View.loadsAt_vmem h_S1x64x512))
  .ret (yPay u v w)

/-- Store the device's own block of ring `b`, column block `s`, and start passing it on. -/
def putOut (d : Dev nD) (b : Bool) (s : Fin 4) (p : FVec F S64x512 .f32) : K (F := F) := do
  let _u : Vec F S64x512 .f32 ← Prog.lift (.load out (rectS b s d).toLoadRect (View.loadsAt_vmem h_S64x512))
  Prog.lift (.store out (rectS b s d) p Finset.univ (View.stores_vmem_bits_univ h_S64x512 rfl) (.inl rfl))
  act d (.agSend b 0 s)

def loadG (s : Fin 4) : Prog (TpuEff nD τ sig (Elt F) Λ₀ .tc) (Vec F S512 .f32) :=
  Prog.lift (.load gam (rectG s).toLoadRect (View.loadsAt_vmem h_S512))

def norm (d : Dev nD) : K (F := F) := do
  let y0 ← sumUp false 0
  let z0 ← sumUp true 0
  let y1 ← sumUp false 1
  let z1 ← sumUp true 1
  let y2 ← sumUp false 2
  let z2 ← sumUp true 2
  let y3 ← sumUp false 3
  let z3 ← sumUp true 3
  let g0 ← loadG 0
  putOut d false 0 (outPay y0 (invPay y0 y1 y2 y3) g0)
  putOut d true 0 (outPay z0 (invPay z0 z1 z2 z3) g0)
  let g1 ← loadG 1
  putOut d false 1 (outPay y1 (invPay y0 y1 y2 y3) g1)
  putOut d true 1 (outPay z1 (invPay z0 z1 z2 z3) g1)
  let g2 ← loadG 2
  putOut d false 2 (outPay y2 (invPay y0 y1 y2 y3) g2)
  putOut d true 2 (outPay z2 (invPay z0 z1 z2 z3) g2)
  let g3 ← loadG 3
  putOut d false 3 (outPay y3 (invPay y0 y1 y2 y3) g3)
  putOut d true 3 (outPay z3 (invPay z0 z1 z2 z3) g3)

def barSem := (SemArray.scalar (sig.barrier 0 rfl) : Sems sig S_).sem

/-- The three operations on the barrier. -/
def meet (d : Dev nD) : K (F := F) := do
  semSignalWord (⟨k0_dev1 d, k0_dev1_lt d⟩ : Dev nD) barSem 1#32
  semSignalWord (⟨k0_dev2 d, k0_dev2_lt d⟩ : Dev nD) barSem 1#32
  semWaitWord barSem 2#32

/-- The whole body. -/
def body : K (F := F) := do
  let d ← Prog.lift .deviceId
  meet d
  run d scatter
  norm d
  run d gather

end Cert.KernelIdeal.Ar
-- ==== Proof.KernelIdeal.Cells.lean ====
/-
  What the protocol moves and through which semaphores: the contents of every block in flight as a
  function of the memory at launch, the semaphores as cells, and the schedule saying which transfer
  completes in which round of which cell and what it hands over.
-/
module

public import proofs.«01_k».proof.Proof.KernelIdeal.Prog
public import Idealize.ShloMosaic.Lib.Pipeline.Launch
public import Idealize.ShloMosaic.Lib.Pipeline.Kit

@[expose] public section

noncomputable section

namespace Cert.KernelIdeal.Ar

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The ring -/

/-- The device that ring `b` hears from. -/
def prev (b : Bool) (d : Dev nD) : Dev nD :=
  match b with
  | false => ⟨(d.val + 15) % 16, Nat.mod_lt _ (by decide)⟩
  | true => ⟨(d.val + 1) % 16, Nat.mod_lt _ (by decide)⟩

theorem nbr_prev : ∀ (b : Bool) (d : Dev nD), nbr b (prev b d) = d := by decide +kernel
theorem prev_nbr : ∀ (b : Bool) (d : Dev nD), prev b (nbr b d) = d := by decide +kernel
/-- The ring as a permutation of the devices. -/
def ring (b : Bool) : Dev nD ≃ Dev nD := ⟨nbr b, prev b, prev_nbr b, nbr_prev b⟩
/-- The first signal goes to the device that the right ring hears from, the second to the left ring's. -/
theorem dev1_eq : ∀ d : Dev nD, (⟨k0_dev1 d, k0_dev1_lt d⟩ : Dev nD) = prev false d := by decide +kernel
theorem dev2_eq : ∀ d : Dev nD, (⟨k0_dev2 d, k0_dev2_lt d⟩ : Dev nD) = prev true d := by decide +kernel

/-- The device `n` hops back. -/
def back (b : Bool) : ℕ → Dev nD → Dev nD
  | 0, d => d
  | n + 1, d => back b n (prev b d)

/-- A block of the result passed on is the block that the next device receives. -/
theorem gOff_nbr : ∀ (b : Bool) (s : Fin 4) (t : Fin 15) (d : Dev nD),
    gOff b s t.castSucc d = gOff b s t.succ (nbr b d) := by decide +kernel

/-! ## Contents -/

/-- The rows of the device's partial that ring `b` adds at hop `h`. -/
def px (b : Bool) (h : Fin 16) (c : Dev nD) : Vec F S64x2048 .f32 :=
  (partV b h c).view.read (Elt F) (m ((c : Thread nD τ).loc main_arg0))
/-- The rows of the residual for the block that ring `b` completes on the device. -/
def rx (b : Bool) (c : Dev nD) : Vec F S64x2048 .f32 :=
  (residV b c).view.read (Elt F) (m ((c : Thread nD τ).loc main_arg1))
/-- Column block `s` of the scale. -/
def gx (s : Fin 4) (c : Dev nD) : Vec F S512 .f32 :=
  (gam.access (rectG s)).read (Elt F) (m ((c : Thread nD τ).loc main_arg2))

/-- Column block `s` of 64 rows. -/
def colsOf (s : Fin 4) (X : Vec F S64x2048 .f32) : Vec F S64x512 .f32 :=
  fun i => X ((Rect.unit (s := S64x2048) ![0, col s] S64x512.size (inbC s)).emb i)

def hop (n : ℕ) : Fin 16 := ⟨n % 16, Nat.mod_lt _ (by decide)⟩
theorem hop_val (h : Fin 16) : hop h.val = h := Fin.ext (Nat.mod_eq_of_lt h.isLt)

/-- What the device sends at hop `n`: its own rows, added to what the device before it sent at the hop before. -/
def sv (b : Bool) (s : Fin 4) : ℕ → Dev nD → Vec F S64x512 .f32
  | 0, c => colsOf s (px m b 0 c)
  | n + 1, c => addf (sv b s n (prev b c) : FVec F S64x512 .f32) (colsOf s (px m b (hop (n + 1)) c) : FVec F S64x512 .f32)

/-- The rows to normalise: the sixteen partials' rows and the residual's. -/
def yv (b : Bool) (s : Fin 4) (c : Dev nD) : FVec F S64x512 .f32 :=
  addf (addf (sv m b s 14 (prev b c) : FVec F S64x512 .f32) (colsOf s (px m b 15 c))) (colsOf s (rx m b c))
/-- The normalised rows. -/
def ov (b : Bool) (s : Fin 4) (c : Dev nD) : FVec F S64x512 .f32 :=
  outPay (yv m b s c) (invPay (yv m b 0 c) (yv m b 1 c) (yv m b 2 c) (yv m b 3 c)) (gx m s c)
/-- The `t`-th block of the result that ring `b` passes through the device. -/
def fv (b : Bool) (s : Fin 4) (t : ℕ) (c : Dev nD) : FVec F S64x512 .f32 := ov m b s (back b t c)

/-! ## The cells -/

/-- The transfers' semaphores; `ph` says whether the transfer is of the reduce-scatter or of the all-gather. -/
inductive Cel where
  | part (b : Bool) (j : Fin 2) | resid (b : Bool)
  | send (ph b : Bool) (j : Fin 2) (s : Fin 4) | recv (ph b : Bool) (h : Fin 15) (s : Fin 4)
  deriving DecidableEq

def f2 (n : ℕ) : Fin 2 := ⟨n % 2, Nat.mod_lt _ (by decide)⟩
def f4 (n : ℕ) : Fin 4 := ⟨n % 4, Nat.mod_lt _ (by decide)⟩
def f15 (n : ℕ) : Fin 15 := ⟨n % 15, Nat.mod_lt _ (by decide)⟩
theorem f15_val (h : Fin 15) : f15 h.val = h := Fin.ext (Nat.mod_eq_of_lt h.isLt)

/-- The cell that a semaphore's number names. -/
def cel (n : ℕ) : Cel :=
  if n < 6 then .part (decide (4 ≤ n)) (f2 n)
  else if n < 22 then .send false (decide (14 ≤ n)) (f2 ((n - 6) / 4)) (f4 (n - 6))
  else if n < 142 then .recv false (decide (82 ≤ n)) (f15 ((n - 22) / 4)) (f4 (n - 22))
  else if n < 158 then .send true (decide (150 ≤ n)) (f2 ((n - 142) / 4)) (f4 (n - 142))
  else if n < 278 then .recv true (decide (218 ≤ n)) (f15 ((n - 158) / 4)) (f4 (n - 158))
  else .resid (decide (n = 279))

/-- The semaphore of a cell. -/
def dsem : Cel → DmaSem sig
  | .part b j => partSem b j
  | .resid b => residSem b
  | .send false b j s => sendSem b j s
  | .send true b j s => agSendSem b j s
  | .recv false b h s => recvSem b h s
  | .recv true b h s => agRecvSem b h s

/-- The number of a cell's semaphore names the cell. -/
theorem cel_dsem (k : Cel) : cel (dsem k).val = k := by
  match k with
  | .part b j => revert b j; decide +kernel
  | .resid b => revert b; decide +kernel
  | .send false b j s => revert b j s; decide +kernel
  | .send true b j s => revert b j s; decide +kernel
  | .recv false b h s => revert b h s; decide +kernel
  | .recv true b h s => revert b h s; decide +kernel

theorem dsem_inj {k k' : Cel} (h : dsem k = dsem k') : k = k' := by
  rw [← cel_dsem k, ← cel_dsem k', h]

abbrev dcell (c : Dev nD) (k : Cel) : GSem nD τ sig := ((c : Thread nD τ), .dma (dsem k))
abbrev barCell (c : Dev nD) : GSem nD τ sig := ((c : Thread nD τ), .reg barSem)

/-! ## Amounts -/

/-- The units of a transfer of 64 rows and 512 columns, and of one of 64 whole rows. -/
abbrev N1 : ℕ := (landV false 0 0).view.dmaCredit
abbrev N2 : ℕ := (slotV rbuf 0).view.dmaCredit
theorem N1_pos : 0 < N1 := View.dmaCredit_pos _ (by decide)
theorem N2_pos : 0 < N2 := View.dmaCredit_pos _ (by decide)
theorem land_credit (b : Bool) (h : Fin 15) (s : Fin 4) : (landV b h s).view.dmaCredit = N1 := by cases b <;> rfl
theorem out_credit (b : Bool) (s : Fin 4) (t : Fin 16) (c : Dev nD) : (outV b s t c).view.dmaCredit = N1 := rfl
theorem slot_credit (b : Bool) (j : Fin 2) : (slotV (pbuf b) j).view.dmaCredit = N2 := by cases b <;> rfl
theorem rslot_credit (j : Fin 2) : (slotV rbuf j).view.dmaCredit = N2 := rfl
theorem from_credit (b : Bool) (h : Fin 15) (s : Fin 4) : (fromV b h s).view.dmaCredit = N1 := by
  rcases h with ⟨_ | n, hn⟩ <;> cases b <;> rfl

/-! ## The schedule -/

/-- A memref's elements, holding anything. -/
def anyAt (c : Dev nD) {sp : Space} {sh : Shape} {e : EltTy} (M : Memref sig .tc sp sh e) : sProp 𝕄 :=
  iprop(∃ f, M.view.loc (c : Thread nD τ) ↦[M.view.set]{fullShare} f)
instance anyAt_storable (c : Dev nD) {sp : Space} {sh : Shape} {e : EltTy} (M : Memref sig .tc sp sh e) :
    BI.Storable (upEmb : UEmb _ 𝕄) (anyAt (F := F) c M) := by unfold anyAt; infer_instance
/-- A memref's elements, holding `X`. -/
abbrev at_ (c : Dev nD) {sp : Space} {sh : Shape} {e : EltTy} (M : Memref sig .tc sp sh e) (X : sh.Idx → Elt F e) : sProp 𝕄 :=
  owns (c : Thread nD τ) M fullShare X

/-- A memref's elements at a share, its buffer holding `f`. -/
def srcAt (c : Dev nD) {sp : Space} {sh : Shape} {e : EltTy} (M : Memref sig .tc sp sh e) (q : PosShare TreeShare)
    (f : Buf (Elt F) (M.view.loc (c : Thread nD τ))) : sProp 𝕄 :=
  M.view.loc (c : Thread nD τ) ↦[M.view.set]{q} f
instance srcAt_storable (c : Dev nD) {sp : Space} {sh : Shape} {e : EltTy} (M : Memref sig .tc sp sh e) (q : PosShare TreeShare)
    (f : Buf (Elt F) (M.view.loc (c : Thread nD τ))) : BI.Storable (upEmb : UEmb _ 𝕄) (srcAt (F := F) c M q f) := by
  unfold srcAt; infer_instance

/-- The share of the partial that the transfers of ring `b` into slot `j` read under. -/
def pshr (b : Bool) (j : Fin 2) : PosShare TreeShare :=
  match b, j with
  | false, 0 => fullShare.left.left
  | false, 1 => fullShare.left.right
  | true, 0 => fullShare.right.left
  | true, 1 => fullShare.right.right
/-- The share of the residual that ring `b` reads under. -/
def rshr (b : Bool) : PosShare TreeShare := match b with | false => fullShare.left | true => fullShare.right

/-- The rows of the partial being read at hop `h`, and the rows of the residual. -/
def psrc (c : Dev nD) (b : Bool) (h : Fin 16) : sProp 𝕄 := srcAt c (partV b h c) (pshr b (par h)) (m ((c : Thread nD τ).loc main_arg0))
def rsrc (c : Dev nD) (b : Bool) : sProp 𝕄 := srcAt c (residV b c) (rshr b) (m ((c : Thread nD τ).loc main_arg1))
instance psrc_storable (c : Dev nD) (b : Bool) (h : Fin 16) : BI.Storable (upEmb : UEmb _ 𝕄) (psrc m c b h) := srcAt_storable _ _ _ _
instance rsrc_storable (c : Dev nD) (b : Bool) : BI.Storable (upEmb : UEmb _ 𝕄) (rsrc m c b) := srcAt_storable _ _ _ _

/-- The hop of round `r` of a cell of parity `j`. -/
def rnd (r : ℕ) (j : Fin 2) : ℕ := 2 * r + j.val

/-- What round `r` of a cell hands to its device. -/
def pay (c : Dev nD) (k : Cel) (r : ℕ) : sProp 𝕄 :=
  match k with
  | .part b j => iprop(at_ c (slotV (pbuf b) j) (px m b (hop (rnd r j)) c)
      ∗ psrc m c b (hop (rnd r j)))
  | .resid b => iprop(at_ c (slotV rbuf (rSlot b)) (rx m b c)
      ∗ rsrc m c b)
  | .send false b j s => at_ c (fromV b (f15 (rnd r j)) s) (sv m b s (f15 (rnd r j)).val c)
  | .send true b j s => at_ c (outV b s (f15 (rnd r j)).castSucc c) (fv m b s (f15 (rnd r j)).val c)
  | .recv false b h s => at_ c (landV b h s) (sv m b s h.val (prev b c))
  | .recv true b t s => at_ c (outV b s t.succ c) (fv m b s (t.val + 1) c)
instance pay_storable (c : Dev nD) (k : Cel) (r : ℕ) : BI.Storable (upEmb : UEmb _ 𝕄) (pay m c k r) := by
  match k with
  | .part b j => unfold pay; dsimp only; infer_instance
  | .resid b => unfold pay; dsimp only; infer_instance
  | .send false b j s => unfold pay; dsimp only; infer_instance
  | .send true b j s => unfold pay; dsimp only; infer_instance
  | .recv false b h s => unfold pay; dsimp only; infer_instance
  | .recv true b h s => unfold pay; dsimp only; infer_instance

/-- What the barrier's duty `b` hands to the device: the blocks on the device that ring `b` sends to, where the
    device's transfers will land. -/
def barPay (c : Dev nD) (b : Bool) : sProp 𝕄 :=
  bigSep Finset.univ fun x : Fin 15 × Fin 4 =>
    iprop(anyAt (nbr b c) (landV b x.1 x.2) ∗ anyAt (nbr b c) (outV b x.2 x.1.castSucc c))
instance barPay_storable (c : Dev nD) (b : Bool) : BI.Storable (upEmb : UEmb _ 𝕄) (barPay (F := F) c b) := by
  unfold barPay; infer_instance

/-- The rounds of a cell. -/
def rounds : Cel → ℕ
  | .part _ _ => 8
  | .resid _ => 1
  | .send _ _ j _ => 8 - j.val
  | .recv _ _ _ _ => 1
def amt : Cel → ℕ
  | .part _ _ => N2
  | .resid _ => N2
  | .send _ _ _ _ => N1
  | .recv _ _ _ _ => N1
theorem amt_pos (k : Cel) : 0 < amt k := by
  cases k <;> first | exact N1_pos | exact N2_pos

/-- The barrier has one round of two duties of one unit; a transfer's cell one duty a round. -/
def rd : Rounds.Schedule (GSem nD τ sig) Bool 𝕄 where
  duties g r := match g.2 with
    | .reg _ => if r = 0 then Finset.univ else ∅
    | .dma q => if r < rounds (cel q.val) then {false} else ∅
  unitless _ := False
  amount g _ _ := match g.2 with
    | .reg _ => 1
    | .dma q => amt (cel q.val)
  payload g r d := match g.2 with
    | .reg _ => barPay g.1.1 d
    | .dma q => pay m g.1.1 (cel q.val) r
  amount_pos g _ _ _ := by
    rcases g with ⟨_, _ | q⟩
    · exact Nat.one_pos
    · exact amt_pos _

instance rd_payload_storable (g : GSem nD τ sig) (r : ℕ) (d : Bool) :
    BI.Storable (upEmb : UEmb _ 𝕄) ((rd (F := F) m).payload g r d) := by
  rcases g with ⟨_, _ | q⟩
  · show BI.Storable upEmb (barPay _ _); infer_instance
  · show BI.Storable upEmb (pay m _ _ _); infer_instance

section Sched
variable (c : Dev nD) (k : Cel)

theorem duties_bar : (rd (F := F) m).duties (barCell c) 0 = Finset.univ := rfl
theorem duties_bar_later (r : ℕ) (h : 1 ≤ r) : (rd (F := F) m).duties (barCell c) r = ∅ := if_neg (by omega)
theorem duties_dma (r : ℕ) (h : r < rounds k) : (rd (F := F) m).duties (dcell c k) r = {false} := by
  show (if r < rounds (cel (dsem k).val) then ({false} : Finset Bool) else ∅) = _
  rw [cel_dsem, if_pos h]
theorem duties_dma_later (r : ℕ) (h : rounds k ≤ r) : (rd (F := F) m).duties (dcell c k) r = ∅ := by
  show (if r < rounds (cel (dsem k).val) then ({false} : Finset Bool) else ∅) = _
  rw [cel_dsem, if_neg (by omega)]
theorem amount_bar (r : ℕ) (d : Bool) : (rd (F := F) m).amount (barCell c) r d = 1 := rfl
theorem amount_dma (r : ℕ) (d : Bool) : (rd (F := F) m).amount (dcell c k) r d = amt k := by
  show amt (cel (dsem k).val) = _
  rw [cel_dsem]
theorem payload_bar (r : ℕ) (d : Bool) : (rd (F := F) m).payload (barCell c) r d = barPay c d := rfl
theorem payload_dma (r : ℕ) (d : Bool) : (rd (F := F) m).payload (dcell c k) r d = pay m c k r := by
  show pay m c (cel (dsem k).val) r = _
  rw [cel_dsem]
theorem expect_bar : (rd (F := F) m).expect (barCell c) 0 = 2 := by
  unfold Schedule.expect Schedule.amountOf
  rw [duties_bar, Finset.sum_congr rfl fun d _ => amount_bar m c 0 d, Finset.sum_const, Finset.card_univ, Fintype.card_bool, smul_eq_mul]
theorem expect_dma (r : ℕ) (h : r < rounds k) : (rd (F := F) m).expect (dcell c k) r = amt k := by
  unfold Schedule.expect Schedule.amountOf; rw [duties_dma m c k r h, Finset.sum_singleton, amount_dma]
theorem rest_bar : bigSep ((rd (F := F) m).duties (barCell c) 0 \ ∅) (fun d => (rd (F := F) m).payload (barCell c) 0 d)
    = iprop(barPay c false ∗ barPay c true) := by
  rw [Finset.sdiff_empty, duties_bar, bigSep_univ_eq_bigSepL [false, true] (by decide) (by decide), bigSepL_cons_cons, bigSepL_singleton,
    payload_bar, payload_bar]
  rfl
theorem rest_dma (r : ℕ) (h : r < rounds k) :
    bigSep ((rd (F := F) m).duties (dcell c k) r \ ∅) (fun d => (rd (F := F) m).payload (dcell c k) r d) = pay m c k r := by
  rw [Finset.sdiff_empty, duties_dma m c k r h, bigSep_singleton, payload_dma]

end Sched

/-! ## Levels -/

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl
/-- The place of a receive cell in the order of the hops. -/
def place (ph : Bool) (h : ℕ) : ℕ := match ph with | false => h | true => 18 + h
/-- The barrier below every receive cell, the receive cells in the order of the hops, every other cell at the bottom. -/
def lev : Cel → ℕ
  | .recv ph _ h _ => place ph h.val + 2
  | _ => 0
def lv (g : GSem nD τ sig) (_ : Unit) : ℕ := match g.2 with | .reg _ => 1 | .dma q => if q.val < 2 then 0 else lev (cel q.val)

theorem dsem_ge (k : Cel) : 2 ≤ (dsem k).val := by
  match k with
  | .part b j => revert b j; decide +kernel
  | .resid b => revert b; decide +kernel
  | .send false b j s => revert b j s; decide +kernel
  | .send true b j s => revert b j s; decide +kernel
  | .recv false b h s => revert b h s; decide +kernel
  | .recv true b h s => revert b h s; decide +kernel
theorem lv_dcell (c : Dev nD) (k : Cel) : lv (dcell c k) () = lev k := by
  show (if (dsem k).val < 2 then 0 else lev (cel (dsem k).val)) = _
  rw [if_neg (by have := dsem_ge k; omega), cel_dsem]
theorem lv_bar (c : Dev nD) : lv (barCell c) () = 1 := rfl

end Cert.KernelIdeal.Ar
-- ==== Proof.KernelIdeal.Views.lean ====
/-
  The buffers cut into the blocks that move: the landing buffers by hop and column block, the two-slot buffers by
  slot and column block, the result by the rows and columns of the blocks passed round the ring; and the same
  block named in two ways.
-/
module

public import proofs.«01_k».proof.Proof.KernelIdeal.Cells
public import Idealize.ShloMosaic.Lib.Memref
public import Idealize.ShloMosaic.Lib.ValueLayout
public import Idealize.ShloMosaic.Lib.Pipeline.Value

@[expose] public section

noncomputable section

namespace Cert.KernelIdeal.Ar

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

/-! ## Holding a memref -/

section Generic

variable (c : Dev nD) {sp : Space} {sh : Shape} {e : EltTy} (M : Memref sig .tc sp sh e)

theorem any_of_at (X : sh.Idx → Elt F e) : at_ c M X ⊢ anyAt (F := F) c M := by
  unfold at_ owns anyAt
  iintro ⟨%f, -, H⟩
  iexists f; iexact H

theorem at_of_any : anyAt (F := F) c M ⊢ iprop(∃ X, at_ c M X) := by
  unfold at_ owns anyAt
  iintro ⟨%f, H⟩
  iexists M.view.read (Elt F) f
  iexists f
  isplitr; · ipureintro; rfl
  iexact H

/-- A memref squeezed is held as the memref is. -/
theorem any_squeeze (s' : Shape) (hq : sh.Squeezes s') : anyAt (F := F) c (M.squeeze s' hq) = anyAt c M := by
  have h : ((M.squeeze s' hq).view.set : Finset (Idx (M.view.loc (c : Thread nD τ)))) = M.view.set := View.set_reshape _ _
  show iprop(∃ f : Buf (Elt F) (M.view.loc (c : Thread nD τ)), M.view.loc (c : Thread nD τ) ↦[(M.squeeze s' hq).view.set]{fullShare} f) = _
  rw [h]; rfl

theorem at_squeeze (s' : Shape) (hq : sh.Squeezes s') (hc : sh.ShapeCasts s') (X : sh.Idx → Elt F e) :
    at_ c M X ⊢ at_ c (M.squeeze s' hq) (shapeCast s' X hc) := by
  have h : ((M.squeeze s' hq).view.set : Finset (Idx (M.view.loc (c : Thread nD τ)))) = M.view.set := View.set_reshape _ _
  unfold at_ owns
  iintro ⟨%f, %hf, H⟩
  iexists f
  isplitr
  · ipureintro; rw [← hf]; rfl
  · iapply (show (M.view.loc (c : Thread nD τ) ↦[M.view.set]{fullShare} f : sProp 𝕄)
      ⊢ (M.view.loc (c : Thread nD τ) ↦[(M.squeeze s' hq).view.set]{fullShare} f) from by rw [h])
    iexact H

/-- The memref of a labelled family of rectangles: each element in the one rectangle that its label names. -/
theorem lab_disj {T : Type} (r : T → Rect sh) (lab : sh.Idx → T) (h : ∀ t i, i ∈ (r t).set ↔ lab i = t) (t t' : T) (htt : t ≠ t') :
    Disjoint (r t).set (r t').set :=
  Finset.disjoint_left.mpr fun i hi hi' => htt (((h t i).mp hi).symm.trans ((h t' i).mp hi'))
theorem lab_cover {T : Type} [Fintype T] (r : T → Rect sh) (lab : sh.Idx → T) (h : ∀ t i, i ∈ (r t).set ↔ lab i = t) :
    (Finset.univ : Finset T).biUnion (fun t => (r t).set) = Finset.univ :=
  Finset.eq_univ_of_forall fun i => Finset.mem_biUnion.mpr ⟨lab i, Finset.mem_univ _, (h _ i).mpr rfl⟩

variable {T : Type} [Fintype T] [DecidableEq T] (r : T → Rect sh) (hr : ∀ t a, (r t).stride a = 1)
  (lab : sh.Idx → T) (h : ∀ t i, i ∈ (r t).set ↔ lab i = t)
include h

theorem any_rects : anyAt (F := F) c M ⊢ bigSep Finset.univ fun t => anyAt c (M.slice (r t) (hr t)) := by
  refine (show _ ⊢ _ from ?_ : anyAt (F := F) c M ⊢ iprop(∃ X, at_ c M X)).trans ?_
  · exact at_of_any c M
  iintro ⟨%X, H⟩
  iapply ((owns_rects (c : Thread nD τ) M fullShare r hr (lab_disj r lab h) (lab_cover r lab h) X).trans
    (bigSep_mono fun t _ => any_of_at c (M.slice (r t) (hr t)) _))
  iexact H

theorem any_of_rects [∀ e, Nonempty (Elt F e)] : bigSep Finset.univ (fun t => anyAt c (M.slice (r t) (hr t))) ⊢ anyAt (F := F) c M := by
  refine (show _ ⊢ _ from bigSep_mono fun t _ => at_of_any c (M.slice (r t) (hr t)) :
    bigSep Finset.univ (fun t => anyAt c (M.slice (r t) (hr t)))
      ⊢ bigSep Finset.univ fun t => iprop(∃ X, at_ (F := F) c (M.slice (r t) (hr t)) X)).trans ?_
  refine (BI.bigSep_exists_pi _ _).trans ?_
  iintro ⟨%G, H⟩
  have hex (i : sh.Idx) : ∃ j, (r (lab i)).emb j = i := by
    have := (h (lab i) i).mpr rfl
    rw [← Rect.map_emb_univ, Finset.mem_map] at this
    obtain ⟨j, -, hj⟩ := this
    exact ⟨j, hj⟩
  have hX : ∃ X : sh.Idx → Elt F e, ∀ t j, X ((r t).emb j) = G t j := by
    refine ⟨fun i => G (lab i) (hex i).choose, fun t j => ?_⟩
    have hl : lab ((r t).emb j) = t := (h t _).mp (by
      rw [← Rect.map_emb_univ]; exact Finset.mem_map_of_mem _ (Finset.mem_univ j))
    have key (t' : T) (ht : t' = t) (k : (r t').shape.Idx) (hk : (r t').emb k = (r t).emb j) : G t' k = G t j := by
      subst ht; exact congrArg (G t') ((r t').emb.injective hk)
    exact key _ hl _ (hex _).choose_spec
  obtain ⟨X, hX⟩ := hX
  iapply (any_of_at c M X)
  iapply (owns_of_rects (c : Thread nD τ) M fullShare r hr (lab_disj r lab h) (lab_cover r lab h) X)
  rw [show (fun t => owns (c : Thread nD τ) (M.slice (r t) (hr t)) fullShare fun j => X ((r t).emb j))
    = fun t => (at_ (F := F) c (M.slice (r t) (hr t)) (G t) : sProp 𝕄) from funext fun t => by rw [show (fun j => X ((r t).emb j)) = G t from funext (hX t)]]
  iexact H

end Generic

/-! ## One block, two names -/

/-- Row `j` of a stack of 64-row slabs, then a column block of it: the block of the stack itself. -/
theorem emb_col (n j : ℕ) (s : Fin 4) (h1 : ∀ a, (![j, 0, 0] : Fin 3 → Nat) a + S1x64x2048.size a ≤ (⟨3, ![n, 64, 2048]⟩ : Shape).size a)
    (h2 : ∀ a, (![j, 0, col s] : Fin 3 → Nat) a + S1x64x512.size a ≤ (⟨3, ![n, 64, 2048]⟩ : Shape).size a) (i : S64x512.Idx) :
    (Rect.unit (s := ⟨3, ![n, 64, 2048]⟩) ![j, 0, 0] S1x64x2048.size h1).emb
        (Shape.reshapeEquiv squeezes_S1x64x2048_S64x2048.numel_eq ((Rect.unit (s := S64x2048) ![0, col s] S64x512.size (inbC s)).emb i))
      = (Rect.unit (s := ⟨3, ![n, 64, 2048]⟩) ![j, 0, col s] S1x64x512.size h2).emb (Shape.reshapeEquiv squeezes_S1x64x512_S64x512.numel_eq i) := by
  have e1 : ∀ (x : S64x2048.Idx), Shape.reshapeEquiv squeezes_S1x64x2048_S64x2048.numel_eq x = ix3 (⟨0, Nat.one_pos⟩ : Fin 1) (x 0) (x 1) := fun x => by
    conv_lhs => rw [eq_ix2 x]
    exact reshapeEquiv_ix2_1ab _ _ _
  have e2 : ∀ (x : S64x512.Idx), Shape.reshapeEquiv squeezes_S1x64x512_S64x512.numel_eq x = ix3 (⟨0, Nat.one_pos⟩ : Fin 1) (x 0) (x 1) := fun x => by
    conv_lhs => rw [eq_ix2 x]
    exact reshapeEquiv_ix2_1ab _ _ _
  rw [e1, e2]
  funext a
  refine Fin.ext ?_
  fin_cases a <;> simp [Rect.emb_apply]

variable (c : Dev nD) {sp : Space} {e : EltTy}

theorem at_col {n : ℕ} (M : Memref sig .tc sp ⟨3, ![n, 64, 2048]⟩ e) (j : ℕ) (s : Fin 4)
    (h1 : ∀ a, (![j, 0, 0] : Fin 3 → Nat) a + S1x64x2048.size a ≤ (⟨3, ![n, 64, 2048]⟩ : Shape).size a)
    (h2 : ∀ a, (![j, 0, col s] : Fin 3 → Nat) a + S1x64x512.size a ≤ (⟨3, ![n, 64, 2048]⟩ : Shape).size a) (X : S64x512.Idx → Elt F e) :
    (at_ c (((M.slice (Rect.unit ![j, 0, 0] S1x64x2048.size h1) (fun _ => rfl)).squeeze S64x2048 squeezes_S1x64x2048_S64x2048).slice
        (Rect.unit (s := S64x2048) ![0, col s] S64x512.size (inbC s)) (fun _ => rfl)) X : sProp 𝕄)
      = at_ c ((M.slice (Rect.unit ![j, 0, col s] S1x64x512.size h2) (fun _ => rfl)).squeeze S64x512 squeezes_S1x64x512_S64x512) X := by
  have hemb (i : S64x512.Idx) := emb_col n j s h1 h2 i
  have hs : ((((M.slice (Rect.unit ![j, 0, 0] S1x64x2048.size h1) (fun _ => rfl)).squeeze S64x2048 squeezes_S1x64x2048_S64x2048).slice
        (Rect.unit (s := S64x2048) ![0, col s] S64x512.size (inbC s)) (fun _ => rfl)).view.set : Finset (Idx (M.view.loc (c : Thread nD τ))))
      = ((M.slice (Rect.unit ![j, 0, col s] S1x64x512.size h2) (fun _ => rfl)).squeeze S64x512 squeezes_S1x64x512_S64x512).view.set := by
    unfold View.set
    ext x
    simp only [Finset.mem_map, Finset.mem_univ, true_and]
    exact exists_congr fun i => by
      show M.view.emb _ = x ↔ M.view.emb _ = x
      exact iff_of_eq (congrArg (fun y => M.view.emb y = x) (hemb i))
  have hrd (f : Buf (Elt F) (M.view.loc (c : Thread nD τ))) :
      (((M.slice (Rect.unit ![j, 0, 0] S1x64x2048.size h1) (fun _ => rfl)).squeeze S64x2048 squeezes_S1x64x2048_S64x2048).slice
        (Rect.unit (s := S64x2048) ![0, col s] S64x512.size (inbC s)) (fun _ => rfl)).view.read (Elt F) f
      = ((M.slice (Rect.unit ![j, 0, col s] S1x64x512.size h2) (fun _ => rfl)).squeeze S64x512 squeezes_S1x64x512_S64x512).view.read (Elt F) f := by
    funext i
    show M.view.read (Elt F) f _ = M.view.read (Elt F) f _
    exact congrArg _ (hemb i)
  unfold at_ owns
  show iprop(∃ f : Buf (Elt F) (M.view.loc (c : Thread nD τ)), ⌜_ = X⌝ ∗ (M.view.loc (c : Thread nD τ) ↦[_]{fullShare} f))
    = iprop(∃ f : Buf (Elt F) (M.view.loc (c : Thread nD τ)), ⌜_ = X⌝ ∗ (M.view.loc (c : Thread nD τ) ↦[_]{fullShare} f))
  simp only [hs, hrd]

/-- The block of a two-slot buffer that its loads and stores go through. -/
def pcV (M : Memref sig .tc .vmem S2x64x2048 .f32) (j : Fin 2) (s : Fin 4) : Memref sig .tc .vmem S64x512 .f32 :=
  (M.slice (rectPC j s) (fun _ => rfl)).squeeze S64x512 squeezes_S1x64x512_S64x512

theorem at_pc (M : Memref sig .tc .vmem S2x64x2048 .f32) (j : Fin 2) (s : Fin 4) (X : S64x512.Idx → Elt F .f32) :
    (at_ c (colV (slotV M j) s) X : sProp 𝕄) = at_ c (pcV M j s) X := at_col c M j.val s (inbP j) (inbPC j s) X
theorem at_from (b : Bool) (n : ℕ) (hn : n + 1 < 15) (s : Fin 4) (X : S64x512.Idx → Elt F .f32) :
    (at_ c (fromV b ⟨n + 1, hn⟩ s) X : sProp 𝕄) = at_ c (landV b ⟨n, Nat.lt_of_succ_lt hn⟩ s) X :=
  at_col c (comm b) n s (inbK ⟨n, Nat.lt_of_succ_lt hn⟩) (inbKC ⟨n, Nat.lt_of_succ_lt hn⟩ s) X

theorem any_pc (M : Memref sig .tc .vmem S2x64x2048 .f32) (j : Fin 2) (s : Fin 4) :
    anyAt (F := F) c (colV (slotV M j) s) = anyAt c (pcV M j s) :=
  BI.equiv_iff.mp
    ⟨(at_of_any c _).trans (by iintro ⟨%X, H⟩; iapply (any_of_at c _ X); rw [← at_pc]; iexact H),
     (at_of_any c _).trans (by iintro ⟨%X, H⟩; iapply (any_of_at c _ X); rw [at_pc]; iexact H)⟩

/-! ## The partitions -/

theorem all3 {p : Fin 3 → Prop} : (∀ a, p a) ↔ p 0 ∧ p 1 ∧ p 2 := by simp [Fin.forall_fin_succ]
theorem all2 {p : Fin 2 → Prop} : (∀ a, p a) ↔ p 0 ∧ p 1 := by simp [Fin.forall_fin_succ]

def labC (i : S64x2048.Idx) : Fin 4 := ⟨(i 1).val / 512, by have : (i 1).val < 2048 := (i 1).isLt; omega⟩
theorem labC_iff (s : Fin 4) (i : S64x2048.Idx) : i ∈ (Rect.unit (s := S64x2048) ![0, col s] S64x512.size (inbC s)).set ↔ labC i = s := by
  have h0 : (i 0).val < 64 := (i 0).isLt
  have h1 : (i 1).val < 2048 := (i 1).isLt
  rw [Rect.mem_set_unit, all2, Fin.ext_iff]
  show (0 ≤ (i 0).val ∧ (i 0).val < 0 + 64) ∧ (512 * s.val ≤ (i 1).val ∧ (i 1).val < 512 * s.val + 512) ↔ (i 1).val / 512 = s.val
  omega

def labP (i : S2x64x2048.Idx) : Fin 2 × Fin 4 :=
  (⟨(i 0).val, (i 0).isLt⟩, ⟨(i 2).val / 512, by have : (i 2).val < 2048 := (i 2).isLt; omega⟩)
theorem labP_iff (x : Fin 2 × Fin 4) (i : S2x64x2048.Idx) : i ∈ (rectPC x.1 x.2).set ↔ labP i = x := by
  have h1 : (i 1).val < 64 := (i 1).isLt
  have h2 : (i 2).val < 2048 := (i 2).isLt
  unfold rectPC
  rw [Rect.mem_set_unit, all3, Prod.ext_iff, Fin.ext_iff, Fin.ext_iff]
  show (x.1.val ≤ (i 0).val ∧ (i 0).val < x.1.val + 1) ∧ (0 ≤ (i 1).val ∧ (i 1).val < 0 + 64) ∧ (512 * x.2.val ≤ (i 2).val ∧ (i 2).val < 512 * x.2.val + 512)
    ↔ (i 0).val = x.1.val ∧ (i 2).val / 512 = x.2.val
  omega

def labK (i : S15x64x2048.Idx) : Fin 15 × Fin 4 :=
  (⟨(i 0).val, (i 0).isLt⟩, ⟨(i 2).val / 512, by have : (i 2).val < 2048 := (i 2).isLt; omega⟩)
theorem labK_iff (x : Fin 15 × Fin 4) (i : S15x64x2048.Idx) : i ∈ (rectKC x.1 x.2).set ↔ labK i = x := by
  have h1 : (i 1).val < 64 := (i 1).isLt
  have h2 : (i 2).val < 2048 := (i 2).isLt
  unfold rectKC
  rw [Rect.mem_set_unit, all3, Prod.ext_iff, Fin.ext_iff, Fin.ext_iff]
  show (x.1.val ≤ (i 0).val ∧ (i 0).val < x.1.val + 1) ∧ (0 ≤ (i 1).val ∧ (i 1).val < 0 + 64) ∧ (512 * x.2.val ≤ (i 2).val ∧ (i 2).val < 512 * x.2.val + 512)
    ↔ (i 0).val = x.1.val ∧ (i 2).val / 512 = x.2.val
  omega

instance instNonemptyElt (e : EltTy) : Nonempty (Elt F e) := inferInstance

/-- A whole slot at `X` is its four column blocks at `X`'s. -/
theorem at_slot_cols (M : Memref sig .tc .vmem S64x2048 .f32) (X : Vec F S64x2048 .f32) :
    at_ c M X ⊢ bigSep Finset.univ fun s => at_ (F := F) c (colV M s) (colsOf s X) :=
  owns_rects (c : Thread nD τ) M fullShare (fun s => Rect.unit (s := S64x2048) ![0, col s] S64x512.size (inbC s)) (fun _ _ => rfl)
    (lab_disj _ labC labC_iff) (lab_cover _ labC labC_iff) X
theorem any_slot_cols (M : Memref sig .tc .vmem S64x2048 .f32) :
    (bigSep Finset.univ fun s => anyAt (F := F) c (colV M s)) ⊢ anyAt c M :=
  any_of_rects c M (fun s => Rect.unit (s := S64x2048) ![0, col s] S64x512.size (inbC s)) (fun _ _ => rfl) labC labC_iff

theorem any_comm (b : Bool) : anyAt (F := F) c (comm b) ⊢ bigSep Finset.univ fun x : Fin 15 × Fin 4 => anyAt c (landV b x.1 x.2) :=
  (any_rects c (comm b) (fun x : Fin 15 × Fin 4 => rectKC x.1 x.2) (fun _ _ => rfl) labK labK_iff).trans
    (bigSep_mono fun x _ => Entails.of_eq (any_squeeze c _ _ squeezes_S1x64x512_S64x512).symm)
theorem any_of_comm (b : Bool) : (bigSep Finset.univ fun x : Fin 15 × Fin 4 => anyAt (F := F) c (landV b x.1 x.2)) ⊢ anyAt c (comm b) :=
  (bigSep_mono fun x _ => Entails.of_eq (any_squeeze c _ _ squeezes_S1x64x512_S64x512)).trans
    (any_of_rects c (comm b) (fun x : Fin 15 × Fin 4 => rectKC x.1 x.2) (fun _ _ => rfl) labK labK_iff)
theorem any_two (M : Memref sig .tc .vmem S2x64x2048 .f32) :
    anyAt (F := F) c M ⊢ bigSep Finset.univ fun x : Fin 2 × Fin 4 => anyAt c (colV (slotV M x.1) x.2) :=
  (any_rects c M (fun x : Fin 2 × Fin 4 => rectPC x.1 x.2) (fun _ _ => rfl) labP labP_iff).trans
    (bigSep_mono fun x _ => Entails.of_eq ((any_squeeze c _ _ squeezes_S1x64x512_S64x512).symm.trans (any_pc c M x.1 x.2).symm))
theorem any_of_two (M : Memref sig .tc .vmem S2x64x2048 .f32) :
    (bigSep Finset.univ fun x : Fin 2 × Fin 4 => anyAt c (colV (slotV M x.1) x.2)) ⊢ anyAt (F := F) c M :=
  (bigSep_mono fun x _ => Entails.of_eq ((any_pc c M x.1 x.2).trans (any_squeeze c _ _ squeezes_S1x64x512_S64x512))).trans
    (any_of_rects c M (fun x : Fin 2 × Fin 4 => rectPC x.1 x.2) (fun _ _ => rfl) labP labP_iff)

/-! ## The result's blocks -/

/-- The ring and the place in its order of the rows `64 q … 64 q + 63` of the result. -/
def rowPlace (c : Dev nD) (q : Fin 32) : Bool × Fin 16 :=
  (decide (q.val % 2 = 1), if q.val % 2 = 1 then ⟨(q.val / 2 + 17 - c.val) % 16, Nat.mod_lt _ (by decide)⟩ else ⟨(c.val + 17 - q.val / 2) % 16, Nat.mod_lt _ (by decide)⟩)
theorem rowPlace_eq : ∀ (c : Dev nD) (q : Fin 32), 128 * chunk (rowPlace c q).1 (rowPlace c q).2 c + half (rowPlace c q).1 = 64 * q.val := by decide +kernel
theorem rowPlace_of : ∀ (c : Dev nD) (b : Bool) (t : Fin 16), ∃ q : Fin 32, 128 * chunk b t c + half b = 64 * q.val ∧ rowPlace c q = (b, t) := by decide +kernel

def rowQ (i : S2048x2048.Idx) : Fin 32 := ⟨(i 0).val / 64, by have : (i 0).val < 2048 := (i 0).isLt; omega⟩
def colQ (i : S2048x2048.Idx) : Fin 4 := ⟨(i 1).val / 512, by have : (i 1).val < 2048 := (i 1).isLt; omega⟩
def labO (c : Dev nD) (i : S2048x2048.Idx) : (Bool × Fin 16) × Fin 4 := (rowPlace c (rowQ i), colQ i)
def rectO (c : Dev nD) (x : (Bool × Fin 16) × Fin 4) : Rect S2048x2048 :=
  Rect.unit (s := S2048x2048) (gOff x.1.1 x.2 x.1.2 c) S64x512.size (gOff_inb x.1.1 x.2 x.1.2 c)
theorem labO_iff (x : (Bool × Fin 16) × Fin 4) (i : S2048x2048.Idx) : i ∈ (rectO c x).set ↔ labO c i = x := by
  obtain ⟨⟨b, t⟩, s⟩ := x
  have h0 : (i 0).val < 2048 := (i 0).isLt
  have h1 : (i 1).val < 2048 := (i 1).isLt
  obtain ⟨q, hq, hp⟩ := rowPlace_of c b t
  unfold rectO
  rw [Rect.mem_set_unit, all2, gOff_eq]
  show (128 * chunk b t c + half b ≤ (i 0).val ∧ (i 0).val < 128 * chunk b t c + half b + 64) ∧ (512 * s.val ≤ (i 1).val ∧ (i 1).val < 512 * s.val + 512) ↔ _
  rw [hq]
  unfold labO
  rw [Prod.ext_iff]
  show _ ↔ rowPlace c (rowQ i) = (b, t) ∧ colQ i = s
  have e1 : rowPlace c (rowQ i) = (b, t) ↔ (i 0).val / 64 = q.val := by
    constructor
    · intro h
      have := rowPlace_eq c (rowQ i)
      rw [h] at this
      have hh : 64 * (rowQ i).val = 64 * q.val := this.symm.trans hq
      exact Nat.eq_of_mul_eq_mul_left (by decide) hh
    · intro h
      rw [show rowQ i = q from Fin.ext h, hp]
  rw [e1, Fin.ext_iff]
  show _ ↔ _ ∧ (i 1).val / 512 = s.val
  omega

theorem any_out : anyAt (F := F) c out ⊢ bigSep Finset.univ fun x : (Bool × Fin 16) × Fin 4 => anyAt c (outV x.1.1 x.2 x.1.2 c) :=
  any_rects c out (rectO c) (fun _ _ => rfl) (labO c) (labO_iff c)

variable (m : (ℓ : Loc nD τ sig) → Buf (Elt F) ℓ)

/-- The device that computes the rows `64 q … 64 q + 63` of the result. -/
def owner (q : ℕ) : Dev nD := if q % 2 = 1 then ⟨(q / 2 + 1) % 16, Nat.mod_lt _ (by decide)⟩ else ⟨(q / 2 + 15) % 16, Nat.mod_lt _ (by decide)⟩
/-- The result: every 64 rows as their device computes them. -/
def result : Vec F S2048x2048 .f32 := fun i =>
  ov m (decide ((rowQ i).val % 2 = 1)) (colQ i) (owner (rowQ i).val)
    (ix2 ⟨(i 0).val % 64, Nat.mod_lt _ (by decide)⟩ ⟨(i 1).val % 512, Nat.mod_lt _ (by decide)⟩)

theorem owner_eq : ∀ (c : Dev nD) (q : Fin 32), back (rowPlace c q).1 (rowPlace c q).2.val c = owner q.val := by decide +kernel

theorem result_block (x : (Bool × Fin 16) × Fin 4) (j : S64x512.Idx) :
    result m ((rectO c x).emb j) = fv m x.1.1 x.2 x.1.2.val c j := by
  have hl : labO c ((rectO c x).emb j) = x := (labO_iff c x _).mp (by
    rw [← Rect.map_emb_univ]; exact Finset.mem_map_of_mem _ (Finset.mem_univ j))
  have j0 : (j 0).val < 64 := (j 0).isLt
  have j1 : (j 1).val < 512 := (j 1).isLt
  have e0 : (((rectO c x).emb j) 0).val = 128 * chunk x.1.1 x.1.2 c + half x.1.1 + (j 0).val := by
    show gOff x.1.1 x.2 x.1.2 c 0 + 1 * (j 0).val = _
    rw [gOff_eq, Nat.one_mul]; rfl
  have e1 : (((rectO c x).emb j) 1).val = 512 * x.2.val + (j 1).val := by
    show gOff x.1.1 x.2 x.1.2 c 1 + 1 * (j 1).val = _
    rw [gOff_eq, Nat.one_mul]; rfl
  have hh : half x.1.1 % 64 = 0 := by cases x.1.1 <;> rfl
  have hx1 : rowPlace c (rowQ ((rectO c x).emb j)) = x.1 := congrArg Prod.fst hl
  have hx2 : colQ ((rectO c x).emb j) = x.2 := congrArg Prod.snd hl
  have hb : decide ((rowQ ((rectO c x).emb j)).val % 2 = 1) = x.1.1 := congrArg Prod.fst hx1
  have ho := owner_eq c (rowQ ((rectO c x).emb j))
  rw [hx1] at ho
  unfold result fv
  rw [← ho, hb, hx2]
  refine congrArg _ ?_
  rw [eq_ix2 j]
  refine congrArg₂ ix2 (Fin.ext ?_) (Fin.ext ?_)
  · show (((rectO c x).emb j) 0).val % 64 = (j 0).val
    rw [e0]; omega
  · show (((rectO c x).emb j) 1).val % 512 = (j 1).val
    rw [e1]; omega

theorem at_result : (bigSep Finset.univ fun x : (Bool × Fin 16) × Fin 4 => at_ c (outV x.1.1 x.2 x.1.2 c) (fv m x.1.1 x.2 x.1.2.val c))
    ⊢ at_ (F := F) c out (result m) := by
  refine (Entails.of_eq ?_).trans (owns_of_rects (c : Thread nD τ) out fullShare (rectO c) (fun _ _ => rfl)
    (lab_disj _ (labO c) (labO_iff c)) (lab_cover _ (labO c) (labO_iff c)) (result m))
  refine BI.bigSep_congr fun x _ => ?_
  rw [show (fun j => result m ((rectO c x).emb j)) = fv m x.1.1 x.2 x.1.2.val c from funext (result_block c m x)]
  rfl

end Cert.KernelIdeal.Ar
-- ==== Proof.KernelIdeal.Own.lean ====
/-
  What a device holds between two instructions: a set of resources, each a piece of a buffer or its right to one
  step of a transfer, numbered so that a set is a number in binary; and what each instruction takes and gives back.
-/
module

public import proofs.«01_k».proof.Proof.KernelIdeal.Views

@[expose] public section

noncomputable section

namespace Cert.KernelIdeal.Ar

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The resources -/

/-- The kinds of resource. `tick`, `atick`: the right to send, of the reduce-scatter and of the all-gather; `rcv`, `arcv`: to wait for an
    arrival, and `rdone`, `ardone` that cell at rest; `sq`, `asq`: the send cell, idle; `fly`, `afly`: a send under way; `land`: an arrived
    block; `sum`: it with the device's own rows added; `fin`: a block of the result; `oany`: the place of the device's own block; `pc`: a
    column block of a slot of the partial; `pq`: the slot's cell idle; `ptok`: the right to fill it; `pfly`: it being filled; `rq`, `rany`,
    `rfly`, `rdn`, `rc`: the residual's cell before, its place, the transfer, its cell after, and its column block. -/
inductive Kd where
  | tick | atick | rcv | rdone | arcv | ardone | sq | fly | asq | afly | land | sum | fin | oany | pc | pq | pfly | ptok | rq | rany | rfly | rdn | rc
  deriving DecidableEq

/-- The kinds, in order. -/
def Kd.all : List Kd :=
  [.tick, .atick, .rcv, .rdone, .arcv, .ardone, .sq, .fly, .asq, .afly, .land, .sum, .fin, .oany, .pc, .pq, .pfly, .ptok, .rq, .rany, .rfly, .rdn, .rc]
instance : Fintype Kd := ⟨⟨Kd.all, by decide⟩, fun k => by cases k <;> decide⟩

/-- Two propositions that entail each other are equal. -/
theorem eq_of_both {P Q : sProp 𝕄} (h1 : P ⊢ Q) (h2 : Q ⊢ P) : P = Q := BI.equiv_iff.mp ⟨h1, h2⟩

/-- A resource: a kind, a ring, a hop and a column block. -/
abbrev Res := Kd × Bool × Fin 18 × Fin 4

/-- The resource's number. -/
def code (r : Res) : ℕ := r.1.ctorIdx * 144 + r.2.2.1.val * 8 + r.2.1.toNat * 4 + r.2.2.2.val

theorem Kd.ctorIdx_inj : ∀ {a b : Kd}, a.ctorIdx = b.ctorIdx → a = b := by
  intro a b h
  cases a <;> cases b <;> first | rfl | exact absurd h (by decide)

theorem code_inj {r r' : Res} (h : code r = code r') : r = r' := by
  obtain ⟨k, b, t, s⟩ := r
  obtain ⟨k', b', t', s'⟩ := r'
  unfold code at h
  have hb : b.toNat < 2 := Bool.toNat_lt b
  have hb' : b'.toNat < 2 := Bool.toNat_lt b'
  have ht := t.isLt
  have ht' := t'.isLt
  have hs := s.isLt
  have hs' := s'.isLt
  dsimp only at h
  have h1 : s.val = s'.val := by omega
  have h2 : b.toNat = b'.toNat := by omega
  have h3 : t.val = t'.val := by omega
  have h4 : k.ctorIdx = k'.ctorIdx := by omega
  rw [Kd.ctorIdx_inj h4, show b = b' from by revert h2; cases b <;> cases b' <;> decide, Fin.ext h3, Fin.ext h1]

/-- A resource of hop `n`. -/
def mk (k : Kd) (b : Bool) (n : ℕ) (s : Fin 4) : Res := (k, b, ⟨n % 18, Nat.mod_lt _ (by decide)⟩, s)

variable (m : (ℓ : Loc nD τ sig) → Buf (Elt F) ℓ)

/-- The device's partial and the residual at a share, but for the elements `S` of them. -/
def argBut (c : Dev nD) (b : Ref sig .tc) (q : PosShare TreeShare) (S : Finset (Idx ((c : Thread nD τ).loc b))) : sProp 𝕄 :=
  (c : Thread nD τ).loc b ↦[Finset.univ \ S]{q} m ((c : Thread nD τ).loc b)
def argAt (c : Dev nD) (b : Ref sig .tc) (q : PosShare TreeShare) : sProp 𝕄 :=
  (c : Thread nD τ).loc b ↦{q} m ((c : Thread nD τ).loc b)

/-- A cell at its round `r`, or at rest after its last. -/
def idle (c : Dev nD) (k : Cel) (r : ℕ) : sProp 𝕄 :=
  if r < rounds k then iprop(atPos ER (dcell c k) r ∅ 0 ∗ reached ER (dcell c k) r) else semVal (dcell c k) 0
/-- A transfer under way through a cell, in its round `r`. -/
def flying (c : Dev nD) (k : Cel) (r : ℕ) : sProp 𝕄 := iprop(cred (tallyAt (dcell c k) () (amt k)) ∗ atPos ER (dcell c k) r ∅ 0)

/-- What holding a resource is. -/
def own (c : Dev nD) (r : Res) : sProp 𝕄 :=
  let b := r.2.1
  let h := r.2.2.1.val
  let s := r.2.2.2
  match r.1 with
  | .tick => iprop(anyAt (nbr b c) (landV b (f15 h) s) ∗ dutyTok ER (dcell (nbr b c) (.recv false b (f15 h) s)) 0 false
      ∗ dutyTok ER (dcell c (.send false b (par h) s)) (h / 2) false)
  | .atick => iprop(anyAt (nbr b c) (outV b s (f15 h).castSucc c) ∗ dutyTok ER (dcell (nbr b c) (.recv true b (f15 h) s)) 0 false
      ∗ dutyTok ER (dcell c (.send true b (par h) s)) (h / 2) false)
  | .rcv => flying c (.recv false b (f15 h) s) 0
  | .rdone => semVal (dcell c (.recv false b (f15 h) s)) 0
  | .arcv => flying c (.recv true b (f15 h) s) 0
  | .ardone => semVal (dcell c (.recv true b (f15 h) s)) 0
  | .sq => idle c (.send false b (par h) s) (h / 2)
  | .fly => flying c (.send false b (par h) s) (h / 2)
  | .asq => idle c (.send true b (par h) s) (h / 2)
  | .afly => flying c (.send true b (par h) s) (h / 2)
  | .land => at_ c (landV b (f15 h) s) (sv m b s h (prev b c))
  | .sum => at_ c (landV b (f15 h) s) (sv m b s (h + 1) c)
  | .fin => at_ c (outV b s (hop h) c) (fv m b s h c)
  | .oany => anyAt c (outV b s 0 c)
  | .pc => if h < 2 then anyAt c (colV (slotV (pbuf b) (par h)) s) else at_ c (colV (slotV (pbuf b) (par h)) s) (colsOf s (px m b (hop (h - 2)) c))
  | .pq => iprop(idle c (.part b (par h)) (h / 2) ∗ argAt m c main_arg0 (pshr b (par h)))
  | .pfly => iprop(flying c (.part b (par h)) (h / 2) ∗ argBut m c main_arg0 (pshr b (par h)) (partV b (hop h) c).view.set)
  | .ptok => dutyTok ER (dcell c (.part b (par h))) (h / 2) false
  | .rq => iprop(idle c (.resid b) 0 ∗ dutyTok ER (dcell c (.resid b)) 0 false ∗ argAt m c main_arg1 (rshr b))
  | .rany => anyAt c (colV (slotV rbuf (rSlot b)) s)
  | .rfly => iprop(flying c (.resid b) 0 ∗ argBut m c main_arg1 (rshr b) (residV b c).view.set)
  | .rdn => iprop(semVal (dcell c (.resid b)) 0 ∗ argAt m c main_arg1 (rshr b))
  | .rc => at_ c (colV (slotV rbuf (rSlot b)) s) (colsOf s (rx m b c))

/-- What the device owes while it has not used the resource: a send owes the neighbour its arrival. -/
def ow (c : Dev nD) (r : Res) : CellTallies nD τ sig Unit :=
  let b := r.2.1
  let h := r.2.2.1.val
  let s := r.2.2.2
  match r.1 with
  | .tick => if h < 15 then tallyAt (dcell (nbr b c) (.recv false b (f15 h) s)) () N1 else 0
  | .atick => if h < 15 then tallyAt (dcell (nbr b c) (.recv true b (f15 h) s)) () N1 else 0
  | _ => 0

/-- What is owed for a resource is owed at a level above its place. -/
theorem ow_lv (c : Dev nD) (r : Res) (g : GSem nD τ sig) (ι : Unit) (h : 0 < ow c r g ι) :
    ι ∈ L g ∧ ∀ l, 8 * (l - 1) ≤ code r → l < lv g ι := by
  obtain ⟨k, b, t, s⟩ := r
  have hb : b.toNat < 2 := Bool.toNat_lt b
  have hs := s.isLt
  have key (ph : Bool) (hk : k.ctorIdx = ph.toNat)
      (h : 0 < (if t.val < 15 then tallyAt (dcell (nbr b c) (.recv ph b (f15 t.val) s)) () N1 else 0 : CellTallies nD τ sig Unit) g ι) :
      ι ∈ L g ∧ ∀ l, 8 * (l - 1) ≤ code (k, b, t, s) → l < lv g ι := by
    by_cases ht : t.val < 15
    · rw [if_pos ht] at h
      obtain ⟨rfl, rfl⟩ := Pipeline.tallyAt_pos h
      refine ⟨by rw [L_tc]; exact Finset.mem_singleton_self _, fun l hl => ?_⟩
      rw [lv_dcell]
      unfold code at hl
      dsimp only at hl
      rw [hk] at hl
      show l < place ph (f15 t.val).val + 2
      have e : (f15 t.val).val = t.val := Nat.mod_eq_of_lt ht
      rw [e]
      cases ph
      · show l < t.val + 2
        simp only [Bool.toNat_false] at hl
        omega
      · show l < 18 + t.val + 2
        simp only [Bool.toNat_true] at hl
        omega
    · rw [if_neg ht] at h
      exact absurd h (lt_irrefl _)
  cases k
  case tick => exact key false rfl h
  case atick => exact key true rfl h
  all_goals exact absurd h (lt_irrefl _)

/-! ## Sets of resources -/

/-- The device holds the resources in the set `n`. -/
def Hold (c : Dev nD) (n : ℕ) : sProp 𝕄 := bigSep (Finset.univ.filter fun r : Res => n.testBit (code r)) (own m c)
/-- What the device owes, holding them. -/
def owing (c : Dev nD) (n : ℕ) : CellTallies nD τ sig Unit := ∑ r ∈ Finset.univ.filter fun r : Res => n.testBit (code r), ow c r
/-- The resources of a list, and what is owed for them. -/
def ownL (c : Dev nD) : List Res → sProp 𝕄
  | [] => iprop(emp)
  | r :: l => iprop(own m c r ∗ ownL c l)
def owL (c : Dev nD) : List Res → CellTallies nD τ sig Unit
  | [] => 0
  | r :: l => ow c r + owL c l

def take (n : ℕ) (r : Res) : Option ℕ := if n.testBit (code r) then some (n ^^^ 2 ^ code r) else none
def put (n : ℕ) (r : Res) : Option ℕ := if n.testBit (code r) then none else some (n ^^^ 2 ^ code r)
def takes : ℕ → List Res → Option ℕ
  | n, [] => some n
  | n, r :: l => match take n r with | none => none | some n' => takes n' l
def puts : ℕ → List Res → Option ℕ
  | n, [] => some n
  | n, r :: l => match put n r with | none => none | some n' => puts n' l

theorem flip_set (n : ℕ) (r : Res) (h : n.testBit (code r) = true) :
    (Finset.univ.filter fun r' : Res => n.testBit (code r'))
      = insert r (Finset.univ.filter fun r' : Res => (n ^^^ 2 ^ code r).testBit (code r'))
    ∧ r ∉ Finset.univ.filter fun r' : Res => (n ^^^ 2 ^ code r).testBit (code r') := by
  have e (r' : Res) : (n ^^^ 2 ^ code r).testBit (code r') = if r' = r then false else n.testBit (code r') := by
    rw [Nat.testBit_xor]
    by_cases hr : r' = r
    · subst hr; rw [if_pos rfl, h, Nat.testBit_two_pow_self]; rfl
    · rw [if_neg hr, Nat.testBit_two_pow_of_ne fun hc => hr (code_inj hc.symm), Bool.xor_false]
  constructor
  · ext r'
    simp only [Finset.mem_filter, Finset.mem_univ, _root_.true_and, Finset.mem_insert, e]
    by_cases hr : r' = r
    · subst hr; simp [h]
    · simp [hr]
  · simp [e]

theorem take_hold (c : Dev nD) {n n' : ℕ} {r : Res} (h : take n r = some n') : Hold m c n = iprop(own m c r ∗ Hold m c n') := by
  unfold take at h
  split at h
  case isFalse => exact absurd h (by simp)
  case isTrue hb =>
    cases h
    unfold Hold
    rw [(flip_set n r hb).1, BI.bigSep_insert (flip_set n r hb).2]; rfl
theorem take_owing (c : Dev nD) {n n' : ℕ} {r : Res} (h : take n r = some n') : owing c n = ow c r + owing c n' := by
  unfold take at h
  split at h
  case isFalse => exact absurd h (by simp)
  case isTrue hb =>
    cases h
    unfold owing
    rw [(flip_set n r hb).1, Finset.sum_insert (flip_set n r hb).2]
theorem put_take {n n' : ℕ} {r : Res} (h : put n r = some n') : take n' r = some n := by
  unfold put at h
  split at h
  case isTrue => exact absurd h (by simp)
  case isFalse hb =>
    cases h
    have : (n ^^^ 2 ^ code r).testBit (code r) = true := by
      rw [Nat.testBit_xor, Nat.testBit_two_pow_self]; simp [hb]
    unfold take
    rw [if_pos this, Nat.xor_assoc, Nat.xor_self, Nat.xor_zero]

theorem takes_hold (c : Dev nD) : ∀ {l : List Res} {n n' : ℕ}, takes n l = some n' → Hold m c n = iprop(ownL m c l ∗ Hold m c n')
  | [], n, n', h => by
    cases h
    exact eq_of_both (BI.Laws.emp_sep (PROP := sProp 𝕄)).2 (BI.Laws.emp_sep (PROP := sProp 𝕄)).1
  | r :: l, n, n', h => by
    unfold takes at h
    split at h
    · exact absurd h (by simp)
    · rename_i n1 h1
      rw [take_hold m c h1, takes_hold c h]
      exact eq_of_both (BI.Laws.sep_assoc (PROP := sProp 𝕄)).2 (BI.Laws.sep_assoc (PROP := sProp 𝕄)).1
theorem takes_owing (c : Dev nD) : ∀ {l : List Res} {n n' : ℕ}, takes n l = some n' → owing c n = owing c n' + owL c l
  | [], n, n', h => by cases h; exact (add_zero _).symm
  | r :: l, n, n', h => by
    unfold takes at h
    split at h
    · exact absurd h (by simp)
    · rename_i n1 h1
      rw [take_owing c h1, takes_owing c h, owL, add_left_comm]
theorem puts_hold (c : Dev nD) : ∀ {l : List Res} {n n' : ℕ}, puts n l = some n' → Hold m c n' = iprop(ownL m c l ∗ Hold m c n)
  | [], n, n', h => by
    cases h
    exact eq_of_both (BI.Laws.emp_sep (PROP := sProp 𝕄)).2 (BI.Laws.emp_sep (PROP := sProp 𝕄)).1
  | r :: l, n, n', h => by
    unfold puts at h
    split at h
    · exact absurd h (by simp)
    · rename_i n1 h1
      rw [puts_hold c h, take_hold m c (put_take h1)]
      show iprop(ownL m c l ∗ own m c r ∗ Hold m c n) = iprop((own m c r ∗ ownL m c l) ∗ Hold m c n)
      refine eq_of_both ?_ ?_
      · iintro ⟨H1, H2, H3⟩; isplitr [H3]
        · isplitl [H2] <;> iassumption
        · iexact H3
      · iintro ⟨⟨H1, H2⟩, H3⟩; isplitl [H2]
        · iexact H2
        · isplitl [H1] <;> iassumption
theorem puts_owing (c : Dev nD) : ∀ {l : List Res} {n n' : ℕ}, puts n l = some n' → owing c n' = owing c n + owL c l
  | [], n, n', h => by cases h; exact (add_zero _).symm
  | r :: l, n, n', h => by
    unfold puts at h
    split at h
    · exact absurd h (by simp)
    · rename_i n1 h1
      rw [puts_owing c h, take_owing c (put_take h1), owL, add_comm (ow c r), add_assoc]

theorem Hold_zero (c : Dev nD) : Hold m c 0 = iprop(emp) := by
  unfold Hold
  rw [show (Finset.univ.filter fun r : Res => Nat.testBit 0 (code r) = true) = ∅ from by simp, BI.bigSep_empty]; rfl
theorem owing_zero (c : Dev nD) : owing c 0 = 0 := by
  unfold owing
  rw [show (Finset.univ.filter fun r : Res => Nat.testBit 0 (code r) = true) = ∅ from by simp, Finset.sum_empty]

/-- What is owed for a set with no resource before the place of `l` is owed above `l`. -/
theorem owing_lv (c : Dev nD) (n l : ℕ) (hn : n % 2 ^ (8 * (l - 1)) = 0) (g : GSem nD τ sig) (ι : Unit) (h : 0 < owing c n g ι) :
    ι ∈ L g ∧ l < lv g ι := by
  obtain ⟨r, hr, hp⟩ := Pipeline.sum_pos_exists h
  obtain ⟨h1, h2⟩ := ow_lv c r g ι hp
  refine ⟨h1, h2 l ?_⟩
  by_contra hc
  have hb : n.testBit (code r) = true := (Finset.mem_filter.mp hr).2
  have : (n % 2 ^ (8 * (l - 1))).testBit (code r) = n.testBit (code r) := by
    rw [Nat.testBit_mod_two_pow]; simp [not_le.mp hc]
  rw [hn, hb, Nat.zero_testBit] at this
  exact absurd this (by decide)

/-! ## What an instruction takes and gives back -/

/-- An instruction, or one of the two parts that the norm is made of. -/
inductive Cmd where
  | ins (i : Ins) | sum (b : Bool) (s : Fin 4) | put (b : Bool) (s : Fin 4)

def four (f : Fin 4 → Res) : List Res := [f 0, f 1, f 2, f 3]
/-- What a hop sends: the partial's rows first, then what the hop before landed, summed. -/
def srcR (b : Bool) (h : ℕ) (s : Fin 4) : Res := match h with | 0 => mk .pc b 2 s | h + 1 => mk .sum b h s

def pre : Cmd → List Res
  | .ins (.startResid b) => mk .rq b 0 0 :: four (mk .rany b 0)
  | .ins (.waitResid b) => [mk .rfly b 0 0]
  | .ins (.startPart b h) => mk .pq b h.val 0 :: mk .ptok b h.val 0 :: four (mk .pc b h.val)
  | .ins (.waitPart b h) => [mk .pfly b h.val 0]
  | .ins (.send b h s) => [mk .tick b h.val s, mk .sq b h.val s, srcR b h.val s]
  | .ins (.waitSend b h s) => [mk .fly b h.val s]
  | .ins (.waitRecv b h s) => [mk .rcv b h.val s]
  | .ins (.accum b h s) => [mk .land b h.val s, mk .pc b (h.val + 3) s]
  | .ins (.agSend b t s) => [mk .atick b t.val s, mk .asq b t.val s, mk .fin b t.val s]
  | .ins (.agWaitSend b t s) => [mk .afly b t.val s]
  | .ins (.agWaitRecv b t s) => [mk .arcv b t.val s]
  | .sum b s => [mk .rcv b 14 s, mk .pc b 17 s, mk .rc b 0 s]
  | .put b s => [mk .oany b 0 s, mk .atick b 0 s, mk .asq b 0 s]

def post : Cmd → List Res
  | .ins (.startResid b) => [mk .rfly b 0 0]
  | .ins (.waitResid b) => mk .rdn b 0 0 :: four (mk .rc b 0)
  | .ins (.startPart b h) => [mk .pfly b h.val 0]
  | .ins (.waitPart b h) => mk .pq b (h.val + 2) 0 :: four (mk .pc b (h.val + 2))
  | .ins (.send b h s) => [mk .fly b h.val s]
  | .ins (.waitSend b h s) => [mk .sq b (h.val + 2) s, srcR b h.val s]
  | .ins (.waitRecv b h s) => [mk .rdone b h.val s, mk .land b h.val s]
  | .ins (.accum b h s) => [mk .sum b h.val s, mk .pc b (h.val + 3) s]
  | .ins (.agSend b t s) => [mk .afly b t.val s]
  | .ins (.agWaitSend b t s) => [mk .asq b (t.val + 2) s, mk .fin b t.val s]
  | .ins (.agWaitRecv b t s) => [mk .ardone b t.val s, mk .fin b (t.val + 1) s]
  | .sum b s => [mk .rdone b 14 s, mk .land b 14 s, mk .pc b 17 s, mk .rc b 0 s]
  | .put b s => [mk .afly b 0 s]

/-- The level of the cell that an instruction waits on. -/
def lim : Cmd → ℕ
  | .ins (.waitRecv b h s) => lev (.recv false b h s)
  | .ins (.agWaitRecv b h s) => lev (.recv true b h s)
  | .sum b s => lev (.recv false b 14 s)
  | _ => 0

def exec1 (i : Cmd) (n : ℕ) : Option ℕ :=
  match takes n (pre i) with
  | none => none
  | some n1 => if n1 % 2 ^ (8 * (lim i - 1)) = 0 then puts n1 (post i) else none
def exec : List Cmd → ℕ → Option ℕ
  | [], n => some n
  | i :: l, n => match exec1 i n with | none => none | some n' => exec l n'

theorem exec_append {l l' : List Cmd} {n n' : ℕ} (h : exec (l ++ l') n = some n') : ∃ n1, exec l n = some n1 ∧ exec l' n1 = some n' := by
  induction l generalizing n with
  | nil => exact ⟨n, rfl, h⟩
  | cons i l ih =>
    rw [List.cons_append, exec] at h
    split at h
    · exact absurd h (by simp)
    · rename_i n1 h1
      obtain ⟨n2, h2, h3⟩ := ih h
      exact ⟨n2, by rw [exec, h1]; exact h2, h3⟩
theorem exec_cons {i : Cmd} {l : List Cmd} {n n' : ℕ} (h : exec (i :: l) n = some n') : ∃ n1, exec1 i n = some n1 ∧ exec l n1 = some n' := by
  unfold exec at h
  split at h
  · exact absurd h (by simp)
  · rename_i n1 h1; exact ⟨n1, h1, h⟩

/-- The norm's parts, in order. -/
def normCmds : List Cmd :=
  [.sum false 0, .sum true 0, .sum false 1, .sum true 1, .sum false 2, .sum true 2, .sum false 3, .sum true 3,
    .put false 0, .put true 0, .put false 1, .put true 1, .put false 2, .put true 2, .put false 3, .put true 3]
/-- The body after the barrier. -/
def cmds : List Cmd := scatter.map .ins ++ (normCmds ++ gather.map .ins)

/-! ## The sets at the beginning and at the end -/

def bools : List Bool := [false, true]
def bs : List (Bool × Fin 4) := bools ×ˢ List.finRange 4
def bhs : List ((Bool × Fin 4) × Fin 15) := bs ×ˢ List.finRange 15
def bts : List ((Bool × Fin 4) × Fin 16) := bs ×ˢ List.finRange 16
def at1 (k : Kd) (n : ℕ) (x : Bool × Fin 4) : Res := mk k x.1 n x.2
def at2' {N : ℕ} (k : Kd) (n : ℕ) (x : (Bool × Fin 4) × Fin N) : Res := mk k x.1.1 (x.2.val + n) x.1.2

def initL : List Res :=
  bhs.map (at2' .tick 0) ++ bhs.map (at2' .atick 0) ++ bhs.map (at2' .rcv 0) ++ bhs.map (at2' .arcv 0)
    ++ bs.map (at1 .sq 0) ++ bs.map (at1 .sq 1) ++ bs.map (at1 .asq 0) ++ bs.map (at1 .asq 1)
    ++ bs.map (at1 .oany 0) ++ bs.map (at1 .pc 0) ++ bs.map (at1 .pc 1) ++ bs.map (at1 .rany 0)
    ++ bools.map (fun b => mk .pq b 0 0) ++ bools.map (fun b => mk .pq b 1 0) ++ bools.map (fun b => mk .rq b 0 0)
    ++ (bools ×ˢ List.finRange 16).map (fun x => mk .ptok x.1 x.2.val 0)
def finalL : List Res :=
  bhs.map (at2' .rdone 0) ++ bhs.map (at2' .ardone 0)
    ++ bs.map (at1 .sq 15) ++ bs.map (at1 .sq 16) ++ bs.map (at1 .asq 15) ++ bs.map (at1 .asq 16)
    ++ bhs.map (fun x => if x.2.val < 14 then at2' .sum 0 x else at2' .land 0 x)
    ++ bs.map (at1 .pc 16) ++ bs.map (at1 .pc 17) ++ bs.map (at1 .rc 0) ++ bts.map (at2' .fin 0)
    ++ bools.map (fun b => mk .pq b 16 0) ++ bools.map (fun b => mk .pq b 17 0) ++ bools.map (fun b => mk .rdn b 0 0)

/-- The body, run on the set it begins with, ends with the set it should: every instruction finds what it takes, and no wait is for a cell
    that what the device still owes could come before. -/
def checks : Bool :=
  match puts 0 initL with
  | none => false
  | some n => match exec cmds n with
    | none => false
    | some n' => takes n' finalL == some 0
theorem checks_true : checks = true := by decide +kernel

end Cert.KernelIdeal.Ar
-- ==== Proof.KernelIdeal.Steps.lean ====
/-
  Every instruction, run on what it takes, gives back what it should.
-/
module

public import proofs.«01_k».proof.Proof.KernelIdeal.Own

@[expose] public section

noncomputable section

namespace Cert.KernelIdeal.Ar

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## The cells' invariants -/

/-- A cell of a device: the barrier's, or a transfer's by its number. -/
abbrev Cells := Dev nD × Option (Fin 278)
def kcell (x : Cells) : GSem nD τ sig :=
  match x.2 with
  | none => barCell x.1
  | some i => ((x.1 : Thread nD τ), .dma ⟨i.val + 2, Nat.add_lt_add_right i.isLt 2⟩)
/-- The number of a cell's semaphore, from the first of the transfers'. -/
def ix (k : Cel) : Fin 278 := ⟨(dsem k).val - 2, by have := (dsem k).isLt; have h : (dsem k).val < 280 := this; have := dsem_ge k; omega⟩
theorem kcell_ix (c : Dev nD) (k : Cel) : kcell (c, some (ix k)) = dcell c k := by
  have h : (⟨(ix k).val + 2, Nat.add_lt_add_right (ix k).isLt 2⟩ : DmaSem sig) = dsem k :=
    Fin.ext (Nat.sub_add_cancel (dsem_ge k))
  unfold kcell dcell
  dsimp only
  rw [h]

variable (K : Cells → ℕ)

/-- Every cell's invariant, each cell being at its round 0 at least. -/
def records : sProp 𝕄 :=
  iprop((bigSep Finset.univ fun x : Cells => cellInv ER (rd m) (K x) (kcell x)) ∗ bigSep Finset.univ fun x : Cells => reached ER (kcell x) 0)
instance records_persistent : BI.Persistent (records (F := F) m K) := by unfold records; infer_instance

theorem inv_bar (c : Dev nD) : records m K ⊢ cellInv ER (rd (F := F) m) (K (c, none)) (barCell c) := by
  unfold records
  iintro ⟨H, -⟩
  iapply (show bigSep Finset.univ _ ⊢ _ from BI.bigSep_elim (Finset.mem_univ ((c, none) : Cells))) $$ H
theorem inv_dma (c : Dev nD) (k : Cel) : records m K ⊢ cellInv ER (rd (F := F) m) (K (c, some (ix k))) (dcell c k) := by
  rw [← kcell_ix c k]
  unfold records
  iintro ⟨H, -⟩
  iapply (show bigSep Finset.univ _ ⊢ _ from BI.bigSep_elim (Finset.mem_univ ((c, some (ix k)) : Cells))) $$ H
theorem reached_bar (c : Dev nD) : records (F := F) m K ⊢ reached ER (barCell c) 0 := by
  unfold records
  iintro ⟨-, H⟩
  iapply (show bigSep Finset.univ _ ⊢ _ from BI.bigSep_elim (Finset.mem_univ ((c, none) : Cells))) $$ H
theorem reached_dma (c : Dev nD) (k : Cel) : records (F := F) m K ⊢ reached ER (dcell c k) 0 := by
  rw [← kcell_ix c k]
  unfold records
  iintro ⟨-, H⟩
  iapply (show bigSep Finset.univ _ ⊢ _ from BI.bigSep_elim (Finset.mem_univ ((c, some (ix k)) : Cells))) $$ H

/-- What every instruction may use again and again. -/
def ctx : sProp 𝕄 := iprop(records m K ∗ levAts L lv)
instance ctx_persistent : BI.Persistent (ctx (F := F) m K) := by unfold ctx; infer_instance

/-- What the device owes, whatever it has waited for. -/
def owesAny (c : Dev nD) (O : CellTallies nD τ sig Unit) : sProp 𝕄 := iprop(∃ W, owes (c : Thread nD τ) O W)

abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Waits -/

variable (c : Dev nD)

/-- A wait on a transfer's cell: it takes the round's handover. -/
theorem wait_dma (k : Cel) (r : ℕ) (hr : r < rounds k) {sp sp' : Space} {s s' : Shape} {e e' : EltTy}
    {src : Memref sig .tc sp s e} {dst : Memref sig .tc sp' s' e'} {h1 : src.view.WordExact} {h2 : dst.view.WordExact}
    (hN : dst.view.dmaCredit = amt k) {O : CellTallies nD τ sig Unit} (hO : ∀ g ι, 0 < O g ι → ι ∈ L g ∧ lev k < lv g ι)
    {α : Type} {Q : α → sProp 𝕄} {kk : PUnit → Prog (TpuEff nD τ sig (Elt F) Λ₀ .tc) α} :
    iprop(ctx m K ∗ flying c k r ∗ owesAny c O)
      ⊢ iprop((idle c k (r + 1) ∗ pay m c k r ∗ owesAny c O -∗ WP c (kk ⟨⟩) Q) -∗ WP c (.op (.waitDma2 (dsem k) src dst h1 h2) kk) Q) := by
  unfold ctx flying owesAny
  iintro ⟨⟨#HR, #Hlev⟩, ⟨Hc, Ha⟩, ⟨%W, HO⟩⟩ Hk
  ihave #HI := (inv_dma m K c k) $$ HR
  rw [← hN]
  iapply (Rounds.wp_wait_rest_token 𝒱₀ ER (rd (F := F) m) (c : Thread nD τ) none (κ := K (c, some (ix k)))
      (wpE_waitDma2_eq 𝒱₀ (c : Thread nD τ) none Set.univ) (Set.mem_univ _) () (O := O) (W := W) (R := r) (m := 0) (T := ∅)
      (by rw [Nat.zero_add, expect_dma m c k r hr, hN])) $$ [Hc Ha HO]
  · isplitr; · iexact HI
    isplitl [Hc]; · iexact Hc
    isplitl [HO]; · iexact HO
    isplitr
    · iapply (Pipeline.mayWait_of_levAts (L := L) (lev := lv) (by rw [L_tc]; exact Finset.mem_singleton_self _)
        (fun g i hg => ⟨(hO g i hg).1, by rw [lv_dcell]; exact (hO g i hg).2⟩))
      iexact Hlev
    iexact Ha
  iintro ⟨HO, Ha, Hr, Hp⟩
  ihave Hp' := (Entails.of_eq (rest_dma m c k r hr)) $$ Hp
  by_cases hl : r + 1 < rounds k
  · iapply Hk
    isplitl [Ha Hr]
    · unfold idle; rw [if_pos hl]
      isplitl [Ha] <;> iassumption
    isplitl [Hp']; · iexact Hp'
    iexists _; iexact HO
  · imod (Rounds.cell_close ER (rd (F := F) m) (Set.mem_univ (K (c, some (ix k)))) (fun h => h) (R := r + 1)
      (fun r' h => duties_dma_later m c k r' (by omega))) $$ [Ha] with Hz
    · isplitr; · iexact HI
      iexact Ha
    iapply Hk
    isplitl [Hz]; · unfold idle; rw [if_neg hl]; iexact Hz
    isplitl [Hp']; · iexact Hp'
    iexists _; iexact HO

/-! ## Sends -/

/-- A transfer to the neighbour, of a memref held at `X`. -/
theorem send_dma (k k' : Cel) (r : ℕ) (hr : r < rounds k) (hr' : 0 < rounds k') (b : Bool) {sp sp' : Space} {s : Shape} {e : EltTy}
    {src : Memref sig .tc sp s e} {dst : Memref sig .tc sp' s e} {hsc : dst.view.ref.isScScratch = false}
    {h1 : src.view.WordExact} {h2 : dst.view.WordExact}
    {h3 : DmaTarget.Typed sp (.dma (dsem k')) (.remote (Dev.tc (nbr b c) : Thread nD τ) dst (.dma (dsem k)) hsc)}
    (hN : dst.view.dmaCredit = amt k') (ha : amt k = amt k') (X : s.Idx → Elt F e)
    (hp1 : at_ c src X ⊢ pay m c k r) (hp2 : at_ (nbr b c) dst X ⊢ pay m (nbr b c) k' 0)
    {O : CellTallies nD τ sig Unit}
    {α : Type} {Q : α → sProp 𝕄} {kk : PUnit → Prog (TpuEff nD τ sig (Elt F) Λ₀ .tc) α} :
    iprop(ctx m K ∗ at_ c src X ∗ anyAt (nbr b c) dst ∗ dutyTok ER (dcell (nbr b c) k') 0 false ∗ dutyTok ER (dcell c k) r false
        ∗ idle c k r ∗ owesAny c (O + tallyAt (dcell (nbr b c) k') () (amt k')))
      ⊢ iprop((flying c k r ∗ owesAny c O -∗ WP c (kk ⟨⟩) Q)
          -∗ WP c (.op (.enqueueDma src (.remote (Dev.tc (nbr b c)) dst (.dma (dsem k)) hsc) (.dma (dsem k')) h1 h2 h3) kk) Q) := by
  have hown {d : Dev nD} {sp : Space} {M : Memref sig .tc sp s e} : (at_ d M X : sProp 𝕄)
      = iprop(∃ f, ⌜M.view.read (Elt F) f = X⌝ ∗ (M.view.loc (d : Thread nD τ) ↦[M.view.set]{fullShare} f)) := rfl
  have q1 (f : Buf (Elt F) (src.view.loc (c : Thread nD τ))) (hf : src.view.read (Elt F) f = X) :
      (src.view.loc (c : Thread nD τ) ↦[src.view.set]{fullShare} f : sProp 𝕄) ⊢ (rd (F := F) m).payload (dcell c k) r false := by
    rw [payload_dma]
    refine BIBase.Entails.trans ?_ hp1
    rw [hown]
    iintro H; iexists f
    isplitr; · ipureintro; exact hf
    iexact H
  have q2 (f : Buf (Elt F) (src.view.loc (c : Thread nD τ))) (g : Buf (Elt F) (dst.view.loc (nbr b c : Thread nD τ))) (hf : src.view.read (Elt F) f = X) :
      (dst.view.loc (nbr b c : Thread nD τ) ↦[dst.view.set]{fullShare} (dst.view.write (Elt F) g (src.view.read (Elt F) f) Finset.univ) : sProp 𝕄)
        ⊢ (rd (F := F) m).payload (dcell (nbr b c) k') 0 false := by
    rw [payload_dma]
    refine BIBase.Entails.trans ?_ hp2
    rw [hown]
    iintro H; iexists (dst.view.write (Elt F) g (src.view.read (Elt F) f) Finset.univ)
    isplitr; · ipureintro; exact (View.read_write_univ g _).trans hf
    iexact H
  unfold ctx flying owesAny idle anyAt
  rw [if_pos hr, hown]
  iintro ⟨⟨#HR, #Hlev⟩, ⟨%f, %hf, Hs⟩, ⟨%g, Hd⟩, Ht', Ht, ⟨Ha, Hr⟩, ⟨%W, HO⟩⟩ Hk
  ihave #HI := (inv_dma m K c k) $$ HR
  ihave #HI' := (inv_dma m K (nbr b c) k') $$ HR
  ihave #Hr' := (reached_dma m K (nbr b c) k') $$ HR
  iapply (Rounds.wp_send_pointsTo 𝒱₀ ER (rd (F := F) m) (c : Thread nD τ) none (κ₁ := K (c, some (ix k))) (κ₂ := K (nbr b c, some (ix k')))
    (r₁ := r) (r₂ := 0) (d₁ := false) (d₂ := false) (fs := f) (fd := g)
    (by rw [duties_dma m c k r hr]; exact Finset.mem_singleton_self _) (by rw [duties_dma m (nbr b c) k' 0 hr']; exact Finset.mem_singleton_self _)
    () () (amt k') (by exact hN) ((amount_dma m c k r false).trans ha) (amount_dma m (nbr b c) k' 0 false) O rfl (W := W)
    (q1 f hf) (q2 f g hf)) $$ [Hs Hd HO Ht Hr Ht']
  · isplitr; · iexact HI
    isplitr; · iexact HI'
    isplitl [Hs]; · iexact Hs
    isplitl [Hd]; · iexact Hd
    isplitl [HO]; · iexact HO
    isplitl [Ht]; · iexact Ht
    isplitl [Hr]; · iexact Hr
    isplitl [Ht']; · iexact Ht'
    iexact Hr'
  iintro ⟨Hc, HO⟩
  iapply Hk
  rw [ha]
  isplitl [Hc Ha]
  · isplitl [Hc] <;> iassumption
  iexists _; iexact HO

/-- A local transfer from a buffer held whole at a share: the elements read go with it, the others stay. -/
theorem copy_dma (k : Cel) (r : ℕ) (hr : r < rounds k) {sp sp' : Space} {s : Shape} {e : EltTy}
    {src : Memref sig .tc sp s e} {dst : Memref sig .tc sp' s e}
    {h1 : src.view.WordExact} {h2 : dst.view.WordExact} {h3 : DmaTarget.Typed (nD := nD) (p := (c : Thread nD τ).2) sp (.dma (dsem k)) (.here dst)}
    (hN : dst.view.dmaCredit = amt k) (q : PosShare TreeShare) (f : Buf (Elt F) (src.view.loc (c : Thread nD τ)))
    (hp : iprop(at_ c dst (src.view.read (Elt F) f) ∗ (src.view.loc (c : Thread nD τ) ↦[src.view.set]{q} f)) ⊢ pay m c k r)
    {α : Type} {Q : α → sProp 𝕄} {kk : PUnit → Prog (TpuEff nD τ sig (Elt F) Λ₀ .tc) α} :
    iprop(ctx m K ∗ (src.view.loc (c : Thread nD τ) ↦{q} f) ∗ anyAt c dst ∗ dutyTok ER (dcell c k) r false ∗ idle c k r)
      ⊢ iprop((flying c k r ∗ (src.view.loc (c : Thread nD τ) ↦[Finset.univ \ src.view.set]{q} f) -∗ WP c (kk ⟨⟩) Q)
          -∗ WP c (.op (.enqueueDma src (.here dst) (.dma (dsem k)) h1 h2 h3) kk) Q) := by
  have q1 (g : Buf (Elt F) (dst.view.loc (c : Thread nD τ))) :
      (iprop((dst.view.loc (c : Thread nD τ) ↦[dst.view.set]{fullShare} (dst.view.write (Elt F) g (src.view.read (Elt F) f) Finset.univ))
        ∗ (src.view.loc (c : Thread nD τ) ↦[src.view.set]{q} f)) : sProp 𝕄) ⊢ (rd (F := F) m).payload (dcell c k) r false := by
    rw [payload_dma]
    refine BIBase.Entails.trans ?_ hp
    unfold at_ owns
    iintro ⟨H, H'⟩
    isplitl [H]
    · iexists (dst.view.write (Elt F) g (src.view.read (Elt F) f) Finset.univ)
      isplitr; · ipureintro; exact View.read_write_univ g _
      iexact H
    iexact H'
  unfold ctx flying idle anyAt
  rw [if_pos hr]
  iintro ⟨⟨#HR, #Hlev⟩, Hs, ⟨%g, Hd⟩, Ht, ⟨Ha, Hr⟩⟩ Hk
  ihave #HI := (inv_dma m K c k) $$ HR
  ihave Hs' := ((pointsTo_split_subset (Finset.subset_univ src.view.set)).1) $$ Hs
  icases Hs' with ⟨Hs, Hrest⟩
  iapply (Rounds.wp_copy_pointsTo 𝒱₀ ER (rd (F := F) m) (c : Thread nD τ) none (κ := K (c, some (ix k)))
    (r := r) (d := false) (fs := f) (fd := g) (q := q)
    (by rw [duties_dma m c k r hr]; exact Finset.mem_singleton_self _) () (amt k) (by exact hN) (amount_dma m c k r false) (q1 g))
    $$ [Hs Hd Ht Hr]
  · isplitr; · iexact HI
    isplitl [Hs]; · iexact Hs
    isplitl [Hd]; · iexact Hd
    isplitl [Ht]; · iexact Ht
    iexact Hr
  iintro Hc
  iapply Hk
  isplitl [Hc Ha]
  · isplitl [Hc] <;> iassumption
  iexact Hrest

/-! ## Loads and stores -/

/-- A load of a block, the block held squeezed. -/
theorem load_piece {s : Shape} {s' : Shape} {e : EltTy} (M : Memref sig .tc .vmem s e) (r : Rect s) (hr : ∀ a, r.stride a = 1)
    (hq : r.shape.Squeezes s') (hc : r.shape.ShapeCasts s') {hl : M.view.LoadsAt r.toLoadRect} (X : s'.Idx → Elt F e)
    {α : Type} {Q : α → sProp 𝕄} {kk : (r.shape.Idx → Elt F e) → Prog (TpuEff nD τ sig (Elt F) Λ₀ .tc) α} :
    at_ c ((M.slice r hr).squeeze s' hq) X
      ⊢ iprop((∀ v, ⌜shapeCast s' v hc = X⌝ -∗ at_ c ((M.slice r hr).squeeze s' hq) X -∗ WP c (kk v) Q)
          -∗ WP c (.op (.load M r.toLoadRect hl) kk) Q) := by
  have hown : (at_ c ((M.slice r hr).squeeze s' hq) X : sProp 𝕄)
      = iprop(∃ f : Buf (Elt F) ((M.access r).loc (c : Thread nD τ)), ⌜((M.slice r hr).squeeze s' hq).view.read (Elt F) f = X⌝
        ∗ ((M.access r).loc (c : Thread nD τ) ↦[((M.slice r hr).squeeze s' hq).view.set]{fullShare} f)) := rfl
  rw [hown]
  iintro ⟨%f, %hf, H⟩ Hk
  iapply (wp_load_rect 𝒱₀ (c : Thread nD τ) none Set.univ (m := M) (r := r) (f := f)
    (S := ((M.slice r hr).squeeze s' hq).view.set) (by
      rw [show ((M.slice r hr).squeeze s' hq).view.set = (M.slice r hr).view.set from View.set_reshape _ _])) $$ [H]
  · iexact H
  iintro H
  iapply Hk $$ %((M.access r).read (Elt F) f) %hf
  iexists f
  isplitr; · ipureintro; exact hf
  iexact H

/-- A store of a block, the block held squeezed. -/
theorem store_piece {s : Shape} {s' : Shape} {e : EltTy} (M : Memref sig .tc .vmem s e) (r : Rect s) (hr : ∀ a, r.stride a = 1)
    (hq : r.shape.Squeezes s') (hc : r.shape.ShapeCasts s') {p : r.shape.Idx → Elt F e}
    {hx : (M.access r).Stores Finset.univ} {hm : (Finset.univ : Finset r.shape.Idx) = Finset.univ ∨ ∀ a, r.stride a = 1}
    {α : Type} {Q : α → sProp 𝕄} {kk : PUnit → Prog (TpuEff nD τ sig (Elt F) Λ₀ .tc) α} :
    anyAt c ((M.slice r hr).squeeze s' hq)
      ⊢ iprop((at_ c ((M.slice r hr).squeeze s' hq) (shapeCast s' p hc) -∗ WP c (kk ⟨⟩) Q)
          -∗ WP c (.op (.store M r p Finset.univ hx hm) kk) Q) := by
  have hown (X : s'.Idx → Elt F e) : (at_ c ((M.slice r hr).squeeze s' hq) X : sProp 𝕄)
      = iprop(∃ f : Buf (Elt F) ((M.access r).loc (c : Thread nD τ)), ⌜((M.slice r hr).squeeze s' hq).view.read (Elt F) f = X⌝
        ∗ ((M.access r).loc (c : Thread nD τ) ↦[((M.slice r hr).squeeze s' hq).view.set]{fullShare} f)) := rfl
  have hany : (anyAt c ((M.slice r hr).squeeze s' hq) : sProp 𝕄)
      = iprop(∃ f : Buf (Elt F) ((M.access r).loc (c : Thread nD τ)), ((M.access r).loc (c : Thread nD τ) ↦[((M.slice r hr).squeeze s' hq).view.set]{fullShare} f)) := rfl
  rw [hany, hown]
  iintro ⟨%f, H⟩ Hk
  iapply (wp_store 𝒱₀ (c : Thread nD τ) none Set.univ (m := M) (r := r) (f := f) (w := p) (Mk := Finset.univ)
    (S := ((M.slice r hr).squeeze s' hq).view.set) (by
      rw [show ((M.slice r hr).squeeze s' hq).view.set = (M.slice r hr).view.set from View.set_reshape _ _]; exact subset_rfl)) $$ [H]
  · iexact H
  iintro H
  iapply Hk
  iexists ((M.access r).write (Elt F) f p Finset.univ)
  isplitr
  rotate_left
  · iexact H
  ipureintro
  show shapeCast s' ((M.access r).read (Elt F) ((M.access r).write (Elt F) f p Finset.univ)) hc = shapeCast s' p hc
  rw [View.read_write_univ]

end Cert.KernelIdeal.Ar
-- ==== Proof.KernelIdeal.Instr.lean ====
/-
  Every instruction of the list, run on the resources it takes, gives back the resources it should; and so does a list of them.
-/
module

public import proofs.«01_k».proof.Proof.KernelIdeal.Steps

@[expose] public section

noncomputable section

namespace Cert.KernelIdeal.Ar

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Cells → ℕ) (c : Dev nD)

/-! ## Numbers -/

theorem mk_eq (k : Kd) (b : Bool) (n : ℕ) (hn : n < 18) (s : Fin 4) : mk k b n s = (k, b, ⟨n, hn⟩, s) := by
  unfold mk; rw [show (⟨n % 18, Nat.mod_lt _ (by decide)⟩ : Fin 18) = ⟨n, hn⟩ from Fin.ext (Nat.mod_eq_of_lt hn)]
theorem rnd_par (n : ℕ) : rnd (n / 2) (par n) = n := Nat.div_add_mod n 2
theorem par_two (n : ℕ) : par (n + 2) = par n := Fin.ext (Nat.add_mod_right n 2)
theorem half_two (n : ℕ) : (n + 2) / 2 = n / 2 + 1 := Nat.add_div_right n (by decide)
theorem lt_send (ph b : Bool) (s : Fin 4) (h : Fin 15) : h.val / 2 < rounds (.send ph b (par h) s) := by
  have := h.isLt
  show h.val / 2 < 8 - h.val % 2
  omega
theorem lt_part (b : Bool) (h : Fin 16) : h.val / 2 < rounds (.part b (par h)) := by
  have := h.isLt
  show h.val / 2 < 8
  omega
theorem hop_castSucc (t : Fin 15) : hop t.val = t.castSucc := Fin.ext (Nat.mod_eq_of_lt (by have := t.isLt; omega))
theorem hop_succ (t : Fin 15) : hop (t.val + 1) = t.succ := Fin.ext (Nat.mod_eq_of_lt (by have := t.isLt; omega))

/-! ## The resources of a list -/

theorem sep_emp' (P : sProp 𝕄) : iprop(P ∗ emp) = P := sep_emp_eq P

theorem ownL_one (r : Res) : ownL m c [r] = own m c r := sep_emp_eq _
theorem ownL_cons (r : Res) (l : List Res) : ownL m c (r :: l) = iprop(own m c r ∗ ownL m c l) := rfl
theorem ownL_four (f : Fin 4 → Res) : ownL m c (four f) = bigSep Finset.univ fun s => own m c (f s) := by
  rw [bigSep_univ_eq_bigSepL [0, 1, 2, 3] (by decide) (by decide), bigSepL_cons_cons, bigSepL_cons_cons, bigSepL_cons_cons, bigSepL_singleton]
  unfold four
  rw [ownL_cons, ownL_cons, ownL_cons, ownL_one]
  rfl

section Owns
variable (b : Bool) (n : ℕ) (hn : n < 18) (s : Fin 4)
include hn
theorem own_tick : own m c (mk .tick b n s) = iprop(anyAt (nbr b c) (landV b (f15 n) s) ∗ dutyTok ER (dcell (nbr b c) (.recv false b (f15 n) s)) 0 false
      ∗ dutyTok ER (dcell c (.send false b (par n) s)) (n / 2) false) := by rw [mk_eq _ _ _ hn]; rfl
theorem own_atick : own m c (mk .atick b n s) = iprop(anyAt (nbr b c) (outV b s (f15 n).castSucc c) ∗ dutyTok ER (dcell (nbr b c) (.recv true b (f15 n) s)) 0 false
      ∗ dutyTok ER (dcell c (.send true b (par n) s)) (n / 2) false) := by rw [mk_eq _ _ _ hn]; rfl
theorem own_rcv : own m c (mk .rcv b n s) = flying c (.recv false b (f15 n) s) 0 := by rw [mk_eq _ _ _ hn]; rfl
theorem own_rdone : own m c (mk .rdone b n s) = semVal (dcell c (.recv false b (f15 n) s)) 0 := by rw [mk_eq _ _ _ hn]; rfl
theorem own_arcv : own m c (mk .arcv b n s) = flying c (.recv true b (f15 n) s) 0 := by rw [mk_eq _ _ _ hn]; rfl
theorem own_ardone : own m c (mk .ardone b n s) = semVal (dcell c (.recv true b (f15 n) s)) 0 := by rw [mk_eq _ _ _ hn]; rfl
theorem own_sq : own m c (mk .sq b n s) = idle c (.send false b (par n) s) (n / 2) := by rw [mk_eq _ _ _ hn]; rfl
theorem own_fly : own m c (mk .fly b n s) = flying c (.send false b (par n) s) (n / 2) := by rw [mk_eq _ _ _ hn]; rfl
theorem own_asq : own m c (mk .asq b n s) = idle c (.send true b (par n) s) (n / 2) := by rw [mk_eq _ _ _ hn]; rfl
theorem own_afly : own m c (mk .afly b n s) = flying c (.send true b (par n) s) (n / 2) := by rw [mk_eq _ _ _ hn]; rfl
theorem own_land : own m c (mk .land b n s) = at_ c (landV b (f15 n) s) (sv m b s n (prev b c)) := by rw [mk_eq _ _ _ hn]; rfl
theorem own_sum : own m c (mk .sum b n s) = at_ c (landV b (f15 n) s) (sv m b s (n + 1) c) := by rw [mk_eq _ _ _ hn]; rfl
theorem own_fin : own m c (mk .fin b n s) = at_ c (outV b s (hop n) c) (fv m b s n c) := by rw [mk_eq _ _ _ hn]; rfl
theorem own_oany : own m c (mk .oany b n s) = anyAt c (outV b s 0 c) := by rw [mk_eq _ _ _ hn]; rfl
theorem own_pc_any (h2 : n < 2) : own m c (mk .pc b n s) = anyAt c (colV (slotV (pbuf b) (par n)) s) := by
  rw [mk_eq _ _ _ hn]; exact if_pos h2
theorem own_pc (h2 : 2 ≤ n) : own m c (mk .pc b n s) = at_ c (colV (slotV (pbuf b) (par n)) s) (colsOf s (px m b (hop (n - 2)) c)) := by
  rw [mk_eq _ _ _ hn]; exact if_neg (not_lt.mpr h2)
theorem own_pq : own m c (mk .pq b n s) = iprop(idle c (.part b (par n)) (n / 2) ∗ argAt m c main_arg0 (pshr b (par n))) := by rw [mk_eq _ _ _ hn]; rfl
theorem own_pfly : own m c (mk .pfly b n s)
    = iprop(flying c (.part b (par n)) (n / 2) ∗ argBut m c main_arg0 (pshr b (par n)) (partV b (hop n) c).view.set) := by rw [mk_eq _ _ _ hn]; rfl
theorem own_ptok : own m c (mk .ptok b n s) = dutyTok ER (dcell c (.part b (par n))) (n / 2) false := by rw [mk_eq _ _ _ hn]; rfl
theorem own_rq : own m c (mk .rq b n s) = iprop(idle c (.resid b) 0 ∗ dutyTok ER (dcell c (.resid b)) 0 false ∗ argAt m c main_arg1 (rshr b)) := by rw [mk_eq _ _ _ hn]; rfl
theorem own_rany : own m c (mk .rany b n s) = anyAt c (colV (slotV rbuf (rSlot b)) s) := by rw [mk_eq _ _ _ hn]; rfl
theorem own_rfly : own m c (mk .rfly b n s) = iprop(flying c (.resid b) 0 ∗ argBut m c main_arg1 (rshr b) (residV b c).view.set) := by rw [mk_eq _ _ _ hn]; rfl
theorem own_rdn : own m c (mk .rdn b n s) = iprop(semVal (dcell c (.resid b)) 0 ∗ argAt m c main_arg1 (rshr b)) := by rw [mk_eq _ _ _ hn]; rfl
theorem own_rc : own m c (mk .rc b n s) = at_ c (colV (slotV rbuf (rSlot b)) s) (colsOf s (rx m b c)) := by rw [mk_eq _ _ _ hn]; rfl
end Owns

/-- A cell's one round over, the cell is at rest. -/
theorem idle_done (k : Cel) (r : ℕ) (h : rounds k ≤ r) : idle (F := F) c k r = semVal (dcell c k) 0 := if_neg (not_lt.mpr h)

/-- What hop `h` sends. -/
theorem own_src (b : Bool) (h : Fin 15) (s : Fin 4) : own m c (srcR b h.val s) = at_ c (fromV b h s) (sv m b s h.val c) := by
  rcases h with ⟨_ | n, hn⟩
  · show own m c (mk .pc b 2 s) = _
    rw [own_pc m c b 2 (by decide) s le_rfl]; rfl
  · show own m c (mk .sum b n s) = _
    rw [own_sum m c b n (by omega) s, at_from, show f15 n = ⟨n, Nat.lt_of_succ_lt hn⟩ from Fin.ext (Nat.mod_eq_of_lt (by omega))]

/-! ## The rounds' handovers, by hop -/

theorem pay_send (b : Bool) (h : Fin 15) (s : Fin 4) : pay m c (.send false b (par h) s) (h.val / 2) = at_ c (fromV b h s) (sv m b s h.val c) := by
  show at_ c (fromV b (f15 (rnd (h.val / 2) (par h))) s) (sv m b s (f15 (rnd (h.val / 2) (par h))).val c) = _
  rw [rnd_par, f15_val]
theorem pay_asend (b : Bool) (t : Fin 15) (s : Fin 4) : pay m c (.send true b (par t) s) (t.val / 2) = at_ c (outV b s t.castSucc c) (fv m b s t.val c) := by
  show at_ c (outV b s (f15 (rnd (t.val / 2) (par t))).castSucc c) (fv m b s (f15 (rnd (t.val / 2) (par t))).val c) = _
  rw [rnd_par, f15_val]
theorem pay_part (b : Bool) (h : Fin 16) : pay m c (.part b (par h)) (h.val / 2)
    = iprop(at_ c (slotV (pbuf b) (par h)) (px m b h c) ∗ psrc m c b h) := by
  show iprop(at_ c (slotV (pbuf b) (par h)) (px m b (hop (rnd (h.val / 2) (par h))) c) ∗ psrc m c b (hop (rnd (h.val / 2) (par h)))) = _
  rw [rnd_par, hop_val]

theorem outV_nbr (b : Bool) (s : Fin 4) (t : Fin 15) : outV b s t.castSucc c = outV b s t.succ (nbr b c) := by
  unfold outV
  congr 1
  simp only [gOff_nbr]

/-! ## The partial's and the residual's elements, split and joined -/

theorem part_join (b : Bool) (h : Fin 16) : iprop(psrc m c b h ∗ argBut m c main_arg0 (pshr b (par h)) (partV b h c).view.set) ⊢ argAt m c main_arg0 (pshr b (par h)) :=
  (pointsTo_split_subset (Finset.subset_univ _)).2
theorem resid_join (b : Bool) : iprop(rsrc m c b ∗ argBut m c main_arg1 (rshr b) (residV b c).view.set) ⊢ argAt m c main_arg1 (rshr b) :=
  (pointsTo_split_subset (Finset.subset_univ _)).2

theorem part_whole (b : Bool) (h : Fin 16) : argAt m c main_arg0 (pshr b (par h))
    ⊢ ((partV b h c).view.loc (c : Thread nD τ) ↦{pshr b (par h)} m ((c : Thread nD τ).loc main_arg0)) := BIBase.Entails.rfl
theorem resid_whole (b : Bool) : argAt m c main_arg1 (rshr b)
    ⊢ ((residV b c).view.loc (c : Thread nD τ) ↦{rshr b} m ((c : Thread nD τ).loc main_arg1)) := BIBase.Entails.rfl
theorem part_rest (b : Bool) (h : Fin 16) : ((partV b h c).view.loc (c : Thread nD τ) ↦[Finset.univ \ (partV b h c).view.set]{pshr b (par h)} m ((c : Thread nD τ).loc main_arg0))
    ⊢ argBut m c main_arg0 (pshr b (par h)) (partV b h c).view.set := BIBase.Entails.rfl
theorem resid_rest (b : Bool) : ((residV b c).view.loc (c : Thread nD τ) ↦[Finset.univ \ (residV b c).view.set]{rshr b} m ((c : Thread nD τ).loc main_arg1))
    ⊢ argBut m c main_arg1 (rshr b) (residV b c).view.set := BIBase.Entails.rfl

/-! ## The steps -/

/-- A step of the device: with what it takes it goes on with what it gives back, owing the rest as before. -/
def Does (i : Cmd) {β : Type} (p : Prog (TpuEff nD τ sig (Elt F) Λ₀ .tc) β) (x : β) : Prop :=
  ∀ (O : CellTallies nD τ sig Unit), (∀ g ι, 0 < O g ι → ι ∈ L g ∧ lim i < lv g ι) →
    ∀ {α : Type} {Q : α → sProp 𝕄} {kk : β → Prog (TpuEff nD τ sig (Elt F) Λ₀ .tc) α},
    iprop(ctx m K ∗ ownL m c (pre i) ∗ owesAny c (O + owL c (pre i)))
      ⊢ iprop((ownL m c (post i) ∗ owesAny c (O + owL c (post i)) -∗ WP c (kk x) Q) -∗ WP c (p >>= kk) Q)

theorem owL_zero : ∀ (l : List Res), (∀ r ∈ l, r.1 ≠ .tick ∧ r.1 ≠ .atick) → owL c l = 0
  | [], _ => rfl
  | r :: l, h => by
    have h1 := h r (List.mem_cons_self)
    rw [owL, owL_zero l fun r' hr' => h r' (List.mem_cons_of_mem _ hr'), add_zero]
    unfold ow
    split
    · exact absurd (by assumption) h1.1
    · exact absurd (by assumption) h1.2
    · rfl

/-- A step that sends nothing owes as before. -/
theorem does_of {i : Cmd} {β : Type} {p : Prog (TpuEff nD τ sig (Elt F) Λ₀ .tc) β} {x : β} (h1 : owL c (pre i) = 0) (h2 : owL c (post i) = 0)
    (h : ∀ (O : CellTallies nD τ sig Unit), (∀ g ι, 0 < O g ι → ι ∈ L g ∧ lim i < lv g ι) →
      ∀ {α : Type} {Q : α → sProp 𝕄} {kk : β → Prog (TpuEff nD τ sig (Elt F) Λ₀ .tc) α},
      iprop(ctx m K ∗ ownL m c (pre i) ∗ owesAny c O)
        ⊢ iprop((ownL m c (post i) ∗ owesAny c O -∗ WP c (kk x) Q) -∗ WP c (p >>= kk) Q)) : Does m K c i p x := by
  intro O hO α Q kk
  rw [h1, h2, add_zero]
  exact h O hO

/-- A wait. -/
theorem does_wait (i : Ins) (k : Cel) (r : ℕ) (hr : r < rounds k) {sp sp' : Space} {s s' : Shape} {e e' : EltTy}
    {src : Memref sig .tc sp s e} {dst : Memref sig .tc sp' s' e'} {w1 : src.view.WordExact} {w2 : dst.view.WordExact}
    (hN : dst.view.dmaCredit = amt k) (hl : lim (.ins i) = lev k) (hi : act (F := F) c i = Prog.lift (.waitDma2 (dsem k) src dst w1 w2))
    (h1 : owL c (pre (.ins i)) = 0) (h2 : owL c (post (.ins i)) = 0) (X : sProp 𝕄)
    (hp : ownL m c (pre (.ins i)) = iprop(flying c k r ∗ X)) (hq : iprop(idle c k (r + 1) ∗ pay m c k r ∗ X) ⊢ ownL m c (post (.ins i))) :
    Does m K c (.ins i) (act c i) ⟨⟩ := by
  refine does_of m K c h1 h2 fun O hO α Q kk => ?_
  rw [hp, hi]
  rw [hl] at hO
  iintro ⟨#HC, ⟨Hf, HX⟩, HO⟩ Hk
  iapply (wait_dma m K c k r hr (h1 := w1) (h2 := w2) hN hO) $$ [Hf HO]
  · isplitr; · iexact HC
    isplitl [Hf] <;> iassumption
  iintro ⟨Hi, Hp, HO⟩
  iapply Hk
  isplitl [Hi Hp HX]
  · iapply hq
    isplitl [Hi]; · iexact Hi
    isplitl [Hp] <;> iassumption
  iexact HO

theorem does_waitSend (b : Bool) (h : Fin 15) (s : Fin 4) : Does m K c (.ins (.waitSend b h s)) (act c (.waitSend b h s)) ⟨⟩ := by
  have := h.isLt
  refine does_wait m K c _ (.send false b (par h) s) (h.val / 2) (lt_send _ _ _ _) (from_credit b h s) rfl rfl (owL_zero c _ (by simp [pre, mk]))
    (owL_zero c _ ?_) iprop(emp) ?_ ?_
  · rcases h with ⟨_ | n, hn⟩ <;> simp [post, srcR, mk]
  · rw [sep_emp']; exact (ownL_one m c _).trans (own_fly m c b h.val (by omega) s)
  · rw [sep_emp', pay_send]
    show _ ⊢ ownL m c [mk .sq b (h.val + 2) s, srcR b h.val s]
    rw [ownL_cons, ownL_one, own_src, own_sq m c b _ (by omega), par_two, half_two]

theorem does_agWaitSend (b : Bool) (t : Fin 15) (s : Fin 4) : Does m K c (.ins (.agWaitSend b t s)) (act c (.agWaitSend b t s)) ⟨⟩ := by
  have := t.isLt
  refine does_wait m K c _ (.send true b (par t) s) (t.val / 2) (lt_send _ _ _ _) (out_credit b s t.castSucc c) rfl rfl (owL_zero c _ (by simp [pre, mk]))
    (owL_zero c _ (by simp [post, mk])) iprop(emp) ?_ ?_
  · rw [sep_emp']; exact (ownL_one m c _).trans (own_afly m c b t.val (by omega) s)
  · rw [sep_emp', pay_asend]
    show _ ⊢ ownL m c [mk .asq b (t.val + 2) s, mk .fin b t.val s]
    rw [ownL_cons, ownL_one, own_fin m c b _ (by omega), own_asq m c b _ (by omega), par_two, half_two, hop_castSucc]

theorem does_waitRecv (b : Bool) (h : Fin 15) (s : Fin 4) : Does m K c (.ins (.waitRecv b h s)) (act c (.waitRecv b h s)) ⟨⟩ := by
  have := h.isLt
  refine does_wait m K c _ (.recv false b h s) 0 Nat.one_pos (land_credit b h s) rfl rfl (owL_zero c _ (by simp [pre, mk]))
    (owL_zero c _ (by simp [post, mk])) iprop(emp) ?_ ?_
  · rw [sep_emp']; refine (ownL_one m c _).trans ((own_rcv m c b h.val (by omega) s).trans ?_); rw [f15_val]
  · rw [sep_emp', idle_done c (.recv false b h s) (0 + 1) le_rfl]
    show _ ⊢ ownL m c [mk .rdone b h.val s, mk .land b h.val s]
    rw [ownL_cons, ownL_one, own_rdone m c b _ (by omega), own_land m c b _ (by omega), f15_val]
    exact BIBase.Entails.rfl

theorem does_agWaitRecv (b : Bool) (t : Fin 15) (s : Fin 4) : Does m K c (.ins (.agWaitRecv b t s)) (act c (.agWaitRecv b t s)) ⟨⟩ := by
  have := t.isLt
  refine does_wait m K c _ (.recv true b t s) 0 Nat.one_pos (out_credit b s t.succ c) rfl rfl (owL_zero c _ (by simp [pre, mk]))
    (owL_zero c _ (by simp [post, mk])) iprop(emp) ?_ ?_
  · rw [sep_emp']; refine (ownL_one m c _).trans ((own_arcv m c b t.val (by omega) s).trans ?_); rw [f15_val]
  · rw [sep_emp', idle_done c (.recv true b t s) (0 + 1) le_rfl]
    show _ ⊢ ownL m c [mk .ardone b t.val s, mk .fin b (t.val + 1) s]
    rw [ownL_cons, ownL_one, own_ardone m c b _ (by omega), own_fin m c b _ (by omega), f15_val, hop_succ]
    exact BIBase.Entails.rfl

theorem does_waitPart (b : Bool) (h : Fin 16) : Does m K c (.ins (.waitPart b h)) (act c (.waitPart b h)) ⟨⟩ := by
  have := h.isLt
  refine does_wait m K c _ (.part b (par h)) (h.val / 2) (lt_part b h) (slot_credit b (par h)) rfl rfl (owL_zero c _ (by simp [pre, mk]))
    (owL_zero c _ (by simp [post, mk, four])) (argBut m c main_arg0 (pshr b (par h)) (partV b h c).view.set) ?_ ?_
  · refine (ownL_one m c _).trans ((own_pfly m c b h.val (by omega) 0).trans ?_); rw [hop_val]
  · rw [pay_part]
    show _ ⊢ ownL m c (mk .pq b (h.val + 2) 0 :: four (mk .pc b (h.val + 2)))
    have hpc (s : Fin 4) : own m c (mk .pc b (h.val + 2) s) = at_ c (colV (slotV (pbuf b) (par h)) s) (colsOf s (px m b h c)) := by
      rw [own_pc m c b _ (by omega) s (by omega), par_two, Nat.add_sub_cancel, hop_val]
    rw [ownL_cons, ownL_four, own_pq m c b _ (by omega), par_two, half_two, BI.bigSep_congr fun s _ => hpc s]
    iintro ⟨Hi, ⟨Hs, Hp⟩, HX⟩
    isplitr [Hs]
    · isplitl [Hi]; · iexact Hi
      iapply (part_join m c b h)
      isplitl [Hp] <;> iassumption
    iapply (at_slot_cols c) $$ Hs

theorem does_waitResid (b : Bool) : Does m K c (.ins (.waitResid b)) (act c (.waitResid b)) ⟨⟩ := by
  refine does_wait m K c _ (.resid b) 0 Nat.one_pos (rslot_credit (rSlot b)) rfl rfl (owL_zero c _ (by simp [pre, mk]))
    (owL_zero c _ (by simp [post, mk, four])) (argBut m c main_arg1 (rshr b) (residV b c).view.set) ?_ ?_
  · exact (ownL_one m c _).trans (own_rfly m c b 0 (by decide) 0)
  · show iprop(_ ∗ (at_ c (slotV rbuf (rSlot b)) (rx m b c) ∗ rsrc m c b) ∗ _) ⊢ ownL m c (mk .rdn b 0 0 :: four (mk .rc b 0))
    rw [ownL_cons, ownL_four, own_rdn m c b _ (by decide), BI.bigSep_congr fun s _ => own_rc m c b 0 (by decide) s, idle_done c (.resid b) (0 + 1) le_rfl]
    iintro ⟨Hi, ⟨Hs, Hp⟩, HX⟩
    isplitr [Hs]
    · isplitl [Hi]; · iexact Hi
      iapply (resid_join m c b)
      isplitl [Hp] <;> iassumption
    iapply (at_slot_cols c) $$ Hs

theorem does_startPart (b : Bool) (h : Fin 16) : Does m K c (.ins (.startPart b h)) (act c (.startPart b h)) ⟨⟩ := by
  have := h.isLt
  refine does_of m K c (owL_zero c _ (by simp [pre, mk, four])) (owL_zero c _ (by simp [post, mk])) fun O hO α Q kk => ?_
  have hpc : ownL m c (four (mk .pc b h.val)) ⊢ anyAt c (slotV (pbuf b) (par h)) := by
    rw [ownL_four]
    refine (show _ ⊢ _ from BI.bigSep_mono fun s _ => ?_ : _ ⊢ bigSep Finset.univ fun s => anyAt c (colV (slotV (pbuf b) (par h)) s)).trans (any_slot_cols c _)
    by_cases h2 : h.val < 2
    · rw [own_pc_any m c b _ (by omega) s h2]; exact (BIBase.Entails.rfl : (anyAt c (colV (slotV (pbuf b) (par h)) s) : sProp 𝕄) ⊢ _)
    · rw [own_pc m c b _ (by omega) s (by omega)]; exact any_of_at c _ _
  show iprop(ctx m K ∗ (own m c (mk .pq b h.val 0) ∗ own m c (mk .ptok b h.val 0) ∗ ownL m c (four (mk .pc b h.val))) ∗ owesAny c O)
    ⊢ iprop((ownL m c [mk .pfly b h.val 0] ∗ owesAny c O -∗ WP c (kk ⟨⟩) Q) -∗ WP c (act c (.startPart b h) >>= kk) Q)
  rw [ownL_one, own_pq m c b _ (by omega), own_ptok m c b _ (by omega), own_pfly m c b _ (by omega), hop_val]
  iintro ⟨#HC, ⟨⟨Hi, Ha⟩, Ht, Hs⟩, HO⟩ Hk
  ihave Hs := hpc $$ Hs
  iapply (copy_dma m K c (.part b (par h)) (h.val / 2) (lt_part b h) (src := partV b h c) (slot_credit b (par h)) (pshr b (par h))
    (m ((c : Thread nD τ).loc main_arg0)) (by rw [pay_part]; exact BIBase.Entails.rfl)) $$ [Hi Ha Ht Hs]
  · isplitr; · iexact HC
    isplitl [Ha]; · iapply (part_whole m c b h) $$ Ha
    isplitl [Hs]; · iexact Hs
    isplitl [Ht] <;> iassumption
  iintro ⟨Hf, Hx⟩
  iapply Hk
  isplitr [HO]
  · isplitl [Hf]; · iexact Hf
    iapply (part_rest m c b h) $$ Hx
  iexact HO

theorem does_startResid (b : Bool) : Does m K c (.ins (.startResid b)) (act c (.startResid b)) ⟨⟩ := by
  refine does_of m K c (owL_zero c _ (by simp [pre, mk, four])) (owL_zero c _ (by simp [post, mk])) fun O hO α Q kk => ?_
  have hpc : ownL m c (four (mk .rany b 0)) ⊢ anyAt c (slotV rbuf (rSlot b)) := by
    rw [ownL_four]
    refine (show _ ⊢ _ from BI.bigSep_mono fun s _ => ?_ : _ ⊢ bigSep Finset.univ fun s => anyAt c (colV (slotV rbuf (rSlot b)) s)).trans (any_slot_cols c _)
    rw [own_rany m c b _ (by decide) s]; exact (BIBase.Entails.rfl : (anyAt c (colV (slotV rbuf (rSlot b)) s) : sProp 𝕄) ⊢ _)
  show iprop(ctx m K ∗ (own m c (mk .rq b 0 0) ∗ ownL m c (four (mk .rany b 0))) ∗ owesAny c O)
    ⊢ iprop((ownL m c [mk .rfly b 0 0] ∗ owesAny c O -∗ WP c (kk ⟨⟩) Q) -∗ WP c (act c (.startResid b) >>= kk) Q)
  rw [ownL_one, own_rq m c b _ (by decide), own_rfly m c b _ (by decide)]
  iintro ⟨#HC, ⟨⟨Hi, Ht, Ha⟩, Hs⟩, HO⟩ Hk
  ihave Hs := hpc $$ Hs
  iapply (copy_dma m K c (.resid b) 0 Nat.one_pos (src := residV b c) (rslot_credit (rSlot b)) (rshr b)
    (m ((c : Thread nD τ).loc main_arg1)) BIBase.Entails.rfl) $$ [Hi Ha Ht Hs]
  · isplitr; · iexact HC
    isplitl [Ha]; · iapply (resid_whole m c b) $$ Ha
    isplitl [Hs]; · iexact Hs
    isplitl [Ht] <;> iassumption
  iintro ⟨Hf, Hx⟩
  iapply Hk
  isplitr [HO]
  · isplitl [Hf]; · iexact Hf
    iapply (resid_rest m c b) $$ Hx
  iexact HO

/-! ## Sends -/

theorem owL_tick (b : Bool) (h : Fin 15) (s : Fin 4) (r r' : Res) (h1 : r.1 ≠ .tick ∧ r.1 ≠ .atick) (h2 : r'.1 ≠ .tick ∧ r'.1 ≠ .atick) :
    owL c [mk .tick b h.val s, r, r'] = tallyAt (dcell (nbr b c) (.recv false b h s)) () N1 := by
  rw [owL, owL_zero c [r, r'] (by simp only [List.mem_cons, List.not_mem_nil, or_false]; rintro x (rfl | rfl) <;> assumption), add_zero, mk_eq _ _ _ (by omega)]
  show (if h.val < 15 then tallyAt (dcell (nbr b c) (.recv false b (f15 h.val) s)) () N1 else 0 : CellTallies nD τ sig Unit) = _
  rw [if_pos h.isLt, f15_val]
theorem owL_atick (b : Bool) (h : Fin 15) (s : Fin 4) (r r' : Res) (h1 : r.1 ≠ .tick ∧ r.1 ≠ .atick) (h2 : r'.1 ≠ .tick ∧ r'.1 ≠ .atick) :
    owL c [mk .atick b h.val s, r, r'] = tallyAt (dcell (nbr b c) (.recv true b h s)) () N1 := by
  rw [owL, owL_zero c [r, r'] (by simp only [List.mem_cons, List.not_mem_nil, or_false]; rintro x (rfl | rfl) <;> assumption), add_zero, mk_eq _ _ _ (by omega)]
  show (if h.val < 15 then tallyAt (dcell (nbr b c) (.recv true b (f15 h.val) s)) () N1 else 0 : CellTallies nD τ sig Unit) = _
  rw [if_pos h.isLt, f15_val]

theorem srcR_not (b : Bool) (h : Fin 15) (s : Fin 4) : (srcR b h.val s).1 ≠ .tick ∧ (srcR b h.val s).1 ≠ .atick := by
  rcases h with ⟨_ | n, hn⟩ <;> simp [srcR, mk]

theorem does_send (b : Bool) (h : Fin 15) (s : Fin 4) : Does m K c (.ins (.send b h s)) (act c (.send b h s)) ⟨⟩ := by
  have := h.isLt
  intro O hO α Q kk
  show iprop(ctx m K ∗ ownL m c [mk .tick b h.val s, mk .sq b h.val s, srcR b h.val s] ∗ owesAny c (O + owL c [mk .tick b h.val s, mk .sq b h.val s, srcR b h.val s]))
    ⊢ iprop((ownL m c [mk .fly b h.val s] ∗ owesAny c (O + owL c [mk .fly b h.val s]) -∗ WP c (kk ⟨⟩) Q) -∗ WP c (act c (.send b h s) >>= kk) Q)
  rw [owL_tick c b h s _ _ (by simp [mk]) (srcR_not b h s), owL_zero c [mk .fly b h.val s] (by simp [mk]), add_zero, ownL_one, ownL_cons, ownL_cons, ownL_one,
    own_tick m c b _ (by omega), own_sq m c b _ (by omega), own_fly m c b _ (by omega), own_src, f15_val]
  iintro ⟨#HC, ⟨⟨Hd, Ht', Ht⟩, Hi, Hs⟩, HO⟩ Hk
  iapply (send_dma m K c (.send false b (par h) s) (.recv false b h s) (h.val / 2) (lt_send _ _ _ _) Nat.one_pos b (src := fromV b h s) (dst := landV b h s)
    (land_credit b h s) rfl (sv m b s h.val c) (by rw [pay_send]) (by
      show _ ⊢ at_ (nbr b c) (landV b h s) (sv m b s h.val (prev b (nbr b c)))
      rw [prev_nbr])) $$ [Hd Ht' Ht Hi Hs HO]
  · isplitr; · iexact HC
    isplitl [Hs]; · iexact Hs
    isplitl [Hd]; · iexact Hd
    isplitl [Ht']; · iexact Ht'
    isplitl [Ht]; · iexact Ht
    isplitl [Hi]; · iexact Hi
    iexact HO
  iexact Hk

theorem does_agSend (b : Bool) (t : Fin 15) (s : Fin 4) : Does m K c (.ins (.agSend b t s)) (act c (.agSend b t s)) ⟨⟩ := by
  have := t.isLt
  intro O hO α Q kk
  show iprop(ctx m K ∗ ownL m c [mk .atick b t.val s, mk .asq b t.val s, mk .fin b t.val s] ∗ owesAny c (O + owL c [mk .atick b t.val s, mk .asq b t.val s, mk .fin b t.val s]))
    ⊢ iprop((ownL m c [mk .afly b t.val s] ∗ owesAny c (O + owL c [mk .afly b t.val s]) -∗ WP c (kk ⟨⟩) Q) -∗ WP c (act c (.agSend b t s) >>= kk) Q)
  rw [owL_atick c b t s _ _ (by simp [mk]) (by simp [mk]), owL_zero c [mk .afly b t.val s] (by simp [mk]), add_zero, ownL_one, ownL_cons, ownL_cons, ownL_one,
    own_atick m c b _ (by omega), own_asq m c b _ (by omega), own_afly m c b _ (by omega), own_fin m c b _ (by omega), f15_val, hop_castSucc]
  iintro ⟨#HC, ⟨⟨Hd, Ht', Ht⟩, Hi, Hs⟩, HO⟩ Hk
  iapply (send_dma m K c (.send true b (par t) s) (.recv true b t s) (t.val / 2) (lt_send _ _ _ _) Nat.one_pos b (src := outV b s t.castSucc c) (dst := outV b s t.castSucc c)
    (out_credit b s t.castSucc c) rfl (fv m b s t.val c) (by rw [pay_asend]) (by
      show _ ⊢ at_ (nbr b c) (outV b s t.succ (nbr b c)) (ov m b s (back b t.val (prev b (nbr b c))))
      rw [prev_nbr, outV_nbr]; exact BIBase.Entails.rfl)) $$ [Hd Ht' Ht Hi Hs HO]
  · isplitr; · iexact HC
    isplitl [Hs]; · iexact Hs
    isplitl [Hd]; · iexact Hd
    isplitl [Ht']; · iexact Ht'
    isplitl [Ht]; · iexact Ht
    isplitl [Hi]; · iexact Hi
    iexact HO
  iexact Hk

/-! ## The sums -/

theorem load_land (b : Bool) (h : Fin 15) (s : Fin 4) (X : Vec F S64x512 .f32)
    {hl : (comm b).view.LoadsAt (rectKC h s).toLoadRect}
    {α : Type} {Q : α → sProp 𝕄} {kk : Vec F S1x64x512 .f32 → Prog (TpuEff nD τ sig (Elt F) Λ₀ .tc) α} :
    at_ c (landV b h s) X ⊢ iprop((∀ v : Vec F S1x64x512 .f32, ⌜shapeCast S64x512 v shapeCasts_S1x64x512_S64x512 = X⌝ -∗ at_ c (landV b h s) X -∗ WP c (kk v) Q)
        -∗ WP c (.op (.load (comm b) (rectKC h s).toLoadRect hl) kk) Q) :=
  load_piece c (comm b) (rectKC h s) (fun _ => rfl) squeezes_S1x64x512_S64x512 shapeCasts_S1x64x512_S64x512 X
theorem load_col (M : Memref sig .tc .vmem S2x64x2048 .f32) (j : Fin 2) (s : Fin 4) (X : Vec F S64x512 .f32)
    {hl : M.view.LoadsAt (rectPC j s).toLoadRect}
    {α : Type} {Q : α → sProp 𝕄} {kk : Vec F S1x64x512 .f32 → Prog (TpuEff nD τ sig (Elt F) Λ₀ .tc) α} :
    at_ c (colV (slotV M j) s) X ⊢ iprop((∀ v : Vec F S1x64x512 .f32, ⌜shapeCast S64x512 v shapeCasts_S1x64x512_S64x512 = X⌝ -∗ at_ c (colV (slotV M j) s) X -∗ WP c (kk v) Q)
        -∗ WP c (.op (.load M (rectPC j s).toLoadRect hl) kk) Q) := by
  rw [at_pc]
  exact load_piece c M (rectPC j s) (fun _ => rfl) squeezes_S1x64x512_S64x512 shapeCasts_S1x64x512_S64x512 X

theorem sumPay_cast (v w : Vec F S1x64x512 .f32) : shapeCast S64x512 (sumPay v w) shapeCasts_S1x64x512_S64x512
    = addf (shapeCast S64x512 v shapeCasts_S1x64x512_S64x512) (shapeCast S64x512 w shapeCasts_S1x64x512_S64x512) := by
  unfold sumPay
  rw [shapeCast_shapeCast]
theorem store_sum (b : Bool) (h : Fin 15) (s : Fin 4) (X Y : Vec F S64x512 .f32) (v w : Vec F S1x64x512 .f32)
    (hv : shapeCast S64x512 v shapeCasts_S1x64x512_S64x512 = X) (hw : shapeCast S64x512 w shapeCasts_S1x64x512_S64x512 = Y)
    {hx : ((comm b).access (rectKC h s)).Stores Finset.univ} {hm : (Finset.univ : Finset (rectKC h s).shape.Idx) = Finset.univ ∨ ∀ a, (rectKC h s).stride a = 1}
    {α : Type} {Q : α → sProp 𝕄} {kk : PUnit → Prog (TpuEff nD τ sig (Elt F) Λ₀ .tc) α} :
    anyAt c (landV b h s) ⊢ iprop((at_ c (landV b h s) (addf (X : FVec F S64x512 .f32) (Y : FVec F S64x512 .f32)) -∗ WP c (kk ⟨⟩) Q)
        -∗ WP c (.op (.store (comm b) (rectKC h s) (sumPay v w) Finset.univ hx hm) kk) Q) := by
  subst hv hw
  rw [← sumPay_cast]
  exact store_piece c (comm b) (rectKC h s) (fun _ => rfl) squeezes_S1x64x512_S64x512 shapeCasts_S1x64x512_S64x512

theorem does_accum (b : Bool) (h : Fin 14) (s : Fin 4) : Does m K c (.ins (.accum b h s)) (act c (.accum b h s)) ⟨⟩ := by
  have := h.isLt
  refine does_of m K c (owL_zero c _ (by simp [pre, mk])) (owL_zero c _ (by simp [post, mk])) fun O hO α Q kk => ?_
  show iprop(ctx m K ∗ ownL m c [mk .land b h.val s, mk .pc b (h.val + 3) s] ∗ owesAny c O)
    ⊢ iprop((ownL m c [mk .sum b h.val s, mk .pc b (h.val + 3) s] ∗ owesAny c O -∗ WP c (kk ⟨⟩) Q) -∗ WP c (act c (.accum b h s) >>= kk) Q)
  have e : f15 h.val = h.castSucc := Fin.ext (Nat.mod_eq_of_lt (by omega))
  have e2 : par (h.val + 3) = par (h.val + 1) := par_two (h.val + 1)
  rw [ownL_cons, ownL_one, ownL_cons, ownL_one, own_land m c b _ (by omega), own_pc m c b _ (by omega) s (by omega), own_sum m c b _ (by omega), e, e2]
  iintro ⟨-, ⟨Hl, Hc⟩, HO⟩ Hk
  iapply (load_land c b h.castSucc s _) $$ Hl
  iintro %v %hv Hl
  iapply (load_col c (pbuf b) (par (h.val + 1)) s _) $$ Hc
  iintro %w %hw Hc
  iapply (load_land c b h.castSucc s _) $$ Hl
  iintro %u %hu Hl
  ihave Hl := (any_of_at c _ _) $$ Hl
  iapply (store_sum c b h.castSucc s _ _ v w hv hw) $$ Hl
  iintro Hl
  iapply Hk
  isplitr [HO]
  · isplitl [Hl]; · iexact Hl
    iexact Hc
  iexact HO

theorem does (i : Ins) : Does m K c (.ins i) (act c i) ⟨⟩ := by
  match i with
  | .startResid b => exact does_startResid m K c b
  | .waitResid b => exact does_waitResid m K c b
  | .startPart b h => exact does_startPart m K c b h
  | .waitPart b h => exact does_waitPart m K c b h
  | .send b h s => exact does_send m K c b h s
  | .waitSend b h s => exact does_waitSend m K c b h s
  | .waitRecv b h s => exact does_waitRecv m K c b h s
  | .accum b h s => exact does_accum m K c b h s
  | .agSend b t s => exact does_agSend m K c b t s
  | .agWaitSend b t s => exact does_agWaitSend m K c b t s
  | .agWaitRecv b t s => exact does_agWaitRecv m K c b t s

/-! ## The norm's two parts -/

theorem bind_assoc' {α β γ : Type} (p : Prog (TpuEff nD τ sig (Elt F) Λ₀ .tc) α) (f : α → Prog (TpuEff nD τ sig (Elt F) Λ₀ .tc) β)
    (g : β → Prog (TpuEff nD τ sig (Elt F) Λ₀ .tc) γ) : (p >>= f) >>= g = p >>= fun x => f x >>= g := by
  exact bind_assoc p f g

theorem does_sum (b : Bool) (s : Fin 4) : Does m K c (.sum b s) (sumUp b s) (yv m b s c) := by
  refine does_of m K c (owL_zero c _ (by simp [pre, mk])) (owL_zero c _ (by simp [post, mk])) fun O hO α Q kk => ?_
  show iprop(ctx m K ∗ ownL m c [mk .rcv b 14 s, mk .pc b 17 s, mk .rc b 0 s] ∗ owesAny c O)
    ⊢ iprop((ownL m c [mk .rdone b 14 s, mk .land b 14 s, mk .pc b 17 s, mk .rc b 0 s] ∗ owesAny c O -∗ WP c (kk (yv m b s c)) Q) -∗ WP c (sumUp b s >>= kk) Q)
  rw [ownL_cons, ownL_cons, ownL_one, ownL_cons, ownL_cons, ownL_cons, ownL_one, own_rcv m c b 14 (by decide), own_rdone m c b 14 (by decide),
    own_land m c b 14 (by decide), own_pc m c b 17 (by decide) s (by decide), own_rc m c b 0 (by decide), show par 17 = 1 from rfl]
  iintro ⟨#HC, ⟨Hf, Hp, Hr⟩, HO⟩ Hk
  iapply (wait_dma m K c (.recv false b 14 s) 0 Nat.one_pos (src := fromV b 14 s) (dst := landV b 14 s) (land_credit b 14 s) hO) $$ [Hf HO]
  · isplitr; · iexact HC
    isplitl [Hf]; · iexact Hf
    iexact HO
  iintro ⟨Hi, Hl, HO⟩
  ihave Hi := (Entails.of_eq (idle_done c (.recv false b 14 s) (0 + 1) le_rfl)) $$ Hi
  ihave Hl := (show pay m c (.recv false b 14 s) 0 ⊢ at_ c (landV b 14 s) (sv m b s 14 (prev b c)) from BIBase.Entails.rfl) $$ Hl
  iapply (load_land c b 14 s _) $$ Hl
  iintro %u %hu Hl
  iapply (load_col c (pbuf b) 1 s _) $$ Hp
  iintro %v %hv Hp
  iapply (load_col c rbuf (rSlot b) s _) $$ Hr
  iintro %w %hw Hr
  ihave Hk := (show iprop(_ -∗ WP c (kk (yv m b s c)) Q) ⊢ iprop(_ -∗ WP c (kk (yPay u v w)) Q) from by
    rw [show yPay u v w = yv m b s c from by unfold yPay yv; rw [hu, hv, hw]; rfl]) $$ Hk
  iapply Hk
  isplitr [HO]
  · isplitl [Hi]; · iexact Hi
    isplitl [Hl]; · iexact Hl
    isplitl [Hp] <;> iassumption
  iexact HO

theorem outS (b : Bool) (s : Fin 4) : out.slice (rectS b s c) (fun _ => rfl) = outV b s 0 c := by
  unfold outV rectS
  congr 1
  simp only [sOff_eq]

theorem load_slice {s : Shape} {e : EltTy} (M : Memref sig .tc .vmem s e) (r : Rect s) (hr : ∀ a, r.stride a = 1) {hl : M.view.LoadsAt r.toLoadRect}
    {α : Type} {Q : α → sProp 𝕄} {kk : (r.shape.Idx → Elt F e) → Prog (TpuEff nD τ sig (Elt F) Λ₀ .tc) α} :
    anyAt c (M.slice r hr) ⊢ iprop((∀ v, anyAt c (M.slice r hr) -∗ WP c (kk v) Q) -∗ WP c (.op (.load M r.toLoadRect hl) kk) Q) := by
  have hany : (anyAt c (M.slice r hr) : sProp 𝕄)
      = iprop(∃ f : Buf (Elt F) ((M.access r).loc (c : Thread nD τ)), ((M.access r).loc (c : Thread nD τ) ↦[(M.access r).set]{fullShare} f)) := rfl
  rw [hany]
  iintro ⟨%f, H⟩ Hk
  iapply (wp_load_rect 𝒱₀ (c : Thread nD τ) none Set.univ (m := M) (r := r) (f := f) (S := (M.access r).set) subset_rfl) $$ [H]
  · iexact H
  iintro H
  iapply Hk $$ %((M.access r).read (Elt F) f)
  iexists f
  iexact H
theorem store_slice {s : Shape} {e : EltTy} (M : Memref sig .tc .vmem s e) (r : Rect s) (hr : ∀ a, r.stride a = 1) {p : r.shape.Idx → Elt F e}
    {hx : (M.access r).Stores Finset.univ} {hm : (Finset.univ : Finset r.shape.Idx) = Finset.univ ∨ ∀ a, r.stride a = 1}
    {α : Type} {Q : α → sProp 𝕄} {kk : PUnit → Prog (TpuEff nD τ sig (Elt F) Λ₀ .tc) α} :
    anyAt c (M.slice r hr) ⊢ iprop((at_ c (M.slice r hr) p -∗ WP c (kk ⟨⟩) Q) -∗ WP c (.op (.store M r p Finset.univ hx hm) kk) Q) := by
  have hown : (at_ c (M.slice r hr) p : sProp 𝕄)
      = iprop(∃ f : Buf (Elt F) ((M.access r).loc (c : Thread nD τ)), ⌜(M.access r).read (Elt F) f = p⌝
        ∗ ((M.access r).loc (c : Thread nD τ) ↦[(M.access r).set]{fullShare} f)) := rfl
  have hany : (anyAt c (M.slice r hr) : sProp 𝕄)
      = iprop(∃ f : Buf (Elt F) ((M.access r).loc (c : Thread nD τ)), ((M.access r).loc (c : Thread nD τ) ↦[(M.access r).set]{fullShare} f)) := rfl
  rw [hany, hown]
  iintro ⟨%f, H⟩ Hk
  iapply (wp_store 𝒱₀ (c : Thread nD τ) none Set.univ (m := M) (r := r) (f := f) (w := p) (Mk := Finset.univ)
    (S := (M.access r).set) subset_rfl) $$ [H]
  · iexact H
  iintro H
  iapply Hk
  iexists ((M.access r).write (Elt F) f p Finset.univ)
  isplitr
  · ipureintro; exact View.read_write_univ (v := M.access r) f p
  · iexact H

theorem load_out (b : Bool) (s : Fin 4) {hl : out.view.LoadsAt (rectS b s c).toLoadRect}
    {α : Type} {Q : α → sProp 𝕄} {kk : Vec F S64x512 .f32 → Prog (TpuEff nD τ sig (Elt F) Λ₀ .tc) α} :
    anyAt c (outV b s 0 c) ⊢ iprop((∀ v, anyAt c (outV b s 0 c) -∗ WP c (kk v) Q) -∗ WP c (.op (.load out (rectS b s c).toLoadRect hl) kk) Q) := by
  rw [← outS]; exact load_slice c out (rectS b s c) (fun _ => rfl)
theorem store_out (b : Bool) (s : Fin 4) {p : Vec F S64x512 .f32}
    {hx : (out.access (rectS b s c)).Stores Finset.univ} {hm : (Finset.univ : Finset (rectS b s c).shape.Idx) = Finset.univ ∨ ∀ a, (rectS b s c).stride a = 1}
    {α : Type} {Q : α → sProp 𝕄} {kk : PUnit → Prog (TpuEff nD τ sig (Elt F) Λ₀ .tc) α} :
    anyAt c (outV b s 0 c) ⊢ iprop((at_ c (outV b s 0 c) p -∗ WP c (kk ⟨⟩) Q) -∗ WP c (.op (.store out (rectS b s c) p Finset.univ hx hm) kk) Q) := by
  rw [← outS]; exact store_slice c out (rectS b s c) (fun _ => rfl)

theorem does_put (b : Bool) (s : Fin 4) (p : FVec F S64x512 .f32) (hp : p = ov m b s c) : Does m K c (.put b s) (putOut c b s p) ⟨⟩ := by
  subst hp
  intro O hO α Q kk
  have hA := does_agSend m K c b 0 s O hO (Q := Q) (kk := kk)
  show iprop(ctx m K ∗ (own m c (mk .oany b 0 s) ∗ own m c (mk .atick b 0 s) ∗ ownL m c [mk .asq b 0 s]) ∗ owesAny c (O + owL c [mk .oany b 0 s, mk .atick b 0 s, mk .asq b 0 s]))
    ⊢ iprop((ownL m c [mk .afly b 0 s] ∗ owesAny c (O + owL c [mk .afly b 0 s]) -∗ WP c (kk ⟨⟩) Q) -∗ WP c (putOut c b s (ov m b s c) >>= kk) Q)
  have e : owL c [mk .oany b 0 s, mk .atick b 0 s, mk .asq b 0 s] = owL c [mk .atick b 0 s, mk .asq b 0 s, mk .fin b 0 s] := by
    show 0 + (ow c (mk .atick b 0 s) + (0 + 0)) = ow c (mk .atick b 0 s) + (0 + (0 + 0))
    simp only [zero_add, add_zero]
  rw [e, ownL_one, own_oany m c b 0 (by decide)]
  iintro ⟨#HC, ⟨Ho, Ht, Hq⟩, HO⟩ Hk
  iapply (load_out c b s) $$ Ho
  iintro %u Ho
  iapply (store_out c b s) $$ Ho
  iintro Ho
  iapply hA $$ [Ht Hq Ho HO]
  · isplitr; · iexact HC
    isplitr [HO]
    · iapply (show iprop(own m c (mk .atick b 0 s) ∗ own m c (mk .asq b 0 s) ∗ at_ c (outV b s 0 c) (ov m b s c))
        ⊢ ownL m c (pre (.ins (.agSend b 0 s))) from by
          show _ ⊢ iprop(own m c (mk .atick b 0 s) ∗ own m c (mk .asq b 0 s) ∗ ownL m c [mk .fin b 0 s])
          rw [ownL_one, own_fin m c b 0 (by decide)]; exact BIBase.Entails.rfl)
      isplitl [Ht]; · iexact Ht
      isplitl [Hq]; · iexact Hq
      iexact Ho
    iexact HO
  iexact Hk

/-! ## Lists of steps -/

theorem step_ok {i : Cmd} {β : Type} {p : Prog (TpuEff nD τ sig (Elt F) Λ₀ .tc) β} {x : β} (hd : Does m K c i p x) {n n' : ℕ} (h : exec1 i n = some n')
    {α : Type} {Q : α → sProp 𝕄} {kk : β → Prog (TpuEff nD τ sig (Elt F) Λ₀ .tc) α} :
    iprop(ctx m K ∗ Hold m c n ∗ owesAny c (owing c n))
      ⊢ iprop((Hold m c n' ∗ owesAny c (owing c n') -∗ WP c (kk x) Q) -∗ WP c (p >>= kk) Q) := by
  unfold exec1 at h
  split at h
  · exact absurd h (by simp)
  rename_i n1 h1
  split at h
  · rename_i hz
    rw [takes_hold m c h1, takes_owing c h1, puts_hold m c h, puts_owing c h]
    iintro ⟨#HC, ⟨Hp, Hn⟩, HO⟩ Hk
    iapply (hd (owing c n1) (owing_lv c n1 (lim i) hz)) $$ [Hp HO]
    · isplitr; · iexact HC
      isplitl [Hp] <;> iassumption
    iintro ⟨Hq, HO⟩
    iapply Hk
    isplitr [HO]
    · isplitl [Hq] <;> iassumption
    iexact HO
  · exact absurd h (by simp)

/-- A list of instructions runs as the sets say. -/
theorem run_ok : ∀ (l : List Ins) {n n' : ℕ}, exec (l.map .ins) n = some n' →
    ∀ {α : Type} {Q : α → sProp 𝕄} {kk : PUnit → Prog (TpuEff nD τ sig (Elt F) Λ₀ .tc) α},
    iprop(ctx m K ∗ Hold m c n ∗ owesAny c (owing c n))
      ⊢ iprop((Hold m c n' ∗ owesAny c (owing c n') -∗ WP c (kk ⟨⟩) Q) -∗ WP c (run c l >>= kk) Q)
  | [], n, n', h, α, Q, kk => by
    cases h
    iintro ⟨-, Hn, HO⟩ Hk
    iapply Hk
    isplitl [Hn] <;> iassumption
  | i :: l, n, n', h, α, Q, kk => by
    obtain ⟨n1, h1, h2⟩ := exec_cons h
    show _ ⊢ iprop(_ -∗ WP c ((act c i >>= fun _ => run c l) >>= kk) Q)
    rw [bind_assoc]
    iintro ⟨#HC, Hn, HO⟩ Hk
    iapply (step_ok m K c (does m K c i) h1) $$ [Hn HO]
    · isplitr; · iexact HC
      isplitl [Hn] <;> iassumption
    iintro ⟨Hn, HO⟩
    iapply (run_ok l h2) $$ [Hn HO]
    · isplitr; · iexact HC
      isplitl [Hn] <;> iassumption
    iexact Hk

/-! ## The norm -/

/-- The staged scale. -/
def stgG : sProp 𝕄 := (c : Thread nD τ).loc cc0_stg0_0 ↦{fullShare} (m ((c : Thread nD τ).loc main_arg2))

theorem load_g (s : Fin 4) {α : Type} {Q : α → sProp 𝕄} {kk : Vec F S512 .f32 → Prog (TpuEff nD τ sig (Elt F) Λ₀ .tc) α} :
    stgG m c ⊢ iprop((stgG m c -∗ WP c (kk (gx m s c)) Q) -∗ WP c (loadG s >>= kk) Q) := by
  unfold stgG
  iintro H Hk
  iapply (wp_load_rect 𝒱₀ (c : Thread nD τ) none Set.univ (m := gam) (r := rectG s) (f := m ((c : Thread nD τ).loc main_arg2)) (S := Finset.univ) (Finset.subset_univ _)) $$ [H]
  · iexact H
  iintro H
  iapply Hk
  iexact H

theorem norm_ok {n n' : ℕ} (h : exec normCmds n = some n') {α : Type} {Q : α → sProp 𝕄} {kk : PUnit → Prog (TpuEff nD τ sig (Elt F) Λ₀ .tc) α} :
    iprop(ctx m K ∗ stgG m c ∗ Hold m c n ∗ owesAny c (owing c n))
      ⊢ iprop((stgG m c ∗ Hold m c n' ∗ owesAny c (owing c n') -∗ WP c (kk ⟨⟩) Q) -∗ WP c (norm c >>= kk) Q) := by
  obtain ⟨n1, h1, h⟩ := exec_cons h
  obtain ⟨n2, h2, h⟩ := exec_cons h
  obtain ⟨n3, h3, h⟩ := exec_cons h
  obtain ⟨n4, h4, h⟩ := exec_cons h
  obtain ⟨n5, h5, h⟩ := exec_cons h
  obtain ⟨n6, h6, h⟩ := exec_cons h
  obtain ⟨n7, h7, h⟩ := exec_cons h
  obtain ⟨n8, h8, h⟩ := exec_cons h
  obtain ⟨n9, h9, h⟩ := exec_cons h
  obtain ⟨n10, h10, h⟩ := exec_cons h
  obtain ⟨n11, h11, h⟩ := exec_cons h
  obtain ⟨n12, h12, h⟩ := exec_cons h
  obtain ⟨n13, h13, h⟩ := exec_cons h
  obtain ⟨n14, h14, h⟩ := exec_cons h
  obtain ⟨n15, h15, h⟩ := exec_cons h
  obtain ⟨n16, h16, h⟩ := exec_cons h
  cases h
  unfold norm
  simp only [bind_assoc]
  iintro ⟨#HC, HG, Hn, HO⟩ Hk
  iapply (step_ok m K c (does_sum m K c false 0) h1) $$ [Hn HO]
  · isplitr; · iexact HC
    isplitl [Hn] <;> iassumption
  iintro ⟨Hn, HO⟩
  iapply (step_ok m K c (does_sum m K c true 0) h2) $$ [Hn HO]
  · isplitr; · iexact HC
    isplitl [Hn] <;> iassumption
  iintro ⟨Hn, HO⟩
  iapply (step_ok m K c (does_sum m K c false 1) h3) $$ [Hn HO]
  · isplitr; · iexact HC
    isplitl [Hn] <;> iassumption
  iintro ⟨Hn, HO⟩
  iapply (step_ok m K c (does_sum m K c true 1) h4) $$ [Hn HO]
  · isplitr; · iexact HC
    isplitl [Hn] <;> iassumption
  iintro ⟨Hn, HO⟩
  iapply (step_ok m K c (does_sum m K c false 2) h5) $$ [Hn HO]
  · isplitr; · iexact HC
    isplitl [Hn] <;> iassumption
  iintro ⟨Hn, HO⟩
  iapply (step_ok m K c (does_sum m K c true 2) h6) $$ [Hn HO]
  · isplitr; · iexact HC
    isplitl [Hn] <;> iassumption
  iintro ⟨Hn, HO⟩
  iapply (step_ok m K c (does_sum m K c false 3) h7) $$ [Hn HO]
  · isplitr; · iexact HC
    isplitl [Hn] <;> iassumption
  iintro ⟨Hn, HO⟩
  iapply (step_ok m K c (does_sum m K c true 3) h8) $$ [Hn HO]
  · isplitr; · iexact HC
    isplitl [Hn] <;> iassumption
  iintro ⟨Hn, HO⟩
  iapply (load_g m c 0) $$ HG
  iintro HG
  iapply (step_ok m K c (does_put m K c false 0 _ rfl) h9) $$ [Hn HO]
  · isplitr; · iexact HC
    isplitl [Hn] <;> iassumption
  iintro ⟨Hn, HO⟩
  iapply (step_ok m K c (does_put m K c true 0 _ rfl) h10) $$ [Hn HO]
  · isplitr; · iexact HC
    isplitl [Hn] <;> iassumption
  iintro ⟨Hn, HO⟩
  iapply (load_g m c 1) $$ HG
  iintro HG
  iapply (step_ok m K c (does_put m K c false 1 _ rfl) h11) $$ [Hn HO]
  · isplitr; · iexact HC
    isplitl [Hn] <;> iassumption
  iintro ⟨Hn, HO⟩
  iapply (step_ok m K c (does_put m K c true 1 _ rfl) h12) $$ [Hn HO]
  · isplitr; · iexact HC
    isplitl [Hn] <;> iassumption
  iintro ⟨Hn, HO⟩
  iapply (load_g m c 2) $$ HG
  iintro HG
  iapply (step_ok m K c (does_put m K c false 2 _ rfl) h13) $$ [Hn HO]
  · isplitr; · iexact HC
    isplitl [Hn] <;> iassumption
  iintro ⟨Hn, HO⟩
  iapply (step_ok m K c (does_put m K c true 2 _ rfl) h14) $$ [Hn HO]
  · isplitr; · iexact HC
    isplitl [Hn] <;> iassumption
  iintro ⟨Hn, HO⟩
  iapply (load_g m c 3) $$ HG
  iintro HG
  iapply (step_ok m K c (does_put m K c false 3 _ rfl) h15) $$ [Hn HO]
  · isplitr; · iexact HC
    isplitl [Hn] <;> iassumption
  iintro ⟨Hn, HO⟩
  iapply (step_ok m K c (does_put m K c true 3 _ rfl) h16) $$ [Hn HO]
  · isplitr; · iexact HC
    isplitl [Hn] <;> iassumption
  iintro ⟨Hn, HO⟩
  iapply Hk
  isplitl [HG]; · iexact HG
  isplitl [Hn] <;> iassumption

end Cert.KernelIdeal.Ar
-- ==== Proof.KernelIdeal.Ends.lean ====
/-
  The barrier, and the two ends of the body: what the launch hands a device is the set of resources that the body begins with, and
  the set it ends with gives back the buffers, the arguments and the cells at rest.
-/
module

public import proofs.«01_k».proof.Proof.KernelIdeal.Instr
public import Idealize.ShloMosaic.Lib.Pipeline.BigSepL

@[expose] public section

noncomputable section

namespace Cert.KernelIdeal.Ar

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Families -/

/-- A ring and a column block; a hop of them; a hop, or a block of the result, of them. -/
abbrev BS := Bool × Fin 4
abbrev BHS := (Bool × Fin 4) × Fin 15
abbrev BTS := (Bool × Fin 4) × Fin 16

section Families
variable {I J : Type} [Fintype I] [Fintype J]

/-- All of a family, beside something that does not wear out. -/
theorem each [DecidableEq I] {R : sProp 𝕄} [BI.Persistent R] {Φ Ψ : I → sProp 𝕄} (h : ∀ i, iprop(R ∗ Φ i) ⊢ Ψ i) :
    iprop(R ∗ bigSep Finset.univ Φ) ⊢ bigSep Finset.univ Ψ :=
  (sep_mono_left (BI.bigSep_of_persistent Finset.univ R)).trans (by rw [← bigSep_sep']; exact bigSep_mono fun i _ => h i)
theorem all_mono {Φ Ψ : I → sProp 𝕄} (h : ∀ i, Φ i ⊢ Ψ i) : bigSep Finset.univ Φ ⊢ bigSep Finset.univ Ψ := bigSep_mono fun i _ => h i
theorem all_eq {Φ Ψ : I → sProp 𝕄} (h : ∀ i, Φ i = Ψ i) : bigSep Finset.univ Φ = bigSep Finset.univ Ψ := BI.bigSep_congr fun i _ => h i
theorem all_two (Φ : Bool → sProp 𝕄) : bigSep Finset.univ Φ = iprop(Φ false ∗ Φ true) := by
  rw [bigSep_univ_eq_bigSepL [false, true] (by decide) (by decide), bigSepL_cons_cons, bigSepL_singleton]; rfl
theorem all_slots (Φ : Fin 2 → sProp 𝕄) : bigSep Finset.univ Φ = iprop(Φ 0 ∗ Φ 1) := by
  rw [bigSep_univ_eq_bigSepL [0, 1] (by decide) (by decide), bigSepL_cons_cons, bigSepL_singleton]; rfl
theorem all_places (Φ : Fin 16 → sProp 𝕄) : bigSep Finset.univ Φ = iprop(Φ 0 ∗ bigSep Finset.univ fun t : Fin 15 => Φ t.succ) := by
  rw [bigSep_univ_eq_bigSepL (0 :: (List.finRange 15).map Fin.succ) (by decide) (by decide), bigSepL_cons', bigSepL_map,
    bigSep_univ_eq_bigSepL (List.finRange 15) (by decide) (by decide)]

end Families

theorem all_bs (Φ : BS → sProp 𝕄) : bigSep Finset.univ Φ = bigSepL bs Φ := bigSep_univ_eq_bigSepL bs (by decide) (by decide) Φ
theorem all_bools (Φ : Bool → sProp 𝕄) : bigSep Finset.univ Φ = bigSepL bools Φ := bigSep_univ_eq_bigSepL bools (by decide) (by decide) Φ
theorem all_bhs (Φ : BHS → sProp 𝕄) : bigSep Finset.univ Φ = bigSepL bhs Φ := bigSep_univ_eq_bigSepL bhs (by decide +kernel) (by decide +kernel) Φ
theorem all_bts (Φ : BTS → sProp 𝕄) : bigSep Finset.univ Φ = bigSepL bts Φ := bigSep_univ_eq_bigSepL bts (by decide +kernel) (by decide +kernel) Φ
theorem all_bh (Φ : Bool × Fin 16 → sProp 𝕄) : bigSep Finset.univ Φ = bigSepL (bools ×ˢ List.finRange 16) Φ :=
  bigSep_univ_eq_bigSepL (bools ×ˢ List.finRange 16) (by decide +kernel) (by decide +kernel) Φ

/-- Ring, hop and column block, in the other order. -/
def swapBHS : BHS ≃ Bool × (Fin 15 × Fin 4) :=
  ⟨fun x => (x.1.1, (x.2, x.1.2)), fun y => ((y.1, y.2.2), y.2.1), fun _ => rfl, fun _ => rfl⟩
def swapBTS : BTS ≃ (Bool × Fin 16) × Fin 4 :=
  ⟨fun x => ((x.1.1, x.2), x.1.2), fun y => ((y.1.1, y.2), y.1.2), fun _ => rfl, fun _ => rfl⟩

variable (m : (ℓ : Loc nD τ sig) → Buf (Elt F) ℓ) (K : Cells → ℕ) (c : Dev nD)

theorem ownL_eq (l : List Res) : ownL m c l = bigSepL l (own m c) := by
  induction l with
  | nil => rfl
  | cons r l ih => rw [ownL_cons, bigSepL_cons', ih]
theorem ownL_append (l l' : List Res) : ownL m c (l ++ l') = iprop(ownL m c l ∗ ownL m c l') := by
  rw [ownL_eq, ownL_eq, ownL_eq, bigSepL_append]
theorem ownL_bs (f : BS → Res) : ownL m c (bs.map f) = bigSep Finset.univ fun x => own m c (f x) := by rw [ownL_eq, bigSepL_map, all_bs]
theorem ownL_bools (f : Bool → Res) : ownL m c (bools.map f) = bigSep Finset.univ fun x => own m c (f x) := by rw [ownL_eq, bigSepL_map, all_bools]
theorem ownL_bhs (f : BHS → Res) : ownL m c (bhs.map f) = bigSep Finset.univ fun x => own m c (f x) := by rw [ownL_eq, bigSepL_map, all_bhs]
theorem ownL_bts (f : BTS → Res) : ownL m c (bts.map f) = bigSep Finset.univ fun x => own m c (f x) := by rw [ownL_eq, bigSepL_map, all_bts]
theorem ownL_bh (f : Bool × Fin 16 → Res) : ownL m c ((bools ×ˢ List.finRange 16).map f) = bigSep Finset.univ fun x => own m c (f x) := by
  rw [ownL_eq, bigSepL_map, all_bh]

/-! ## The device's cells, by kind -/

/-- The transfers' cells of a device. -/
def celL : List Cel :=
  bools.map (.part · 0) ++ (bools.map (.part · 1) ++ (bools.map .resid ++ (bs.map (fun x => .send false x.1 0 x.2) ++ (bs.map (fun x => .send false x.1 1 x.2)
    ++ (bs.map (fun x => .send true x.1 0 x.2) ++ (bs.map (fun x => .send true x.1 1 x.2)
    ++ (bhs.map (fun x => .recv false x.1.1 x.2 x.1.2) ++ bhs.map (fun x => .recv true x.1.1 x.2 x.1.2))))))))

/-- Something of every transfer's cell of the device. -/
def cellsAll (Φ : GSem nD τ sig → sProp 𝕄) : sProp 𝕄 :=
  iprop((bigSep Finset.univ fun b : Bool => Φ (dcell c (.part b 0))) ∗ (bigSep Finset.univ fun b : Bool => Φ (dcell c (.part b 1)))
    ∗ (bigSep Finset.univ fun b : Bool => Φ (dcell c (.resid b)))
    ∗ (bigSep Finset.univ fun x : BS => Φ (dcell c (.send false x.1 0 x.2))) ∗ (bigSep Finset.univ fun x : BS => Φ (dcell c (.send false x.1 1 x.2)))
    ∗ (bigSep Finset.univ fun x : BS => Φ (dcell c (.send true x.1 0 x.2))) ∗ (bigSep Finset.univ fun x : BS => Φ (dcell c (.send true x.1 1 x.2)))
    ∗ (bigSep Finset.univ fun x : BHS => Φ (dcell c (.recv false x.1.1 x.2 x.1.2))) ∗ bigSep Finset.univ fun x : BHS => Φ (dcell c (.recv true x.1.1 x.2 x.1.2)))

theorem celL_all : (Finset.univ : Finset (Fin 278)) = (celL.map ix).toFinset := by decide +kernel
theorem celL_nodup : (celL.map ix).Nodup := by decide +kernel

theorem cells_dma (Φ : GSem nD τ sig → sProp 𝕄) : (bigSep Finset.univ fun k : Fin 278 => Φ (kcell (c, some k))) = cellsAll c Φ := by
  rw [bigSep_univ_eq_bigSepL (celL.map ix) celL_all celL_nodup, bigSepL_map]
  unfold cellsAll celL
  simp only [bigSepL_append, bigSepL_map, kcell_ix, all_bs, all_bools, all_bhs]
theorem cells_all (Φ : GSem nD τ sig → sProp 𝕄) : (bigSep Finset.univ fun k : Option (Fin 278) => Φ (kcell (c, k))) = iprop(Φ (barCell c) ∗ cellsAll c Φ) := by
  have h : (Finset.univ : Finset (Option (Fin 278))).erase none = Finset.univ.map Function.Embedding.some := by
    ext x; cases x <;> simp
  rw [← cells_dma, bigSep_univ_at _ none, h, bigSep_map]
  rfl

/-! ## The barrier -/

/-- The places of the device's own blocks of the result. -/
def ownPlaces : sProp 𝕄 := bigSep Finset.univ fun x : BS => anyAt (F := F) c (outV x.1 x.2 0 c)

/-- The places of ring `b`'s blocks on the device go to the device that ring `b` hears from. -/
theorem bar_give (b : Bool) : iprop(anyAt (F := F) c (comm b) ∗ bigSep Finset.univ fun t : Fin 15 => bigSep Finset.univ fun s : Fin 4 => anyAt c (outV b s t.succ c))
    ⊢ barPay (prev b c) b := by
  unfold barPay
  rw [bigSep_sep', nbr_prev]
  refine sep_mono (any_comm c b) (Entails.of_eq ?_)
  rw [← bigSep_univ_prod (fun x : Fin 15 × Fin 4 => (anyAt (F := F) c (outV b x.2 x.1.succ c)))]
  exact all_eq fun x => by rw [outV_nbr, nbr_prev]

theorem out_split : anyAt (F := F) c out ⊢ iprop(ownPlaces c
    ∗ (bigSep Finset.univ fun t : Fin 15 => bigSep Finset.univ fun s : Fin 4 => anyAt c (outV false s t.succ c))
    ∗ (bigSep Finset.univ fun t : Fin 15 => bigSep Finset.univ fun s : Fin 4 => anyAt c (outV true s t.succ c))) := by
  refine (any_out c).trans (Entails.of_eq ?_)
  unfold ownPlaces
  rw [bigSep_univ_prod, bigSep_univ_prod, all_two, all_places, all_places, bigSep_univ_prod (fun x : BS => anyAt (F := F) c (outV x.1 x.2 0 c)), all_two]
  refine eq_of_both ?_ ?_
  · iintro ⟨⟨H1, H2⟩, H3, H4⟩
    isplitl [H1 H3]; · isplitl [H1] <;> iassumption
    isplitl [H2] <;> iassumption
  · iintro ⟨⟨H1, H3⟩, H2, H4⟩
    isplitl [H1 H2]; · isplitl [H1] <;> iassumption
    isplitl [H3] <;> iassumption

/-- The barrier: the device gives its neighbours the places where their transfers land, and is given the places where its own will. -/
theorem meet_ok {O : CellTallies nD τ sig Unit} (hO : ∀ g ι, 0 < O g ι → ι ∈ L g ∧ 1 < lv g ι)
    {α : Type} {Q : α → sProp 𝕄} {kk : PUnit → Prog (TpuEff nD τ sig (Elt F) Λ₀ .tc) α} :
    iprop(ctx m K ∗ cred (tallyAt (barCell c) () 2) ∗ atPos ER (barCell c) 0 ∅ 0 ∗ dutyTok ER (barCell (prev false c)) 0 false ∗ dutyTok ER (barCell (prev true c)) 0 true
        ∗ anyAt c (comm false) ∗ anyAt c (comm true) ∗ anyAt c out
        ∗ owesAny c (O + tallyAt (barCell (prev true c)) () 1 + tallyAt (barCell (prev false c)) () 1))
      ⊢ iprop((semVal (barCell c) 0 ∗ barPay c false ∗ barPay c true ∗ ownPlaces c ∗ owesAny c O -∗ WP c (kk ⟨⟩) Q) -∗ WP c (meet c >>= kk) Q) := by
  unfold meet ctx owesAny
  simp only [semSignalWord, semWaitWord, Prog.lift, Prog.bind_op, Prog.bind_ret, Prog.pure_eq_ret, dev1_eq, dev2_eq]
  iintro ⟨⟨#HR, #Hlev⟩, Hc, Hat, Ht1, Ht2, Hm1, Hm2, Ho, ⟨%W, HO⟩⟩ Hk
  ihave Ho' := (out_split c) $$ Ho
  icases Ho' with ⟨Hown, Ho1, Ho2⟩
  iapply (Rounds.wp_signal 𝒱₀ ER (rd (F := F) m) (c : Thread nD τ) none (dst := (prev false c : Thread nD τ)) (κ := K (prev false c, none))
      (d := false) (by rw [duties_bar]; exact Finset.mem_univ _) ((amount_bar m (prev false c) 0 false).trans (by decide)) ()
      (O + tallyAt (barCell (prev true c)) () 1) rfl) $$ [HO Ht1 Hm1 Ho1]
  · isplitr; · iapply (inv_bar m K (prev false c)) $$ HR
    isplitl [HO]; · iexact HO
    isplitl [Ht1]; · iexact Ht1
    isplitl [Hm1 Ho1]
    · rw [payload_bar]
      iapply (bar_give c false)
      isplitl [Hm1] <;> iassumption
    iapply (reached_bar m K (prev false c)) $$ HR
  iintro HO
  iapply (Rounds.wp_signal 𝒱₀ ER (rd (F := F) m) (c : Thread nD τ) none (dst := (prev true c : Thread nD τ)) (κ := K (prev true c, none))
      (d := true) (by rw [duties_bar]; exact Finset.mem_univ _) ((amount_bar m (prev true c) 0 true).trans (by decide)) () O rfl) $$ [HO Ht2 Hm2 Ho2]
  · isplitr; · iapply (inv_bar m K (prev true c)) $$ HR
    isplitl [HO]; · iexact HO
    isplitl [Ht2]; · iexact Ht2
    isplitl [Hm2 Ho2]
    · rw [payload_bar]
      iapply (bar_give c true)
      isplitl [Hm2] <;> iassumption
    iapply (reached_bar m K (prev true c)) $$ HR
  iintro HO
  ihave #HI := (inv_bar m K c) $$ HR
  iapply (Rounds.wp_wait_rest_token 𝒱₀ ER (rd (F := F) m) (c : Thread nD τ) none (κ := K (c, none))
      (wpE_semWait_eq 𝒱₀ (c : Thread nD τ) none Set.univ) (Set.mem_univ _) () (O := O) (W := W) (R := 0) (m := 0) (T := ∅)
      (by rw [expect_bar]; decide)) $$ [Hc HO Hat]
  · isplitr; · iexact HI
    isplitl [Hc]; · iexact Hc
    isplitl [HO]; · iexact HO
    isplitr
    · iapply (Pipeline.mayWait_of_levAts (L := L) (lev := lv) (by rw [L_tc]; exact Finset.mem_singleton_self _)
        (fun g i hg => ⟨(hO g i hg).1, by rw [lv_bar]; exact (hO g i hg).2⟩))
      iexact Hlev
    iexact Hat
  iintro ⟨HO, Hat, -, Hp⟩
  ihave Hp' := (Entails.of_eq (rest_bar m c)) $$ Hp
  icases Hp' with ⟨Hp1, Hp2⟩
  imod (Rounds.cell_close ER (rd (F := F) m) (Set.mem_univ (K (c, none))) (fun h => h) (R := 0 + 1) (duties_bar_later m c)) $$ [Hat] with Hz
  · isplitr; · iexact HI
    iexact Hat
  iapply Hk
  isplitl [Hz]; · iexact Hz
  isplitl [Hp1]; · iexact Hp1
  isplitl [Hp2]; · iexact Hp2
  isplitl [Hown]; · iexact Hown
  iexists _; iexact HO

end Cert.KernelIdeal.Ar
-- ==== Proof.KernelIdeal.Start.lean ====
/-
  The set of resources that the body begins with, put together from what the launch and the barrier give; and the set it ends with,
  taken apart into whole buffers, the arguments and the cells at rest.
-/
module

public import proofs.«01_k».proof.Proof.KernelIdeal.Ends

@[expose] public section

noncomputable section

namespace Cert.KernelIdeal.Ar

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Cells → ℕ) (c : Dev nD)

theorem both_mono {P P' Q Q' : sProp 𝕄} (h1 : P ⊢ P') (h2 : Q ⊢ Q') : iprop(P ∗ Q) ⊢ iprop(P' ∗ Q') := BIClass.sep_mono h1 h2

/-! ## The rights to transfers, and the credits -/

/-- The rights to the arrivals at the neighbours that the device sends to. -/
def recvToks (ph : Bool) : sProp 𝕄 := bigSep Finset.univ fun x : BHS => dutyTok ER (dcell (nbr x.1.1 c) (.recv ph x.1.1 x.2 x.1.2)) 0 false
/-- The rights to the sends' own rounds. -/
def sendToks (ph : Bool) : sProp 𝕄 := bigSep Finset.univ fun x : BHS => dutyTok ER (dcell c (.send ph x.1.1 (par x.2) x.1.2)) (x.2.val / 2) false
/-- The rights to fill the slots of the partial. -/
def partToks : sProp 𝕄 := bigSep Finset.univ fun x : Bool × Fin 16 => dutyTok ER (dcell c (.part x.1 (par x.2))) (x.2.val / 2) false
/-- The rights to fetch the residual's rows. -/
def residToks : sProp 𝕄 := bigSep Finset.univ fun b : Bool => dutyTok ER (dcell c (.resid b)) 0 false
/-- The credits of the arrivals that the device waits for. -/
def recvCreds (ph : Bool) : sProp 𝕄 := bigSep Finset.univ fun x : BHS => cred (tallyAt (dcell c (.recv ph x.1.1 x.2 x.1.2)) () N1)
/-- All of them. -/
def rights : sProp 𝕄 :=
  iprop(recvToks (F := F) c false ∗ recvToks c true ∗ sendToks c false ∗ sendToks c true ∗ partToks c ∗ residToks c)

/-! ## The beginning -/

/-- The barrier's handover: a place for every send. -/
theorem bar_take : iprop(barPay (F := F) c false ∗ barPay c true)
    = iprop((bigSep Finset.univ fun x : BHS => anyAt (nbr x.1.1 c) (landV x.1.1 x.2 x.1.2)) ∗ bigSep Finset.univ fun x : BHS => anyAt (nbr x.1.1 c) (outV x.1.1 x.1.2 x.2.castSucc c)) := by
  rw [← all_two (fun b => barPay (F := F) c b)]
  unfold barPay
  rw [← bigSep_univ_prod (fun y : Bool × (Fin 15 × Fin 4) => iprop(anyAt (F := F) (nbr y.1 c) (landV y.1 y.2.1 y.2.2) ∗ anyAt (nbr y.1 c) (outV y.1 y.2.2 y.2.1.castSucc c))),
    bigSep_univ_equiv swapBHS, ← bigSep_sep']
  rfl

theorem ticks_intro : iprop((bigSep Finset.univ fun x : BHS => anyAt (nbr x.1.1 c) (landV x.1.1 x.2 x.1.2)) ∗ recvToks (F := F) c false ∗ sendToks c false)
    ⊢ ownL m c (bhs.map (at2' .tick 0)) := by
  rw [ownL_bhs]
  unfold recvToks sendToks
  rw [← bigSep_sep', ← bigSep_sep']
  refine all_mono fun x => Entails.of_eq ?_
  have := x.2.isLt
  show _ = own m c (mk .tick x.1.1 x.2.val x.1.2)
  rw [own_tick m c x.1.1 x.2.val (by omega) x.1.2, f15_val]
theorem aticks_intro : iprop((bigSep Finset.univ fun x : BHS => anyAt (nbr x.1.1 c) (outV x.1.1 x.1.2 x.2.castSucc c)) ∗ recvToks (F := F) c true ∗ sendToks c true)
    ⊢ ownL m c (bhs.map (at2' .atick 0)) := by
  rw [ownL_bhs]
  unfold recvToks sendToks
  rw [← bigSep_sep', ← bigSep_sep']
  refine all_mono fun x => Entails.of_eq ?_
  have := x.2.isLt
  show _ = own m c (mk .atick x.1.1 x.2.val x.1.2)
  rw [own_atick m c x.1.1 x.2.val (by omega) x.1.2, f15_val]
theorem rcvs_intro : iprop(recvCreds (F := F) c false ∗ bigSep Finset.univ fun x : BHS => atPos ER (dcell c (.recv false x.1.1 x.2 x.1.2)) 0 ∅ 0)
    ⊢ ownL m c (bhs.map (at2' .rcv 0)) := by
  rw [ownL_bhs]
  unfold recvCreds
  rw [← bigSep_sep']
  refine all_mono fun x => Entails.of_eq ?_
  have := x.2.isLt
  show _ = own m c (mk .rcv x.1.1 x.2.val x.1.2)
  rw [own_rcv m c x.1.1 x.2.val (by omega) x.1.2, f15_val]
  rfl
theorem arcvs_intro : iprop(recvCreds (F := F) c true ∗ bigSep Finset.univ fun x : BHS => atPos ER (dcell c (.recv true x.1.1 x.2 x.1.2)) 0 ∅ 0)
    ⊢ ownL m c (bhs.map (at2' .arcv 0)) := by
  rw [ownL_bhs]
  unfold recvCreds
  rw [← bigSep_sep']
  refine all_mono fun x => Entails.of_eq ?_
  have := x.2.isLt
  show _ = own m c (mk .arcv x.1.1 x.2.val x.1.2)
  rw [own_arcv m c x.1.1 x.2.val (by omega) x.1.2, f15_val]
  rfl

/-- A cell at its round 0 is idle. -/
theorem idle_intro (k : Cel) : iprop(records m K ∗ atPos ER (dcell c k) 0 ∅ 0) ⊢ idle (F := F) c k 0 := by
  have h : 0 < rounds k := by
    match k with
    | .part _ _ => exact Nat.succ_pos _
    | .resid _ => exact Nat.succ_pos _
    | .send _ _ j _ => have := j.isLt; show 0 < 8 - j.val; omega
    | .recv _ _ _ _ => exact Nat.succ_pos _
  unfold idle
  rw [if_pos h]
  iintro ⟨#HR, Ha⟩
  isplitl [Ha]; · iexact Ha
  iapply (reached_dma m K c k) $$ HR

theorem sq_intro (ph : Bool) (j : Fin 2) : iprop(records m K ∗ bigSep Finset.univ fun x : BS => atPos ER (dcell c (.send ph x.1 j x.2)) 0 ∅ 0)
    ⊢ ownL m c (bs.map (at1 (match ph with | false => .sq | true => .asq) j.val)) := by
  rw [ownL_bs]
  refine each fun x => (idle_intro m K c _).trans (Entails.of_eq ?_)
  match ph, j with
  | false, 0 => exact (own_sq m c x.1 0 (by decide) x.2).symm
  | false, 1 => exact (own_sq m c x.1 1 (by decide) x.2).symm
  | true, 0 => exact (own_asq m c x.1 0 (by decide) x.2).symm
  | true, 1 => exact (own_asq m c x.1 1 (by decide) x.2).symm

theorem oany_intro : ownPlaces (F := F) c ⊢ ownL m c (bs.map (at1 .oany 0)) := by
  rw [ownL_bs]
  exact all_mono fun x => Entails.of_eq (own_oany m c x.1 0 (by decide) x.2).symm

/-- The two slots' column blocks of both rings, by slot. -/
theorem slots_swap (Φ : Bool → Fin 2 → Fin 4 → sProp 𝕄) :
    iprop((bigSep Finset.univ fun x : Fin 2 × Fin 4 => Φ false x.1 x.2) ∗ bigSep Finset.univ fun x : Fin 2 × Fin 4 => Φ true x.1 x.2)
      = iprop((bigSep Finset.univ fun x : BS => Φ x.1 0 x.2) ∗ bigSep Finset.univ fun x : BS => Φ x.1 1 x.2) := by
  rw [bigSep_univ_prod, bigSep_univ_prod, bigSep_univ_prod, bigSep_univ_prod, all_slots, all_slots, all_two, all_two]
  refine eq_of_both ?_ ?_
  · iintro ⟨⟨H1, H2⟩, H3, H4⟩
    isplitl [H1 H3]; · isplitl [H1] <;> iassumption
    isplitl [H2] <;> iassumption
  · iintro ⟨⟨H1, H3⟩, H2, H4⟩
    isplitl [H1 H2]; · isplitl [H1] <;> iassumption
    isplitl [H3] <;> iassumption

theorem pc_intro : iprop(anyAt (F := F) c (pbuf false) ∗ anyAt c (pbuf true)) ⊢ iprop(ownL m c (bs.map (at1 .pc 0)) ∗ ownL m c (bs.map (at1 .pc 1))) := by
  refine (both_mono (any_two c (pbuf false)) (any_two c (pbuf true))).trans ?_
  rw [slots_swap (fun b j s => anyAt (F := F) c (colV (slotV (pbuf b) j) s)), ownL_bs, ownL_bs]
  exact both_mono (all_mono fun x => Entails.of_eq (own_pc_any m c x.1 0 (by decide) x.2 (by decide)).symm)
    (all_mono fun x => Entails.of_eq (own_pc_any m c x.1 1 (by decide) x.2 (by decide)).symm)

/-- The residual's two slots are the two rings'. -/
theorem rslots (Φ : Fin 2 → Fin 4 → sProp 𝕄) : (bigSep Finset.univ fun x : Fin 2 × Fin 4 => Φ x.1 x.2) = bigSep Finset.univ fun x : BS => Φ (rSlot x.1) x.2 := by
  rw [bigSep_univ_prod, bigSep_univ_prod, all_slots, all_two]
  rfl

theorem rany_intro : anyAt (F := F) c rbuf ⊢ ownL m c (bs.map (at1 .rany 0)) := by
  refine (any_two c rbuf).trans ?_
  rw [rslots (fun j s => anyAt (F := F) c (colV (slotV rbuf j) s)), ownL_bs]
  exact all_mono fun x => Entails.of_eq (own_rany m c x.1 0 (by decide) x.2).symm

/-- A whole argument, by shares. -/
theorem arg_half (b : Ref sig .tc) (q : PosShare TreeShare) : argAt m c b q = iprop(argAt m c b q.left ∗ argAt m c b q.right) :=
  eq_of_both (pointsTo_share (PosShare.mem_left_op_right q)).1 (pointsTo_share (PosShare.mem_left_op_right q)).2
theorem arg0_shares : argAt m c main_arg0 fullShare
    = iprop((bigSep Finset.univ fun b : Bool => argAt m c main_arg0 (pshr b 0)) ∗ bigSep Finset.univ fun b : Bool => argAt m c main_arg0 (pshr b 1)) := by
  rw [arg_half, arg_half m c main_arg0 fullShare.left, arg_half m c main_arg0 fullShare.right, all_two, all_two]
  refine eq_of_both ?_ ?_
  · iintro ⟨⟨H1, H2⟩, H3, H4⟩
    isplitl [H1 H3]
    · isplitl [H1]; · iexact H1
      iexact H3
    · isplitl [H2]; · iexact H2
      iexact H4
  · iintro ⟨⟨H1, H3⟩, H2, H4⟩
    isplitl [H1 H2]
    · isplitl [H1]; · iexact H1
      iexact H2
    · isplitl [H3]; · iexact H3
      iexact H4
theorem arg1_shares : argAt m c main_arg1 fullShare = bigSep Finset.univ fun b : Bool => argAt m c main_arg1 (rshr b) := by
  rw [arg_half, all_two]
  rfl

theorem pq_intro (j : Fin 2) : iprop(records m K ∗ (bigSep Finset.univ fun b : Bool => atPos ER (dcell c (.part b j)) 0 ∅ 0) ∗ bigSep Finset.univ fun b : Bool => argAt m c main_arg0 (pshr b j))
    ⊢ ownL m c (bools.map (fun b => mk .pq b j.val 0)) := by
  rw [ownL_bools, ← bigSep_sep']
  refine each fun b => ?_
  refine BIBase.Entails.trans ?_ (Entails.of_eq (show iprop(idle (F := F) c (.part b j) 0 ∗ argAt m c main_arg0 (pshr b j)) = _ from ?_))
  · iintro ⟨#HR, Ha, Hb⟩
    isplitl [Ha]
    · iapply (idle_intro m K c (.part b j))
      isplitr; · iexact HR
      iexact Ha
    iexact Hb
  · match j with
    | 0 => exact (own_pq m c b 0 (by decide) 0).symm
    | 1 => exact (own_pq m c b 1 (by decide) 0).symm

theorem rq_intro : iprop(records m K ∗ (bigSep Finset.univ fun b : Bool => atPos ER (dcell c (.resid b)) 0 ∅ 0) ∗ residToks c ∗ argAt m c main_arg1 fullShare)
    ⊢ ownL m c (bools.map (fun b => mk .rq b 0 0)) := by
  unfold residToks
  rw [ownL_bools, arg1_shares, ← bigSep_sep', ← bigSep_sep']
  refine each fun b => ?_
  rw [own_rq m c b 0 (by decide) 0]
  iintro ⟨#HR, Ha, Hb⟩
  isplitl [Ha]
  · iapply (idle_intro m K c (.resid b))
    isplitr; · iexact HR
    iexact Ha
  iexact Hb

theorem ptok_intro : partToks (F := F) c ⊢ ownL m c ((bools ×ˢ List.finRange 16).map (fun x => mk .ptok x.1 x.2.val 0)) := by
  unfold partToks
  rw [ownL_bh]
  refine all_mono fun x => Entails.of_eq ?_
  have := x.2.isLt
  exact (own_ptok m c x.1 x.2.val (by omega) 0).symm

/-- What the launch and the barrier give is the set that the body begins with. -/
theorem init_intro : iprop(records m K ∗ (barPay c false ∗ barPay c true) ∗ rights c ∗ (recvCreds c false ∗ recvCreds c true) ∗ cellsAll c (fun g => atPos ER g 0 ∅ 0) ∗ ownPlaces c
      ∗ (anyAt c (pbuf false) ∗ anyAt c (pbuf true) ∗ anyAt c rbuf) ∗ argAt m c main_arg0 fullShare ∗ argAt m c main_arg1 fullShare)
    ⊢ ownL m c initL := by
  rw [bar_take, arg0_shares]
  unfold rights cellsAll initL
  simp only [List.append_assoc]
  simp only [ownL_append m c (bhs.map _), ownL_append m c (bs.map _), ownL_append m c (bools.map _)]
  iintro ⟨#HR, ⟨Hla, Hou⟩, ⟨Hr0, Hr1, Hs0, Hs1, Hpt, Hrt⟩, ⟨Hc0, Hc1⟩, ⟨Hp0, Hp1, Hre, Hs00, Hs01, Hs10, Hs11, Hv0, Hv1⟩, Hown, ⟨Hb0, Hb1, Hb2⟩, ⟨Ha0, Ha0'⟩, Ha1⟩
  isplitl [Hla Hr0 Hs0]
  · iapply (ticks_intro m c)
    isplitl [Hla]; · iexact Hla
    isplitl [Hr0] <;> iassumption
  isplitl [Hou Hr1 Hs1]
  · iapply (aticks_intro m c)
    isplitl [Hou]; · iexact Hou
    isplitl [Hr1] <;> iassumption
  isplitl [Hc0 Hv0]
  · iapply (rcvs_intro m c)
    isplitl [Hc0] <;> iassumption
  isplitl [Hc1 Hv1]
  · iapply (arcvs_intro m c)
    isplitl [Hc1] <;> iassumption
  isplitl [Hs00]
  · iapply (sq_intro m K c false 0)
    isplitr; · iexact HR
    iexact Hs00
  isplitl [Hs01]
  · iapply (sq_intro m K c false 1)
    isplitr; · iexact HR
    iexact Hs01
  isplitl [Hs10]
  · iapply (sq_intro m K c true 0)
    isplitr; · iexact HR
    iexact Hs10
  isplitl [Hs11]
  · iapply (sq_intro m K c true 1)
    isplitr; · iexact HR
    iexact Hs11
  isplitl [Hown]; · iapply (oany_intro m c); iexact Hown
  ihave Hpc := (pc_intro m c) $$ [Hb0 Hb1]
  · isplitl [Hb0] <;> iassumption
  icases Hpc with ⟨Hpc0, Hpc1⟩
  isplitl [Hpc0]; · iexact Hpc0
  isplitl [Hpc1]; · iexact Hpc1
  isplitl [Hb2]; · iapply (rany_intro m c); iexact Hb2
  isplitl [Hp0 Ha0]
  · iapply (pq_intro m K c 0)
    isplitr; · iexact HR
    isplitl [Hp0] <;> iassumption
  isplitl [Hp1 Ha0']
  · iapply (pq_intro m K c 1)
    isplitr; · iexact HR
    isplitl [Hp1] <;> iassumption
  isplitl [Hre Hrt Ha1]
  · iapply (rq_intro m K c)
    isplitr; · iexact HR
    isplitl [Hre]; · iexact Hre
    isplitl [Hrt] <;> iassumption
  iapply (ptok_intro m c); iexact Hpt

/-! ## The end -/

theorem rdone_elim : ownL m c (bhs.map (at2' .rdone 0)) = bigSep Finset.univ fun x : BHS => semVal (dcell c (.recv false x.1.1 x.2 x.1.2)) 0 := by
  rw [ownL_bhs]
  refine all_eq fun x => ?_
  have := x.2.isLt
  show own m c (mk .rdone x.1.1 x.2.val x.1.2) = _
  rw [own_rdone m c x.1.1 x.2.val (by omega) x.1.2, f15_val]
theorem ardone_elim : ownL m c (bhs.map (at2' .ardone 0)) = bigSep Finset.univ fun x : BHS => semVal (dcell c (.recv true x.1.1 x.2 x.1.2)) 0 := by
  rw [ownL_bhs]
  refine all_eq fun x => ?_
  have := x.2.isLt
  show own m c (mk .ardone x.1.1 x.2.val x.1.2) = _
  rw [own_ardone m c x.1.1 x.2.val (by omega) x.1.2, f15_val]
theorem sq15_elim : ownL m c (bs.map (at1 .sq 15)) = bigSep Finset.univ fun x : BS => semVal (dcell c (.send false x.1 1 x.2)) 0 := by
  rw [ownL_bs]
  exact all_eq fun x => (own_sq m c x.1 15 (by decide) x.2).trans (idle_done c (.send false x.1 1 x.2) 7 le_rfl)
theorem sq16_elim : ownL m c (bs.map (at1 .sq 16)) = bigSep Finset.univ fun x : BS => semVal (dcell c (.send false x.1 0 x.2)) 0 := by
  rw [ownL_bs]
  exact all_eq fun x => (own_sq m c x.1 16 (by decide) x.2).trans (idle_done c (.send false x.1 0 x.2) 8 le_rfl)
theorem asq15_elim : ownL m c (bs.map (at1 .asq 15)) = bigSep Finset.univ fun x : BS => semVal (dcell c (.send true x.1 1 x.2)) 0 := by
  rw [ownL_bs]
  exact all_eq fun x => (own_asq m c x.1 15 (by decide) x.2).trans (idle_done c (.send true x.1 1 x.2) 7 le_rfl)
theorem asq16_elim : ownL m c (bs.map (at1 .asq 16)) = bigSep Finset.univ fun x : BS => semVal (dcell c (.send true x.1 0 x.2)) 0 := by
  rw [ownL_bs]
  exact all_eq fun x => (own_asq m c x.1 16 (by decide) x.2).trans (idle_done c (.send true x.1 0 x.2) 8 le_rfl)

/-- What landed, summed or not, fills the landing buffers. -/
theorem land_elim : ownL m c (bhs.map fun x => if x.2.val < 14 then at2' .sum 0 x else at2' .land 0 x) ⊢ iprop(anyAt c (comm false) ∗ anyAt c (comm true)) := by
  rw [ownL_bhs]
  refine BIBase.Entails.trans (all_mono (Ψ := fun x : BHS => anyAt (F := F) c (landV x.1.1 x.2 x.1.2)) fun x => ?_) ?_
  · have := x.2.isLt
    by_cases h : x.2.val < 14
    · rw [if_pos h]
      show own m c (mk .sum x.1.1 x.2.val x.1.2) ⊢ _
      rw [own_sum m c x.1.1 x.2.val (by omega) x.1.2, f15_val]
      exact any_of_at c _ _
    · rw [if_neg h]
      show own m c (mk .land x.1.1 x.2.val x.1.2) ⊢ _
      rw [own_land m c x.1.1 x.2.val (by omega) x.1.2, f15_val]
      exact any_of_at c _ _
  · rw [bigSep_univ_equiv swapBHS.symm, bigSep_univ_prod, all_two]
    exact both_mono (any_of_comm c false) (any_of_comm c true)

theorem pc_elim : iprop(ownL m c (bs.map (at1 .pc 16)) ∗ ownL m c (bs.map (at1 .pc 17))) ⊢ iprop(anyAt (F := F) c (pbuf false) ∗ anyAt c (pbuf true)) := by
  refine BIBase.Entails.trans ?_ (both_mono (any_of_two c (pbuf false)) (any_of_two c (pbuf true)))
  rw [slots_swap (fun b j s => anyAt (F := F) c (colV (slotV (pbuf b) j) s)), ownL_bs, ownL_bs]
  refine both_mono (all_mono fun x => ?_) (all_mono fun x => ?_)
  · exact (Entails.of_eq (own_pc m c x.1 16 (by decide) x.2 (by decide))).trans (any_of_at c _ _)
  · exact (Entails.of_eq (own_pc m c x.1 17 (by decide) x.2 (by decide))).trans (any_of_at c _ _)

theorem rc_elim : ownL m c (bs.map (at1 .rc 0)) ⊢ anyAt (F := F) c rbuf := by
  refine BIBase.Entails.trans ?_ (any_of_two c rbuf)
  rw [rslots (fun j s => anyAt (F := F) c (colV (slotV rbuf j) s)), ownL_bs]
  exact all_mono fun x => (Entails.of_eq (own_rc m c x.1 0 (by decide) x.2)).trans (any_of_at c _ _)

theorem fin_elim : ownL m c (bts.map (at2' .fin 0)) ⊢ at_ c out (result m) := by
  refine BIBase.Entails.trans ?_ (at_result c m)
  rw [ownL_bts, bigSep_univ_equiv swapBTS]
  refine all_mono fun x => Entails.of_eq ?_
  have := x.2.isLt
  show own m c (mk .fin x.1.1 x.2.val x.1.2) = _
  rw [own_fin m c x.1.1 x.2.val (by omega) x.1.2, hop_val]
  rfl

theorem pq_elim : iprop(ownL m c (bools.map (fun b => mk .pq b 16 0)) ∗ ownL m c (bools.map (fun b => mk .pq b 17 0)))
    ⊢ iprop((bigSep Finset.univ fun b : Bool => semVal (dcell c (.part b 0)) 0) ∗ (bigSep Finset.univ fun b : Bool => semVal (dcell c (.part b 1)) 0) ∗ argAt m c main_arg0 fullShare) := by
  have e0 : ownL m c (bools.map (fun b => mk .pq b 16 0)) = iprop((bigSep Finset.univ fun b : Bool => semVal (dcell c (.part b 0)) 0) ∗ bigSep Finset.univ fun b : Bool => argAt m c main_arg0 (pshr b 0)) := by
    rw [ownL_bools, ← bigSep_sep']
    refine all_eq fun b => (own_pq m c b 16 (by decide) 0).trans ?_
    rw [idle_done c (.part b (par 16)) (16 / 2) le_rfl]; rfl
  have e1 : ownL m c (bools.map (fun b => mk .pq b 17 0)) = iprop((bigSep Finset.univ fun b : Bool => semVal (dcell c (.part b 1)) 0) ∗ bigSep Finset.univ fun b : Bool => argAt m c main_arg0 (pshr b 1)) := by
    rw [ownL_bools, ← bigSep_sep']
    refine all_eq fun b => (own_pq m c b 17 (by decide) 0).trans ?_
    rw [idle_done c (.part b (par 17)) (17 / 2) le_rfl]; rfl
  rw [e0, e1, arg0_shares]
  iintro ⟨⟨H1, H2⟩, H3, H4⟩
  isplitl [H1]; · iexact H1
  isplitl [H3]; · iexact H3
  isplitl [H2] <;> iassumption

theorem rdn_elim : ownL m c (bools.map (fun b => mk .rdn b 0 0)) = iprop((bigSep Finset.univ fun b : Bool => semVal (dcell c (.resid b)) 0) ∗ argAt m c main_arg1 fullShare) := by
  rw [ownL_bools, arg1_shares, ← bigSep_sep']
  exact all_eq fun b => own_rdn m c b 0 (by decide) 0

/-- The set that the body ends with: the result, every other buffer whole, the arguments as they were, and every cell at rest. -/
theorem final_elim : ownL m c finalL
    ⊢ iprop(cellsAll c (fun g => semVal g 0) ∗ (anyAt c (comm false) ∗ anyAt c (comm true) ∗ anyAt c (pbuf false) ∗ anyAt c (pbuf true) ∗ anyAt c rbuf)
      ∗ at_ c out (result m) ∗ argAt m c main_arg0 fullShare ∗ argAt m c main_arg1 fullShare) := by
  unfold cellsAll finalL
  simp only [List.append_assoc]
  simp only [ownL_append m c (bhs.map _), ownL_append m c (bs.map _), ownL_append m c (bts.map _), ownL_append m c (bools.map _)]
  rw [rdone_elim, ardone_elim, sq15_elim, sq16_elim, asq15_elim, asq16_elim, rdn_elim]
  iintro ⟨Hv0, Hv1, Hs01, Hs00, Hs11, Hs10, Hla, Hp0, Hp1, Hrc, Hfin, Hq0, Hq1, Hre, Ha1⟩
  ihave Hla' := (land_elim m c) $$ Hla
  icases Hla' with ⟨Hm0, Hm1⟩
  ihave Hp := (pc_elim m c) $$ [Hp0 Hp1]
  · isplitl [Hp0] <;> iassumption
  icases Hp with ⟨Hp0, Hp1⟩
  ihave Hr := (rc_elim m c) $$ Hrc
  ihave Ho := (fin_elim m c) $$ Hfin
  ihave Hq := (pq_elim m c) $$ [Hq0 Hq1]
  · isplitl [Hq0] <;> iassumption
  icases Hq with ⟨Hq0, Hq1, Ha0⟩
  isplitl [Hv0 Hv1 Hs01 Hs00 Hs11 Hs10 Hq0 Hq1 Hre]
  · isplitl [Hq0]; · iexact Hq0
    isplitl [Hq1]; · iexact Hq1
    isplitl [Hre]; · iexact Hre
    isplitl [Hs00]; · iexact Hs00
    isplitl [Hs01]; · iexact Hs01
    isplitl [Hs10]; · iexact Hs10
    isplitl [Hs11]; · iexact Hs11
    isplitl [Hv0] <;> iassumption
  isplitl [Hm0 Hm1 Hp0 Hp1 Hr]
  · isplitl [Hm0]; · iexact Hm0
    isplitl [Hm1]; · iexact Hm1
    isplitl [Hp0]; · iexact Hp0
    isplitl [Hp1] <;> iassumption
  isplitl [Ho]; · iexact Ho
  isplitl [Ha0] <;> iassumption

end Cert.KernelIdeal.Ar
-- ==== Proof.KernelIdeal.Body.lean ====
module

public import proofs.«01_k».proof.Proof.KernelIdeal.Prog

@[expose] public section
noncomputable section
namespace Cert.KernelIdeal.Ar
open Idealize.ShloMosaic Idealize.SL.Sem Cert.KernelIdeal.Gen
variable {F : FTy → Type} [FloatOps F]

set_option maxRecDepth 65536 in
/-- The printed body is that list of instructions. -/
theorem body_eq : cc0_body (F := F) part (Memref.isWhole_whole _) resid (Memref.isWhole_whole _) gam (Memref.isWhole_whole _) out (Memref.isWhole_whole _)
    (comm false) (Memref.isWhole_whole _) (comm true) (Memref.isWhole_whole _) (pbuf false) (Memref.isWhole_whole _) (pbuf true) (Memref.isWhole_whole _)
    rbuf (Memref.isWhole_whole _) cc0_scratch5 cc0_scratch6 cc0_scratch7 cc0_scratch8 cc0_scratch9 cc0_scratch10 cc0_scratch11 cc0_scratch12 cc0_scratch13 cc0_scratch14 cc0_scratch15
    = body := by
  chain_rfl

end Cert.KernelIdeal.Ar
-- ==== Proof.KernelIdeal.Obl.lean ====
/-
  The body's obligation: from the resources of the launch, run to the end, it leaves the result in its buffer, the arguments as they
  were and every cell at rest.
-/
module

public import proofs.«01_k».proof.Proof.KernelIdeal.Start
public import proofs.«01_k».proof.Proof.KernelIdeal.Body
public import proofs.«01_k».proof.Proof.Gen.KernelIdeal.Launch
public import proofs.«01_k».proof.Proof.Gen.KernelIdeal.Points
public import Idealize.ShloMosaic.Lib.Pipeline.FrameBody

@[expose] public section

noncomputable section

namespace Cert.KernelIdeal.Ar

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

variable (m : (ℓ : Loc nD τ sig) → Buf (Elt F) ℓ)

/-! ## What the device owes and holds at the start and at the end -/

/-- The two units for the neighbours' barriers and every arrival. -/
def O₀ (c : Dev nD) : CellTallies nD τ sig Unit :=
  owL c initL + tallyAt (barCell (prev true c)) () 1 + tallyAt (barCell (prev false c)) () 1

/-- The body, run on the sets of its resources, from the first to the last. -/
theorem sets : ∃ n n', puts 0 initL = some n ∧ exec cmds n = some n' ∧ takes n' finalL = some 0 := by
  have h := checks_true
  unfold checks at h
  split at h
  · exact absurd h (by decide)
  rename_i n h1
  split at h
  · exact absurd h (by decide)
  rename_i n' h2
  exact ⟨n, n', h1, h2, by simpa using h⟩

theorem owing_init (c : Dev nD) {n : ℕ} (h : puts 0 initL = some n) : owing c n = owL c initL := by
  rw [puts_owing c h, owing_zero, zero_add]
theorem owing_final (c : Dev nD) {n : ℕ} (h : takes n finalL = some 0) : owing c n = 0 := by
  rw [takes_owing c h, owing_zero, zero_add]
  refine owL_zero c finalL ?_
  have : finalL.all (fun r => decide (r.1 ≠ .tick ∧ r.1 ≠ .atick)) = true := by decide +kernel
  exact fun r hr => of_decide_eq_true (List.all_eq_true.mp this r hr)

/-- The launch's ghost resources of the device. -/
def ghost (c : Dev nD) : sProp 𝕄 :=
  iprop((∃ K, records m K) ∗ (bigSep Finset.univ fun k : Option (Fin 278) => atPos ER (kcell (c, k)) 0 ∅ 0)
    ∗ (dutyTok ER (barCell (prev false c)) 0 false ∗ dutyTok ER (barCell (prev true c)) 0 true) ∗ rights c)
/-- What the device starts from. -/
def startR (c : Dev nD) : sProp 𝕄 :=
  iprop(ghost m c ∗ levAts L lv ∗ cred (tallyAt (barCell c) () 2) ∗ (recvCreds c false ∗ recvCreds c true)
    ∗ argAt m c main_arg0 fullShare ∗ argAt m c main_arg1 fullShare)
/-- The kernel's own buffers, holding anything. -/
def scratch (c : Dev nD) : sProp 𝕄 :=
  iprop(anyAt (F := F) c (comm false) ∗ anyAt c (comm true) ∗ anyAt c (pbuf false) ∗ anyAt c (pbuf true) ∗ anyAt c rbuf)
def Φ₀ (c : Dev nD) : sProp 𝕄 := iprop(startR m c ∗ scratch c)
def Φ₁ (c : Dev nD) : sProp 𝕄 :=
  iprop((bigSep Finset.univ fun k : Option (Fin 278) => semVal (kcell (c, k)) 0) ∗ scratch (F := F) c ∗ argAt m c main_arg0 fullShare ∗ argAt m c main_arg1 fullShare)

/-! ## The run of the body -/

theorem wp_done (c : Dev nD) {Q : PUnit → sProp 𝕄} : Q ⟨⟩ ⊢ WP c (pure ⟨⟩ : Prog (TpuEff nD τ sig (Elt F) Λ₀ .tc) PUnit) Q := by
  show _ ⊢ wp frame (wpE (defs₀ (F := F)) 𝒱₀ (c : Thread nD τ) none) Set.univ (.ret ⟨⟩) Q
  rw [wp_ret]
  iintro H
  imodintro
  iexact H

theorem run_body (c : Dev nD) {Q : PUnit → sProp 𝕄} :
    iprop(Φ₀ m c ∗ stgG m c ∗ anyAt c out ∗ owesAny c (O₀ c))
      ⊢ iprop((Φ₁ m c ∗ stgG m c ∗ at_ c out (result m) ∗ owesAny c 0 -∗ Q ⟨⟩) -∗ WP c (body (F := F)) Q) := by
  obtain ⟨n, n', h1, h2, h3⟩ := sets
  obtain ⟨n1, e1, h2⟩ := exec_append h2
  obtain ⟨n2, e2, e3⟩ := exec_append h2
  have hO : ∀ g ι, 0 < owL c initL g ι → ι ∈ L g ∧ 1 < lv g ι := fun g ι hg => owing_lv c n 1 (Nat.mod_one n) g ι (by rw [owing_init c h1]; exact hg)
  unfold body
  simp only [Prog.lift, Prog.bind_op, Prog.bind_ret, wp_deviceId]
  rw [← Prog.bind_pure (run c gather)]
  unfold Φ₀ startR ghost scratch
  rw [cells_all c fun g => atPos ER g 0 ∅ 0]
  iintro ⟨⟨⟨⟨⟨%K, #HR⟩, ⟨Hab, Hat⟩, ⟨Ht1, Ht2⟩, Hri⟩, #Hlev, Hcb, Hcr, Ha0, Ha1⟩, Hm0, Hm1, Hp⟩, Hg, Ho, HO⟩ Hk
  iapply (meet_ok m K c (O := owL c initL) hO) $$ [Hab Ht1 Ht2 Hcb Hm0 Hm1 Ho HO]
  · isplitr
    · unfold ctx
      isplitr; · iexact HR
      iexact Hlev
    isplitl [Hcb]; · iexact Hcb
    isplitl [Hab]; · iexact Hab
    isplitl [Ht1]; · iexact Ht1
    isplitl [Ht2]; · iexact Ht2
    isplitl [Hm0]; · iexact Hm0
    isplitl [Hm1]; · iexact Hm1
    isplitl [Ho]; · iexact Ho
    iexact HO
  iintro ⟨Hz, Hb0, Hb1, Hown, HO⟩
  ihave Hini := (init_intro m K c) $$ [Hb0 Hb1 Hri Hcr Hat Hown Hp Ha0 Ha1]
  · isplitr; · iexact HR
    isplitl [Hb0 Hb1]; · isplitl [Hb0] <;> iassumption
    isplitl [Hri]; · iexact Hri
    isplitl [Hcr]; · iexact Hcr
    isplitl [Hat]; · iexact Hat
    isplitl [Hown]; · iexact Hown
    isplitl [Hp]; · iexact Hp
    isplitl [Ha0] <;> iassumption
  ihave HO' := (Entails.of_eq (congrArg (owesAny (F := F) c) (owing_init c h1).symm)) $$ HO
  ihave Hh := (Entails.of_eq (show ownL m c initL = Hold m c n from by rw [puts_hold m c h1, Hold_zero, sep_emp'])) $$ Hini
  iapply (run_ok m K c scatter e1) $$ [Hh HO']
  · isplitr
    · unfold ctx
      isplitr; · iexact HR
      iexact Hlev
    isplitl [Hh] <;> iassumption
  iintro ⟨Hh, HO⟩
  iapply (norm_ok m K c e2) $$ [Hg Hh HO]
  · isplitr
    · unfold ctx
      isplitr; · iexact HR
      iexact Hlev
    isplitl [Hg]; · iexact Hg
    isplitl [Hh] <;> iassumption
  iintro ⟨Hg, Hh, HO⟩
  iapply (run_ok m K c gather e3) $$ [Hh HO]
  · isplitr
    · unfold ctx
      isplitr; · iexact HR
      iexact Hlev
    isplitl [Hh] <;> iassumption
  iintro ⟨Hh, HO⟩
  iapply (wp_done c)
  iapply Hk
  ihave HO' := (Entails.of_eq (congrArg (owesAny (F := F) c) (owing_final c h3))) $$ HO
  ihave Hf := (Entails.of_eq (show Hold m c n' = ownL m c finalL from by rw [takes_hold m c h3, Hold_zero, sep_emp'])) $$ Hh
  ihave Hf' := (final_elim m c) $$ Hf
  icases Hf' with ⟨Hcells, Hscr, Hout, Ha0, Ha1⟩
  unfold Φ₁ scratch
  rw [cells_all c fun g => semVal g 0]
  isplitl [Hz Hcells Hscr Ha0 Ha1]
  · isplitl [Hz Hcells]; · isplitl [Hz] <;> iassumption
    isplitl [Hscr]; · iexact Hscr
    isplitl [Ha0] <;> iassumption
  isplitl [Hg]; · iexact Hg
  isplitl [Hout]; · iexact Hout
  iexact HO'

/-! ## The launch's data -/

variable (ρ : Dev nD → PrngReg)

/-- The memory at launch: any contents, every counter zero, any generator registers. -/
def s₀ : MemSt nD τ sig (Elt F) := ⟨m, fun _ => 0, ρ⟩

/-- The scale as it is staged. -/
def gstg (c : Dev nD) : (cc0_stg0_0 : Ref sig .tc).ty.Contents (Elt F) :=
  (win0_0.blk (0 : Fin 1)).view.read (Elt F) (m ((c : Thread nD τ).loc main_arg2))
theorem gstg_eq (c : Dev nD) : gstg m c = m ((c : Thread nD τ).loc main_arg2) := by
  funext i
  exact congrArg (m ((c : Thread nD τ).loc main_arg2)) (funext fun a => Fin.ext (by
    fin_cases a
    show 0 * 2048 + 1 * (i 0).val = (i 0).val
    omega))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => gstg m c
    | ⟨1, _⟩ => result m
  Φ t := match t with
    | ⟨0, _⟩ => Φ₀ m c
    | ⟨_ + 1, _⟩ => Φ₁ m c
  q _ := fullShare
  owed t := match t with
    | ⟨0, _⟩ => O₀ c
    | ⟨_ + 1, _⟩ => 0

/-- A staging buffer held whole at `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))
theorem owns_stg (c : Dev nD) (b : Ref sig .tc) (X : b.ty.Contents (Elt F)) :
    (owns (c : Thread nD τ) (Memref.whole b) fullShare X : sProp 𝕄) = stg c b X := by
  unfold owns; simp only [Memref.view_whole, View.read_whole, View.set_whole]

def bodyPre (c : Dev nD) : sProp 𝕄 :=
  iprop(Φ₀ m c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
def bodyPost (c : Dev nD) : sProp 𝕄 :=
  iprop(Φ₁ m c ∗ (dats m ρ 0 c).owesAt () t0_0.succ ∗ stg c cc0_stg0_0 (gstg m c) ∗ stg c cc0_stg1_0 (result m))

theorem any_out_of (c : Dev nD) (f : Buf (Elt F) ((c : Thread nD τ).loc cc0_stg1_0)) : (((c : Thread nD τ).loc cc0_stg1_0) ↦{fullShare} f : sProp 𝕄) ⊢ anyAt c out := by
  unfold anyAt out
  simp only [Memref.view_whole, View.set_whole]
  iintro H
  iexists f
  iexact H

theorem sound_body (c : Dev nD) : bodyPre m ρ c ⊢ wp frame (wpE (defs₀ (F := F)) 𝒱₀ (c : Thread nD τ) none) Set.univ (body (F := F)) (fun _ => bodyPost m ρ c) := by
  unfold bodyPre
  iintro ⟨HΦ, Ho, ⟨%d0, %g0, %hg0, Hg⟩, ⟨%d1, %g1, %hg1, Hout⟩⟩
  have hx : g0 = m ((c : Thread nD τ).loc main_arg2) := by
    rw [hg0, ← gstg_eq m c]; unfold Dat.before; rw [if_pos (fetch0_0 t0_0)]; rfl
  subst hx
  unfold Dat.owesAt Pipeline.owesWithin
  icases Ho with ⟨%W, %hW, HO⟩
  rw [show (dats m ρ 0 c).owed t0_0.castSucc = O₀ c from rfl]
  iapply (run_body m c) $$ [HΦ Hg Hout HO]
  · isplitl [HΦ]; · iexact HΦ
    isplitl [Hg]; · unfold stgG; iexact Hg
    isplitl [Hout]; · iapply (any_out_of c g1); iexact Hout
    unfold owesAny; iexists W; iexact HO
  unfold owesAny
  iintro ⟨HΦ, Hg, Hout, ⟨%W', HO⟩⟩
  unfold bodyPost Dat.owesAt Pipeline.owesWithin
  rw [show (dats m ρ 0 c).owed t0_0.succ = 0 from rfl]
  isplitl [HΦ]; · iexact HΦ
  isplitl [HO]
  · iexists W'
    isplitr; · ipureintro; exact fun _ _ => Or.inl trivial
    iexact HO
  isplitl [Hg]
  · iexists _
    isplitr
    · ipureintro; exact (gstg_eq m c).symm
    unfold stgG; iexact Hg
  ihave H := (Entails.of_eq (show (at_ c out (result m) : sProp 𝕄) = stg c cc0_stg1_0 (result m) from owns_stg c cc0_stg1_0 (result m))) $$ Hout
  iexact H

/-- The body as the launch calls it. -/
theorem called : (defs₀ (F := F)) Proc.tc 0 (t0_0, cfg0.slots t0_0) = bodyAt0 t0_0 := by
  unfold defs₀ Defs.onTc
  dsimp only
theorem bodyAt_eq : bodyAt0 (F := F) t0_0 = body := body_eq

set_option maxRecDepth 65536 in
/-- The library's obligation for the body. -/
theorem body_obligation (c : Dev nD) : BodyObligation (dats (F := F) m ρ 0 c) (defs₀ (F := F)) 𝒱₀ () Set.univ := fun t => by
  rw [fin_N0 t]
  rw [bigSep_W0, bigSep_W0]
  simp only [owns_stg]
  rw [called, bodyAt_eq]
  have h := sound_body m ρ c
  unfold bodyPre bodyPost at h
  rw [show (dats m ρ 0 c).Φ t0_0.castSucc = Φ₀ m c from rfl, show (dats m ρ 0 c).Φ t0_0.succ = Φ₁ m c from rfl,
    show (dats m ρ 0 c).after 0 t0_0 = gstg m c from rfl, show (dats m ρ 0 c).after 1 t0_0 = result m from rfl]
  with_reducible exact h

end Cert.KernelIdeal.Ar
-- ==== Proof.KernelIdeal.Launch.lean ====
/-
  The launch: the ghost state of every device's cells, the rights dealt to the devices that use them, the credits that the devices'
  debts make, and the run of the whole program.
-/
module

public import proofs.«01_k».proof.Proof.KernelIdeal.Obl
public import Idealize.ShloMosaic.Lib.Pipeline.CollectiveSegs

@[expose] public section

noncomputable section

namespace Cert.KernelIdeal.Ar

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores -/

/-- The transfers' semaphores, by number. -/
def osem (i : Fin 278) : SemLoc sig := .dma ⟨i.val + 2, Nat.add_lt_add_right i.isLt 2⟩

theorem ownSemFacts : Pipeline.OwnSemFacts cfg0.spec osem where
  isScoped := by decide +kernel
  inj i j h := by
    have h' : i.val + 2 = j.val + 2 := congrArg (fun q : SemLoc sig => match q with | .dma q => q.val | .reg _ => 0) h
    exact Fin.ext (by omega)
  disj k w s h := by
    have h' : k.val + 2 = (((cfg0.win w).sem s : DmaSem sig)).val := congrArg (fun q : SemLoc sig => match q with | .dma q => q.val | .reg _ => 0) h
    have h2 : ∀ w s, (((cfg0.win w).sem s : DmaSem sig)).val < 2 := by decide
    have := h2 w s
    omega

theorem share_eq (c : Dev nD) (w : Fin cfg0.W) : (dats m ρ 0 c).share w = fullShare := by unfold Dat.share; split <;> rfl

theorem kcell_injective : Function.Injective kcell := by
  rintro ⟨c, k⟩ ⟨c', k'⟩ h
  have h1 : c = c' := by
    have : (kcell (c, k)).1.1 = (kcell (c', k')).1.1 := by rw [h]
    cases k <;> cases k' <;> exact this
  subst h1
  have h2 : (kcell (c, k)).2 = (kcell (c, k')).2 := by rw [h]
  match k, k' with
  | none, none => rfl
  | none, some i => exact absurd h2 (fun h => by cases h)
  | some i, none => exact absurd h2 (fun h => by cases h)
  | some i, some j => rw [ownSemFacts.inj (show osem i = osem j from h2)]
/-- Every cell of every device. -/
def allCells : Finset (GSem nD τ sig) := Finset.univ.map ⟨kcell, kcell_injective⟩

/-! ## The rights -/

/-- The rights that a device's own cells make: its barrier's two, the arrivals', the sends', the partial's and the residual's. -/
abbrev Tk := Bool ⊕ ((Bool × BHS) ⊕ ((Bool × BHS) ⊕ ((Bool × Fin 16) ⊕ Bool)))
/-- The cell of a right, its round and its duty. -/
def tkey : Tk → Option Cel × ℕ × Bool
  | .inl b => (none, 0, b)
  | .inr (.inl (ph, x)) => (some (.recv ph x.1.1 x.2 x.1.2), 0, false)
  | .inr (.inr (.inl (ph, x))) => (some (.send ph x.1.1 (par x.2) x.1.2), x.2.val / 2, false)
  | .inr (.inr (.inr (.inl x))) => (some (.part x.1 (par x.2)), x.2.val / 2, false)
  | .inr (.inr (.inr (.inr b))) => (some (.resid b), 0, false)
theorem half_inj {n k : ℕ} (h1 : par n = par k) (h2 : n / 2 = k / 2) : n = k := by
  have : n % 2 = k % 2 := congrArg Fin.val h1
  omega
theorem tkey_inj : Function.Injective tkey := by
  intro u v h
  rcases u with b | ⟨ph, ⟨b, s⟩, n⟩ | ⟨ph, ⟨b, s⟩, n⟩ | ⟨b, n⟩ | b <;>
    rcases v with b' | ⟨ph', ⟨b', s'⟩, n'⟩ | ⟨ph', ⟨b', s'⟩, n'⟩ | ⟨b', n'⟩ | b' <;>
    simp only [tkey, Prod.mk.injEq, Option.some.injEq, Cel.recv.injEq, Cel.send.injEq, Cel.part.injEq, Cel.resid.injEq, reduceCtorEq, _root_.false_and] at h
  · rw [h.2.2]
  · obtain ⟨⟨rfl, rfl, rfl, rfl⟩, -⟩ := h; rfl
  · obtain ⟨⟨rfl, rfl, h1, rfl⟩, h2, -⟩ := h; rw [Fin.ext (half_inj h1 h2)]
  · obtain ⟨⟨rfl, h1⟩, h2, -⟩ := h; rw [Fin.ext (half_inj h1 h2)]
  · rw [h.1]

/-- A device's cell. -/
def ocell (c : Dev nD) : Option Cel → GSem nD τ sig
  | none => barCell c
  | some k => dcell c k
theorem ocell_inj {c c' : Dev nD} {k k' : Option Cel} (h : ocell c k = ocell c' k') : c = c' ∧ k = k' := by
  have h1 : c = c' := by
    have : (ocell c k).1.1 = (ocell c' k').1.1 := by rw [h]
    cases k <;> cases k' <;> exact this
  subst h1
  refine ⟨rfl, ?_⟩
  have h2 : (ocell c k).2 = (ocell c k').2 := by rw [h]
  match k, k' with
  | none, none => rfl
  | none, some i => exact absurd h2 (fun h => by cases h)
  | some i, none => exact absurd h2 (fun h => by cases h)
  | some i, some j => rw [dsem_inj (show dsem i = dsem j by injection h2)]

/-- A right of a device's cell. -/
def tokOf (x : Dev nD × Tk) : GSem nD τ sig × ℕ × Bool := (ocell x.1 (tkey x.2).1, (tkey x.2).2)
theorem tokOf_injective : Function.Injective tokOf := by
  rintro ⟨c, t⟩ ⟨c', t'⟩ h
  have h1 := ocell_inj (congrArg Prod.fst h)
  have h2 : (tkey t).2 = (tkey t').2 := congrArg (fun x : GSem nD τ sig × ℕ × Bool => x.2) h
  exact Prod.ext h1.1 (tkey_inj (Prod.ext h1.2 h2))
def allToks : Finset (GSem nD τ sig × ℕ × Bool) := Finset.univ.map ⟨tokOf, tokOf_injective⟩

/-- The ghost state at launch. -/
def u₀ : UU :=
  (initOf (Pipeline.cells cfgs cellOf_inj) (Pipeline.launchToks cfgs cellOf_inj), initOf allCells allToks)

/-- The arrivals' rights of the device's own cells. -/
def ownRecv (c : Dev nD) (ph : Bool) : sProp 𝕄 := bigSep Finset.univ fun x : BHS => dutyTok ER (dcell c (.recv ph x.1.1 x.2 x.1.2)) 0 false
/-- The rights of the device's own cells. -/
def toks (c : Dev nD) : sProp 𝕄 :=
  iprop((dutyTok ER (barCell c) 0 false ∗ dutyTok ER (barCell c) 0 true) ∗ (ownRecv (F := F) c false ∗ ownRecv c true)
    ∗ (sendToks c false ∗ sendToks c true) ∗ partToks c ∗ residToks c)

theorem toks_eq (c : Dev nD) : (bigSep Finset.univ fun t : Tk => (dutyTok ER (tokOf (c, t)).1 (tokOf (c, t)).2.1 (tokOf (c, t)).2.2 : sProp 𝕄)) = toks c := by
  rw [BI.bigSep_univ_sum, BI.bigSep_univ_sum, BI.bigSep_univ_sum, BI.bigSep_univ_sum, all_two, bigSep_univ_prod, bigSep_univ_prod, all_two, all_two]
  rfl

/-- What the launch deals a device: its cells' states, its positions at them, and its cells' rights. -/
def G (c : Dev nD) : sProp 𝕄 :=
  iprop((bigSep Finset.univ fun k : Option (Fin 278) => roundState ER (rd m) (kcell (c, k)) 0)
    ∗ ((bigSep Finset.univ fun k : Option (Fin 278) => atPos ER (kcell (c, k)) 0 ∅ 0) ∗ bigSep Finset.univ fun k : Option (Fin 278) => reached ER (kcell (c, k)) 0) ∗ toks c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Option (Fin 278) => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => toks_eq c
  iintro HX
  imod (Rounds.fund ER (rd m) allCells allToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The barrier's semaphore is the launch's one unscoped semaphore. -/
theorem unscopedSems0_eq (c : Dev nD) : (unscopedSems0 c : sProp 𝕄) = semVal (barCell c) 0 := by
  unfold unscopedSems0; rw [bigSep_eq_bigSepL_of_eq [SemLoc.reg barSem] (by decide) (by decide)]; rfl

/-- A family over the barrier's cell and the transfers'. -/
theorem all_opt (Φ : Option (Fin 278) → sProp 𝕄) : bigSep Finset.univ Φ = iprop(Φ none ∗ bigSep Finset.univ fun k : Fin 278 => Φ (some k)) := by
  have h : (Finset.univ : Finset (Option (Fin 278))).erase none = Finset.univ.map Function.Embedding.some := by
    ext x; cases x <;> simp
  rw [bigSep_univ_at _ none, h, bigSep_map]
  rfl

theorem sems0_eq (c : Dev nD) :
    (bigSep Finset.univ fun k : Option (Fin 278) => (semVal (kcell (c, k)) 0 : sProp 𝕄))
      = iprop(unscopedSems0 c ∗ Pipeline.ownSems0 (Ix := Unit) (Name := ℕ) (U := UU) (Lvl := ℕ) (Val := Elt F) (τ := τ) osem c) := by
  rw [all_opt, unscopedSems0_eq]
  rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Option (Fin 278) => iprop(∃ κ : ℕ, cellInv ER (rd m) κ (kcell (c, k))))
          ∗ ((bigSep Finset.univ fun k : Option (Fin 278) => atPos ER (kcell (c, k)) 0 ∅ 0) ∗ bigSep Finset.univ fun k : Option (Fin 278) => reached ER (kcell (c, k)) 0) ∗ toks c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : Option (Fin 278) => semVal (kcell (c, k)) 0) ∗ bigSep Finset.univ fun k : Option (Fin 278) => roundState ER (rd m) (kcell (c, k)) 0)
      ⊢ (|={Set.univ}=> bigSep Finset.univ fun k : Option (Fin 278) => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The rights that the device uses: its neighbours' barriers' and everything else. -/
def uses (c : Dev nD) : sProp 𝕄 :=
  iprop((dutyTok ER (barCell (prev false c)) 0 false ∗ dutyTok ER (barCell (prev true c)) 0 true) ∗ rights c)

theorem ring_move (b : Bool) (Φ : Dev nD → sProp 𝕄) : (bigSep Finset.univ Φ) = bigSep Finset.univ fun c => Φ (nbr b c) := bigSep_univ_equiv (ring b) Φ
theorem ring_back (b : Bool) (Φ : Dev nD → sProp 𝕄) : (bigSep Finset.univ Φ) = bigSep Finset.univ fun c => Φ (prev b c) := bigSep_univ_equiv (ring b).symm Φ

/-- Two families over each other, in the other order. -/
theorem swap_fam {I J : Type} [Fintype I] [Fintype J] (Φ : I → J → sProp 𝕄) :
    (bigSep Finset.univ fun i => bigSep Finset.univ fun j => Φ i j) = bigSep Finset.univ fun j => bigSep Finset.univ fun i => Φ i j := by
  rw [← bigSep_univ_prod (fun x : I × J => Φ x.1 x.2), ← bigSep_univ_prod (fun x : J × I => Φ x.2 x.1), bigSep_univ_equiv (Equiv.prodComm J I)]
  rfl

/-- The arrivals' rights go to the devices that send. -/
theorem recv_around (ph : Bool) : (bigSep Finset.univ fun c : Dev nD => ownRecv (F := F) c ph) = bigSep Finset.univ fun c : Dev nD => recvToks (F := F) c ph := by
  unfold ownRecv recvToks
  rw [swap_fam, swap_fam (fun (c : Dev nD) (x : BHS) => (dutyTok ER (dcell (nbr x.1.1 c) (.recv ph x.1.1 x.2 x.1.2)) 0 false : sProp 𝕄))]
  exact all_eq fun x => ring_move x.1.1 fun c => dutyTok ER (dcell c (.recv ph x.1.1 x.2 x.1.2)) 0 false

/-- The rights dealt around the ring. -/
theorem toks_around : (bigSep Finset.univ fun c : Dev nD => (toks c : sProp 𝕄)) ⊢ bigSep Finset.univ fun c : Dev nD => uses c := by
  unfold toks uses rights
  simp only [bigSep_sep']
  rw [recv_around, recv_around, ring_back false (fun c : Dev nD => (dutyTok ER (barCell c) 0 false : sProp 𝕄)),
    ring_back true (fun c : Dev nD => (dutyTok ER (barCell c) 0 true : sProp 𝕄))]
  iintro ⟨H1, ⟨H2, H3⟩, ⟨H4, H5⟩, H6, H7⟩
  isplitl [H1]; · iexact H1
  isplitl [H2]; · iexact H2
  isplitl [H3]; · iexact H3
  isplitl [H4]; · iexact H4
  isplitl [H5]; · iexact H5
  isplitl [H6] <;> iassumption

theorem ghost_intro (K : Cells → ℕ) (c : Dev nD) :
    iprop(records m K ∗ (bigSep Finset.univ fun k : Option (Fin 278) => atPos ER (kcell (c, k)) 0 ∅ 0) ∗ uses c) ⊢ ghost m c := by
  unfold ghost uses
  iintro ⟨#HR, Ha, Ht, Hr⟩
  isplitr
  · iexists K; iexact HR
  isplitl [Ha]; · iexact Ha
  isplitl [Ht] <;> iassumption

theorem regroup :
    (bigSep Finset.univ fun c : Dev nD => iprop((bigSep Finset.univ fun k : Option (Fin 278) => iprop(∃ κ : ℕ, cellInv ER (rd m) κ (kcell (c, k))))
          ∗ ((bigSep Finset.univ fun k : Option (Fin 278) => atPos ER (kcell (c, k)) 0 ∅ 0) ∗ bigSep Finset.univ fun k : Option (Fin 278) => reached ER (kcell (c, k)) 0) ∗ toks c) : sProp 𝕄)
      ⊢ bigSep Finset.univ (ghost m) := by
  rw [bigSep_sep', bigSep_sep', bigSep_sep', ← bigSep_univ_prod (fun ck : Cells => iprop(∃ κ : ℕ, cellInv ER (rd m) κ (kcell ck))),
    ← bigSep_univ_prod (fun ck : Cells => (reached ER (kcell ck) 0 : sProp 𝕄))]
  iintro ⟨HI, ⟨Hat, #HR⟩, Htok⟩
  ihave HK := (BI.bigSep_exists_pi Finset.univ (fun (ck : Cells) (κ : ℕ) => (cellInv ER (rd m) κ (kcell ck) : sProp 𝕄))) $$ HI
  icases HK with ⟨%K, #HI⟩
  ihave Htk := (toks_around (F := F)) $$ Htok
  iapply (each (R := records m K) fun c => ghost_intro m K c)
  isplitr
  · unfold records; isplitl; · iexact HI
    iexact HR
  rw [bigSep_sep']
  isplitl [Hat] <;> iassumption

/-- From every device's semaphores and ghost state at once, what each starts from. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (ghost m) :=
  ((bigSep_mono fun c _ => core_alloc m c).trans (bigSep_fupd _ _)).trans (BI.fupd_mono (regroup m))

/-! ## The credits -/

/-- The credit of a list of debts is each debt's. -/
theorem cred_list (c : Dev nD) : ∀ l : List Res, (Pipeline.launchCred (fun d => owL d l) c : sProp 𝕄) = bigSepL l fun r => Pipeline.launchCred (fun d => ow d r) c
  | [] => Pipeline.launchCred_zero c
  | r :: l => by
    rw [bigSepL_cons', ← cred_list c l, ← Pipeline.launchCred_add]
    rfl

theorem ow_tick (d : Dev nD) (x : BHS) : ow d (at2' .tick 0 x) = tallyAt (dcell (nbr x.1.1 d) (.recv false x.1.1 x.2 x.1.2)) () N1 := by
  have h := x.2.isLt
  have e : (x.2.val + 0) % 18 = x.2.val := by omega
  show (if (x.2.val + 0) % 18 < 15 then tallyAt (dcell (nbr x.1.1 d) (.recv false x.1.1 (f15 ((x.2.val + 0) % 18)) x.1.2)) () N1 else 0) = _
  rw [e, if_pos h, f15_val]
theorem ow_atick (d : Dev nD) (x : BHS) : ow d (at2' .atick 0 x) = tallyAt (dcell (nbr x.1.1 d) (.recv true x.1.1 x.2 x.1.2)) () N1 := by
  have h := x.2.isLt
  have e : (x.2.val + 0) % 18 = x.2.val := by omega
  show (if (x.2.val + 0) % 18 < 15 then tallyAt (dcell (nbr x.1.1 d) (.recv true x.1.1 (f15 ((x.2.val + 0) % 18)) x.1.2)) () N1 else 0) = _
  rw [e, if_pos h, f15_val]

/-- The credit of an arrival comes from the device before. -/
theorem cred_recv (c : Dev nD) (ph : Bool) (x : BHS) :
    (Pipeline.launchCred (fun d => tallyAt (dcell (nbr x.1.1 d) (.recv ph x.1.1 x.2 x.1.2)) () N1) c : sProp 𝕄) ⊢ cred (tallyAt (dcell c (.recv ph x.1.1 x.2 x.1.2)) () N1) :=
  Pipeline.launchCred_tallyAt (.dma (dsem (.recv ph x.1.1 x.2 x.1.2))) (nbr x.1.1) (prev x.1.1) (nbr_prev x.1.1) (prev_nbr x.1.1) () N1 c

theorem cred_init (c : Dev nD) : (Pipeline.launchCred (fun d => owL d initL) c : sProp 𝕄) ⊢ iprop(recvCreds c false ∗ recvCreds c true) := by
  rw [cred_list]
  unfold initL recvCreds
  simp only [List.append_assoc]
  rw [bigSepL_append, bigSepL_append, bigSepL_map, bigSepL_map, ← all_bhs, ← all_bhs]
  simp only [ow_tick, ow_atick]
  iintro ⟨H1, H2, -⟩
  isplitl [H1]
  · iapply (all_mono fun x : BHS => cred_recv (F := F) c false x); iexact H1
  · iapply (all_mono fun x : BHS => cred_recv (F := F) c true x); iexact H2

theorem cred_bar (c : Dev nD) (b : Bool) : (Pipeline.launchCred (fun d => tallyAt (barCell (prev b d)) () 1) c : sProp 𝕄) ⊢ cred (tallyAt (barCell c) () 1) :=
  Pipeline.launchCred_tallyAt (.reg barSem) (prev b) (nbr b) (prev_nbr b) (nbr_prev b) () 1 c

theorem creds (c : Dev nD) : (Pipeline.launchCred O₀ c : sProp 𝕄) ⊢ iprop(cred (tallyAt (barCell c) () 2) ∗ recvCreds c false ∗ recvCreds c true) := by
  rw [show (O₀ : Dev nD → CellTallies nD τ sig Unit) = fun d => (owL d initL + tallyAt (barCell (prev true d)) () 1) + tallyAt (barCell (prev false d)) () 1 from rfl,
    Pipeline.launchCred_add, Pipeline.launchCred_add]
  iintro ⟨⟨H1, H2⟩, H3⟩
  ihave H1' := (cred_init (F := F) c) $$ H1
  ihave H2' := (cred_bar (F := F) c true) $$ H2
  ihave H3' := (cred_bar (F := F) c false) $$ H3
  isplitl [H2' H3']
  · rw [show (tallyAt (barCell c) () 2 : CellTallies nD τ sig Unit) = tallyAt (barCell c) () 1 + tallyAt (barCell c) () 1 from (tallyAt_add _ _ 1 1).symm]
    iapply (cred_add _ _).2
    isplitl [H2'] <;> iassumption
  iexact H1'

/-! ## The launch's conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost m c)
      ⊢ |={Set.univ}=> iprop(startR m c ∗ emp) := by
  rw [show (Pipeline.unscopedRestP Pipeline.Prefetch.none cfg0.spec c (fun b => m ((c : Thread nD τ).loc b)) : sProp 𝕄)
    = iprop(argAt m c main_arg0 fullShare ∗ argAt m c main_arg1 fullShare) from
      (Pipeline.unscopedRestP_none cfg0.spec c _).trans (unscopedRest0_eq c _)]
  iintro ⟨⟨Ha0, Ha1⟩, Hlev, Hcr, -, HG⟩
  ihave Hc := (creds (F := F) c) $$ Hcr
  icases Hc with ⟨H1, HN⟩
  imodintro
  unfold startR
  isplitl
  · isplitl [HG]; · iexact HG
    isplitl [Hlev]; · iexact Hlev
    isplitl [H1]; · iexact H1
    isplitl [HN]; · iexact HN
    isplitl [Ha0] <;> iassumption
  · iempintro

/-- A whole buffer holding anything. -/
theorem any_whole (c : Dev nD) (b : Ref sig .tc) : (anyAt (F := F) c (Memref.whole b)) = iprop(∃ f : Buf (Elt F) ((c : Thread nD τ).loc b), ((c : Thread nD τ).loc b) ↦{fullShare} f) := by
  unfold anyAt
  simp only [Memref.view_whole, View.set_whole]
theorem scratch_eq (c : Dev nD) : (Pipeline.scopedRest cfg0.spec c : sProp 𝕄) = scratch c := by
  rw [scopedRest0_eq]
  unfold scratch
  rw [show (comm false) = Memref.whole cc0_scratch0 from rfl, show (comm true) = Memref.whole cc0_scratch1 from rfl,
    show (pbuf false) = Memref.whole cc0_scratch2 from rfl, show (pbuf true) = Memref.whole cc0_scratch3 from rfl, show rbuf = Memref.whole cc0_scratch4 from rfl,
    any_whole, any_whole, any_whole, any_whole, any_whole]

theorem phi0_intro (c : Dev nD) :
    iprop(startR m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scratch_eq]
  unfold Φ₀
  iintro ⟨Hs, -, Hr⟩
  isplitl [Hs] <;> iassumption

/-- What the device gives back beside its buffers: the barrier's semaphore at rest and the two arguments as they were. -/
def back0 (c : Dev nD) : sProp 𝕄 := iprop(unscopedSems0 c ∗ argAt m c main_arg0 fullShare ∗ argAt m c main_arg1 fullShare)

theorem phi1_exit (c : Dev nD) :
    (dats m ρ 0 c).Φ (Fin.last cfg0.N) ⊢ iprop(back0 m c ∗ Pipeline.ownSems0 osem c ∗ Pipeline.scopedRest cfg0.spec c) := by
  rw [show (dats m ρ 0 c).Φ (Fin.last cfg0.N) = Φ₁ m c from rfl, scratch_eq]
  unfold Φ₁ back0
  rw [sems0_eq]
  iintro ⟨⟨Hu, Ho⟩, Hr, Ha0, Ha1⟩
  isplitl [Hu Ha0 Ha1]
  · isplitl [Hu]; · iexact Hu
    isplitl [Ha0] <;> iassumption
  isplitl [Ho] <;> iassumption

/-- What the device owes at the start is owed at levels above the staging's. -/
theorem owed_lv (c : Dev nD) (g : GSem nD τ sig) (ι : Unit) (h : 0 < O₀ c g ι) : ι ∈ L g ∧ 0 < lv g ι := by
  obtain ⟨n, n', h1, h2, h3⟩ := sets
  unfold O₀ at h
  rw [Pi.add_apply, Finsupp.add_apply, Pi.add_apply, Finsupp.add_apply] at h
  have hb (b : Bool) (hg : 0 < (tallyAt (barCell (prev b c)) () 1 : CellTallies nD τ sig Unit) g ι) : ι ∈ L g ∧ 0 < lv g ι := by
    rw [tallyAt_apply] at hg
    split at hg
    · rename_i e; rw [e.1]; exact ⟨by rw [L_tc]; exact Finset.mem_singleton.mpr rfl, Nat.one_pos⟩
    · exact absurd hg (Nat.lt_irrefl 0)
  rcases Nat.add_pos_iff_pos_or_pos.mp h with h | h
  · rcases Nat.add_pos_iff_pos_or_pos.mp h with h | h
    · have := owing_lv c n 1 (Nat.mod_one n) g ι (by rw [owing_init c h1]; exact h)
      exact ⟨this.1, Nat.lt_of_lt_of_le Nat.one_pos (Nat.le_of_lt this.2)⟩
    · exact hb true h
  · exact hb false h

theorem waits (c : Dev nD) : (levAts L lv : sProp 𝕄) ⊢ Pipeline.cellsWaits cfgs (dats m ρ) () 0 c :=
  Pipeline.cellsWaits_intro cfgs (dats m ρ) () 0 c fun w s t => by
    have hs : ∀ w s, (((cfg0.win w).sem s : DmaSem sig)).val < 2 := by decide
    have h0 : lv ((c : Thread nD τ), .dma ((cfg0.win w).sem s)) () = 0 := if_pos (hs w s)
    rcases t with ⟨_ | _, ht⟩
    · refine Pipeline.mayWait_of_levAts (by rw [L_tc]; exact Finset.mem_singleton.mpr rfl) fun g i hg => ?_
      have := owed_lv c g i hg
      exact ⟨this.1, lt_of_eq_of_lt h0 this.2⟩
    · refine Pipeline.mayWait_of_levAts (by rw [L_tc]; exact Finset.mem_singleton.mpr rfl) fun g i hg => ?_
      exact absurd hg (Nat.lt_irrefl 0)

/-! ## The run -/

/-- An argument that the device holds is in memory. -/
theorem read_arg (c : Dev nD) (b : Ref sig .tc) (s' : Phys nD τ sig (Elt F)) :
    iprop(argAt m c b fullShare ∗ SI s') ⊢ iprop(⌜s'.mem.mem ((c : Thread nD τ).loc b) = m ((c : Thread nD τ).loc b)⌝ ∗ (SI s' : sProp 𝕄)) := by
  have h := pointsTo_read_all (Ix := Unit) (Name := ℕ) (U := UU) (Lvl := ℕ) ({()} : Finset Unit) (fun _ => (c : Thread nD τ).loc b) (fun _ => m ((c : Thread nD τ).loc b)) s'
  rw [bigSep_singleton] at h
  unfold argAt
  iintro H
  ihave H' := (h) $$ H
  icases H' with ⟨%e, H⟩
  isplitr
  · ipureintro; exact e () (Finset.mem_singleton.mpr rfl)
  iexact H

/-- What the arrays hold after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg0) = m ((c : Thread nD τ).loc main_arg0) ∧ r.2.mem ((c : Thread nD τ).loc main_arg1) = m ((c : Thread nD τ).loc main_arg1)

set_option maxRecDepth 8000 in
/-- On sixteen devices, for any float values, from any memory with every counter zero: every fair run of the program ends, with the result
    of every device computed, every argument as it was and every counter zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := ghost m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := startR m) (Y := back0 m) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg0) = m ((c : Thread nD τ).loc main_arg0) ∧ s.mem ((c : Thread nD τ).loc main_arg1) = m ((c : Thread nD τ).loc main_arg1))
    (hY := fun c s' => by
      unfold back0
      iintro ⟨⟨Hu, Ha0, Ha1⟩, -, HSI⟩
      ihave H := (read_arg m c main_arg0 s') $$ [Ha0 HSI]
      · isplitl [Ha0] <;> iassumption
      icases H with ⟨%e0, HSI⟩
      ihave H := (read_arg m c main_arg1 s') $$ [Ha1 HSI]
      · isplitl [Ha1] <;> iassumption
      icases H with ⟨%e1, HSI⟩
      imod (Pipeline.unscopedSems0_read (X := unscopedSems0 c) (c := c) fupd_intro s') $$ [Hu HSI] with ⟨%eu, HSI⟩
      · isplitl [Hu] <;> iassumption
      imodintro
      isplitr
      · ipureintro; exact ⟨eu, e0, e1⟩
      iexact HSI)
    (hQ := fun _ h hs => ⟨fun c => ⟨fun w => (h c).1 w, (h c).2.2.2⟩, sem_eq_zero hs fun c => (h c).2.2.1⟩)

end Cert.KernelIdeal.Ar
-- ==== Proof.KernelIdeal.Final.lean ====
/-
  The run of the whole program, buffer by buffer: the result of every device, and the arguments as they were.
-/
module

public import proofs.«01_k».proof.Proof.KernelIdeal.Launch
public import Idealize.ShloMosaic.Lib.Pipeline.ValueKit.Geometry

@[expose] public section

noncomputable section

namespace Cert.KernelIdeal.Ar

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

variable (m : (ℓ : Loc nD τ sig) → Buf (Elt F) ℓ) (ρ : Dev nD → PrngReg)

/-- The scale is as it was. -/
theorem final_scale (c : Dev nD) : finalA m ρ c (0 : Fin 2) = m ((c : Thread nD τ).loc main_arg2) :=
  (dats (F := F) m ρ 0 c).arrAt_in (0 : Fin 2) rfl _
/-- The result's array holds the result. -/
theorem final_result (c : Dev nD) : finalA m ρ c (1 : Fin 2) = result m :=
  Pipeline.Dat.arrAt_eq_of_after_last (dats (F := F) m ρ 0 c) (1 : Fin 2) t0_0 (by decide +kernel) (result m) (fun j => rfl) (Memref.isWhole_whole _)

/-- On sixteen devices, for any float values, from any memory with every counter zero: every fair run of the program ends with the result
    on every device, the arguments as they were and every counter zero. -/
theorem run_final : θ_run defs (onTc (τ := τ) (main (F := F))) (s₀ m ρ) (fun r =>
    (∀ c : Dev nD, r.2.mem ((c : Thread nD τ).loc main_v1) = result m
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) ∧ r.2.sem = fun _ => 0) :=
  (θ_run defs _ _).mono (fun _ h =>
    ⟨fun c => ⟨((h.1 c).1 (1 : Fin 2)).trans (final_result m ρ c), (h.1 c).2.1, (h.1 c).2.2, ((h.1 c).1 (0 : Fin 2)).trans (final_scale m ρ c)⟩, h.2⟩) (run_main m ρ)

end Cert.KernelIdeal.Ar
-- ==== Proof.Frames.lean ====
/-
  The frames: the kernel as printed, the kernel read over the extended reals, and the reference read over the
  extended reals all run to the end, leave their arguments as they were and every counter at zero.
-/
module

public import proofs.«01_k».proof.Defs
public import proofs.«01_k».proof.Proof.Kernel.Final
public import proofs.«01_k».proof.Proof.KernelIdeal.Final
public import proofs.«01_k».proof.Proof.Gen.ReferenceIdeal.Run

@[expose] public section

noncomputable section

namespace Cert.Proof

open Idealize.ShloMosaic Idealize.SL.Sem

/-- The kernel's frame. -/
theorem frame_p : Cert.quiescent_Kernel := by
  intro m ρ _
  exact (θ_run Cert.Kernel.defs _ _).mono (fun _ h => ⟨fun c => (h.1 c).2, h.2⟩) (Cert.Kernel.Ar.run_final (F := Bits) m ρ)

/-- The idealised kernel's frame. -/
theorem frame_pi : Cert.quiescent_KernelIdeal := by
  intro m ρ _
  exact (θ_run Cert.KernelIdeal.defs _ _).mono (fun _ h => ⟨fun c => (h.1 c).2, h.2⟩) (Cert.KernelIdeal.Ar.run_final (F := Ideal) m ρ)

/-- The idealised reference's frame. -/
theorem frame_ri : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run (F := Ideal) m ρ)

end Cert.Proof
-- ==== Proof.Value.lean ====
/-
  The kernel's result over the extended reals, element by element: the sixteen partials' sum and the residual, times
  the reciprocal root of the row's mean square, times the scale.
-/
module

public import proofs.«01_k».proof.Proof.KernelIdeal.Final
public import Idealize.ShloMosaic.Lib.IdealHost
public import Idealize.ShloMosaic.Lib.ValueLayoutCasts
public import Idealize.ShloMosaic.Lib.Pointwise.Sums
public import Idealize.ShloMosaic.Lib.Pointwise.Reduce
public import Idealize.ShloMosaic.PureOps.Ideal.Laws

@[expose] public section

noncomputable section

namespace Cert.KernelIdeal.Ar

open Idealize.ShloMosaic hiding ix1 ix2 ix3
open Idealize.ShloMosaic.TcCoe Idealize.ShloMosaic.ValueIdx Cert.KernelIdeal.Gen

/-! ## Where a block lies -/

/-- Row `a` of the `q`-th block of 64 rows. -/
def row (q : Fin 32) (a : Fin 64) : Fin 2048 := ⟨64 * q.val + a.val, by omega⟩
/-- Column `k` of the `s`-th block of 512 columns. -/
def colx (s : Fin 4) (k : Fin 512) : Fin 2048 := ⟨512 * s.val + k.val, by omega⟩
/-- The block of 64 rows that ring `b` adds on device `c` at hop `n`. -/
def blk (b : Bool) (n : ℕ) (c : Dev nD) : Fin 32 :=
  match b with
  | false => ⟨2 * ((c.val + 15 * n) % 16), by omega⟩
  | true => ⟨2 * ((c.val + n) % 16) + 1, by omega⟩

theorem pOff_eq : ∀ (b : Bool) (h : Fin 16) (c : Dev nD), pOff b h c = ![0, 64 * (blk b h.val c).val, 0] := by decide +kernel
theorem rOff_eq : ∀ (b : Bool) (c : Dev nD), rOff b c = ![64 * (blk b 15 c).val, 0] := by decide +kernel
/-- The block added at a hop is the one that the device before added at the hop before. -/
theorem blk_prev (b : Bool) (n : ℕ) (c : Dev nD) : blk b n (prev b c) = blk b (n + 1) c := by
  cases b
  · refine Fin.ext ?_
    show 2 * (((c.val + 15) % 16 + 15 * n) % 16) = 2 * ((c.val + 15 * (n + 1)) % 16)
    omega
  · refine Fin.ext ?_
    show 2 * (((c.val + 1) % 16 + n) % 16) + 1 = 2 * ((c.val + (n + 1)) % 16) + 1
    omega
/-- A block is completed on the device that computes its rows of the result. -/
theorem blk_owner : ∀ q : Fin 32, blk (decide (q.val % 2 = 1)) 15 (owner q.val) = q := by decide +kernel
theorem back_inj : ∀ (b : Bool) (c : Dev nD) (t u : Fin 16), back b t.val c = back b u.val c → t = u := by decide +kernel
/-- Sixteen hops back along a ring meet every device once. -/
theorem back_bij (b : Bool) (c : Dev nD) : Function.Bijective (fun t : Fin 16 => (back b t.val c : Dev nD)) :=
  Function.Injective.bijective_of_nat_card_le (fun t u h => back_inj b c t u h) (by simp)

section Read

variable {F : FTy → Type} [FloatOps F] (m : (ℓ : Loc nD τ sig) → Buf (Elt F) ℓ)

theorem px_at (b : Bool) (h : Fin 16) (c : Dev nD) (a : Fin 64) (l : Fin 2048) :
    px m b h c (ix2 a l) = m ((c : Thread nD τ).loc main_arg0) (ix3 (0 : Fin 1) (row (blk b h.val c) a) l) := by
  have e : (Shape.reshapeEquiv squeezes_S1x64x2048_S64x2048.numel_eq (ix2 a l) : S1x64x2048.Idx) = ix3 (⟨0, Nat.one_pos⟩ : Fin 1) a l :=
    reshapeEquiv_ix2_1ab _ _ _
  show m ((c : Thread nD τ).loc main_arg0) ((Rect.unit (s := S1x2048x2048) (pOff b h c) S1x64x2048.size (pOff_inb b h c)).emb
    (Shape.reshapeEquiv squeezes_S1x64x2048_S64x2048.numel_eq (ix2 a l))) = _
  rw [e]
  refine congrArg _ (funext fun x => Fin.ext ?_)
  rw [Rect.emb_apply]
  show pOff b h c x + 1 * _ = _
  rw [show pOff b h c x = (![0, 64 * (blk b h.val c).val, 0] : Fin 3 → Nat) x from congrFun (pOff_eq b h c) x]
  fin_cases x <;> simp [row]

theorem rx_at (b : Bool) (c : Dev nD) (a : Fin 64) (l : Fin 2048) :
    rx m b c (ix2 a l) = m ((c : Thread nD τ).loc main_arg1) (ix2 (row (blk b 15 c) a) l) := by
  show m ((c : Thread nD τ).loc main_arg1) ((Rect.unit (s := S2048x2048) (rOff b c) S64x2048.size (rOff_inb b c)).emb (ix2 a l)) = _
  refine congrArg _ (funext fun x => Fin.ext ?_)
  rw [Rect.emb_apply]
  show rOff b c x + 1 * _ = _
  rw [show rOff b c x = (![64 * (blk b 15 c).val, 0] : Fin 2 → Nat) x from congrFun (rOff_eq b c) x]
  fin_cases x <;> simp [row]

theorem gx_at (s : Fin 4) (c : Dev nD) (k : Fin 512) :
    gx m s c (ix1 k) = m ((c : Thread nD τ).loc main_arg2) (ix1 (colx s k)) := by
  show m ((c : Thread nD τ).loc main_arg2) ((rectG s).emb (ix1 k)) = _
  refine congrArg _ (funext fun x => Fin.ext ?_)
  fin_cases x
  show 512 * s.val + 1 * k.val = 512 * s.val + k.val
  rw [Nat.one_mul]

theorem colsOf_at (s : Fin 4) (X : Vec F S64x2048 .f32) (a : Fin 64) (k : Fin 512) : colsOf s X (ix2 a k) = X (ix2 a (colx s k)) := by
  refine congrArg X (funext fun x => Fin.ext ?_)
  rw [Rect.emb_apply]
  fin_cases x <;> simp [col, colx]

end Read

/-! ## The rows to normalise -/

variable (m : (ℓ : Loc nD τ sig) → Buf (Elt Ideal) ℓ)
variable (A : (⟨3, ![16, 2048, 2048]⟩ : Shape).Idx → EReal) (R : (⟨2, ![2048, 2048]⟩ : Shape).Idx → EReal) (G : (⟨1, ![2048]⟩ : Shape).Idx → EReal)

/-- The sixteen partials' sum and the residual, at row `i` and column `j`. -/
def total (i j : Fin 2048) : EReal := (∑ d : Fin 16, A (ix3 d i j)) + R (ix2 i j)

variable (hA : ∀ (c : Dev nD) (i j : Fin 2048), m ((c : Thread nD τ).loc main_arg0) (ix3 (0 : Fin 1) i j) = A (ix3 (c : Fin 16) i j))
  (hR : ∀ (c : Dev nD), m ((c : Thread nD τ).loc main_arg1) = R) (hG : ∀ (c : Dev nD), m ((c : Thread nD τ).loc main_arg2) = G)

include hA in
/-- What a device sends at hop `n` is the sum of the rows of the devices up to `n` hops back. -/
theorem sv_at (b : Bool) (s : Fin 4) (a : Fin 64) (k : Fin 512) : ∀ (n : ℕ) (hn : n < 16) (c : Dev nD),
    sv m b s n c (ix2 a k) = ∑ t ∈ Finset.range (n + 1), A (ix3 (back b t c : Fin 16) (row (blk b n c) a) (colx s k)) := by
  intro n
  induction n with
  | zero =>
    intro _ c
    rw [Finset.sum_range_one]
    show colsOf s (px m b 0 c) (ix2 a k) = _
    rw [colsOf_at, px_at, hA]; rfl
  | succ n ih =>
    intro hn c
    rw [Finset.sum_range_succ']
    show (sv m b s n (prev b c) (ix2 a k) : EReal) + (colsOf s (px m b (hop (n + 1)) c) (ix2 a k) : EReal) = _
    rw [ih (by omega), colsOf_at, px_at, hA, blk_prev, show (hop (n + 1)).val = n + 1 from Nat.mod_eq_of_lt hn]; rfl

include hA hR in
/-- The rows that a device normalises. -/
theorem yv_at (b : Bool) (s : Fin 4) (c : Dev nD) (a : Fin 64) (k : Fin 512) :
    yv m b s c (ix2 a k) = total A R (row (blk b 15 c) a) (colx s k) := by
  show ((sv m b s 14 (prev b c) (ix2 a k) : EReal) + (colsOf s (px m b 15 c) (ix2 a k) : EReal)) + (colsOf s (rx m b c) (ix2 a k) : EReal) = _
  have h15 := sv_at m A hA b s a k 15 (by decide) c
  have h : sv m b s 15 c (ix2 a k) = (sv m b s 14 (prev b c) (ix2 a k) : EReal) + (colsOf s (px m b 15 c) (ix2 a k) : EReal) := rfl
  rw [← h, h15, colsOf_at, rx_at, hR, Finset.sum_range]
  unfold total
  refine congrArg (· + _) ?_
  exact Fintype.sum_bijective _ (back_bij b c) _ _ fun t => rfl

/-! ## The norm -/

theorem sq_at (y : FVec Ideal S64x512 .f32) (a : Fin 64) : sqPay y (ix2 a (0 : Fin 1)) = ∑ k : Fin 512, (y (ix2 a k) : EReal) * y (ix2 a k) := by
  unfold sqPay
  refine (shapeCast_a_a1_apply _ _ _ _).trans ((Ideal.reduceAdd_r2_a1 _ _ _).trans ?_)
  exact Finset.sum_congr rfl fun k _ => congrArg (fun z : S64x512.Idx => (y z : EReal) * y z) (funext fun x => by fin_cases x <;> rfl)

/-- The number of columns and the constant added to the mean square, as the programs print them. -/
def nCols : EReal := Ideal.ofBits .f32 0x45000000#32
def eps : EReal := Ideal.ofBits .f32 0x358637BD#32

theorem inv_at (y0 y1 y2 y3 : FVec Ideal S64x512 .f32) (a : Fin 64) : invPay y0 y1 y2 y3 (ix2 a (0 : Fin 1))
    = Ideal.rsqrt (Ideal.div (sqPay y0 (ix2 a (0 : Fin 1)) + sqPay y1 (ix2 a (0 : Fin 1)) + sqPay y2 (ix2 a (0 : Fin 1)) + sqPay y3 (ix2 a (0 : Fin 1)) : EReal) nCols + eps) := by
  show Ideal.rsqrt (Ideal.div ((((Ideal.ofBits .f32 0x00000000#32 + sqPay y0 (ix2 a (0 : Fin 1))) + sqPay y1 (ix2 a (0 : Fin 1))) + sqPay y2 (ix2 a (0 : Fin 1))) + sqPay y3 (ix2 a (0 : Fin 1)) : EReal) nCols + eps) = _
  rw [Ideal.ofBits_zero_f32, zero_add]

theorem out_at (y : FVec Ideal S64x512 .f32) (iv : FVec Ideal S64x1 .f32) (g : Vec Ideal S512 .f32) (a : Fin 64) (k : Fin 512) :
    outPay y iv g (ix2 a k) = (y (ix2 a k) * iv (ix2 a (0 : Fin 1)) : EReal) * g (ix1 k) := by
  have h1 : broadcastTo S64x512 iv broadcasts_S64x1_S64x512 (ix2 a k) = iv (ix2 a (0 : Fin 1)) :=
    broadcastTo_apply _ _ _ _ fun x => by fin_cases x <;> rfl
  have h2 : broadcastTo S64x512 (shapeCast S1x512 (shapeCast S512 g shapeCasts_S512_S512) shapeCasts_S512_S1x512) broadcasts_S1x512_S64x512 (ix2 a k) = g (ix1 k) := by
    rw [show broadcastTo S64x512 (shapeCast S1x512 (shapeCast S512 g shapeCasts_S512_S512) shapeCasts_S512_S1x512) broadcasts_S1x512_S64x512 (ix2 a k)
      = shapeCast S1x512 (shapeCast S512 g shapeCasts_S512_S512) shapeCasts_S512_S1x512 (ix2 (0 : Fin 1) k) from broadcastTo_1b_ab_apply _ _ _ _,
      shapeCast_a_1a_apply]
    exact shapeCast_apply _ _ _ _ rfl
  show (y (ix2 a k) * broadcastTo S64x512 iv broadcasts_S64x1_S64x512 (ix2 a k) : EReal)
    * broadcastTo S64x512 (shapeCast S1x512 (shapeCast S512 g shapeCasts_S512_S512) shapeCasts_S512_S1x512) broadcasts_S1x512_S64x512 (ix2 a k) = _
  rw [h1, h2]

/-- The mean square of row `i`, and the constant. -/
def meanSq (i : Fin 2048) : EReal := Ideal.div (∑ j : Fin 2048, total A R i j * total A R i j) nCols + eps

/-- A row's sum of squares, column block by column block. -/
theorem sum_blocks (f : Fin 2048 → EReal) :
    (∑ k, f (colx 0 k)) + (∑ k, f (colx 1 k)) + (∑ k, f (colx 2 k)) + (∑ k, f (colx 3 k)) = ∑ j : Fin 2048, f j := by
  rw [Fin.sum_univ_tiles 4 512 rfl f, Fin.sum_univ_four]
  have h (s : Fin 4) : (∑ k : Fin 512, f (colx s k)) = ∑ t : Fin 512, f ⟨s.val * 512 + t.val, by omega⟩ :=
    Finset.sum_congr rfl fun k _ => congrArg f (Fin.ext (by show 512 * s.val + k.val = s.val * 512 + k.val; omega))
  rw [h 0, h 1, h 2, h 3]

include hA hR in
theorem inv_row (b : Bool) (c : Dev nD) (a : Fin 64) :
    invPay (yv m b 0 c) (yv m b 1 c) (yv m b 2 c) (yv m b 3 c) (ix2 a (0 : Fin 1)) = Ideal.rsqrt (meanSq A R (row (blk b 15 c) a)) := by
  rw [inv_at, sq_at, sq_at, sq_at, sq_at]
  have h (s : Fin 4) : (∑ k : Fin 512, (yv m b s c (ix2 a k) : EReal) * yv m b s c (ix2 a k))
      = ∑ k : Fin 512, total A R (row (blk b 15 c) a) (colx s k) * total A R (row (blk b 15 c) a) (colx s k) :=
    Finset.sum_congr rfl fun k _ => by rw [yv_at m A R hA hR]
  rw [h 0, h 1, h 2, h 3, sum_blocks fun j => total A R (row (blk b 15 c) a) j * total A R (row (blk b 15 c) a) j]
  rfl

include hA hR hG in
/-- The result, element by element. -/
theorem result_at (i j : Fin 2048) : result m (ix2 i j) = (total A R i j * Ideal.rsqrt (meanSq A R i) : EReal) * G (ix1 j) := by
  have hq : (rowQ (ix2 i j)).val = i.val / 64 := rfl
  have hc : (colQ (ix2 i j)).val = j.val / 512 := rfl
  have hi : row (rowQ (ix2 i j)) ⟨i.val % 64, Nat.mod_lt _ (by decide)⟩ = i := Fin.ext (by
    show 64 * (i.val / 64) + i.val % 64 = i.val; omega)
  have hj : colx (colQ (ix2 i j)) ⟨j.val % 512, Nat.mod_lt _ (by decide)⟩ = j := Fin.ext (by
    show 512 * (j.val / 512) + j.val % 512 = j.val; omega)
  show ov m (decide ((rowQ (ix2 i j)).val % 2 = 1)) (colQ (ix2 i j)) (owner (rowQ (ix2 i j)).val)
    (ix2 (⟨i.val % 64, Nat.mod_lt _ (by decide)⟩ : Fin 64) (⟨j.val % 512, Nat.mod_lt _ (by decide)⟩ : Fin 512)) = _
  unfold ov
  rw [out_at, yv_at m A R hA hR, inv_row m A R hA hR, gx_at, hG, blk_owner, hi, hj]

/-! ## A row's root -/

theorem nCols_pos : 0 < nCols := by
  unfold nCols; simp [Ideal.ofBits, Ideal.ieee]; exact EReal.mul_pos (EReal.coe_pos.mpr (by norm_num)) (EReal.coe_pos.mpr (by norm_num))
theorem eps_pos : 0 < eps := by
  unfold eps; simp [Ideal.ofBits, Ideal.ieee]; exact EReal.mul_pos (EReal.coe_pos.mpr (by norm_num)) (EReal.coe_pos.mpr (by norm_num))

/-- A square of an extended real is not negative. -/
theorem sq_nonneg' (x : EReal) : 0 ≤ x * x := by
  induction x with
  | bot => simp
  | top => simp
  | coe r => rw [← EReal.coe_mul]; exact_mod_cast mul_self_nonneg r

theorem meanSq_pos (i : Fin 2048) : 0 < meanSq A R i := by
  have h : 0 ≤ Ideal.div (∑ j : Fin 2048, total A R i j * total A R i j) nCols := by
    unfold Ideal.div
    rw [if_neg nCols_pos.ne']
    exact mul_nonneg (Finset.sum_nonneg fun j _ => sq_nonneg' _) (EReal.inv_nonneg_of_nonneg nCols_pos.le)
  exact lt_of_lt_of_le eps_pos (le_add_of_nonneg_left h)

/-- Dividing by a positive number's root is multiplying by its reciprocal root. -/
theorem mul_rsqrt (y v : EReal) (hv : 0 < v) : y * Ideal.rsqrt v = Ideal.div y (Ideal.sqrt v) := by
  induction v with
  | bot => simp at hv
  | top =>
    rw [Ideal.rsqrt_top, Ideal.sqrt_top]
    unfold Ideal.div
    rw [if_neg (by simp), EReal.inv_top]
  | coe r =>
    have hr : 0 < r := by exact_mod_cast hv
    have hs : 0 < Real.sqrt r := Real.sqrt_pos.mpr hr
    rw [Ideal.rsqrt_coe, Ideal.sqrt_coe, if_neg hr.not_gt, if_neg hr.ne', if_neg hr.not_gt]
    unfold Ideal.div
    rw [if_neg (by exact_mod_cast hs.ne'), EReal.coe_inv]

end Cert.KernelIdeal.Ar
-- ==== Proof.Algebraic.lean ====
/-
  The kernel and the reference agree over the extended reals: on every device the kernel's result is the reference's.
-/
module

public import proofs.«01_k».proof.Defs
public import proofs.«01_k».proof.Proof.Value
public import proofs.«01_k».proof.Proof.Gen.ReferenceIdeal.Run

@[expose] public section

noncomputable section

namespace Cert.Proof

open Idealize.ShloMosaic hiding ix1 ix2 ix3
open Idealize.SL.Sem Idealize.ShloMosaic.ValueIdx Cert.ReferenceIdeal Cert.ReferenceIdeal.Gen

variable (A : (⟨S16x2048x2048, .f32⟩ : BufTy).Contents (Elt Ideal)) (R : (⟨S2048x2048, .f32⟩ : BufTy).Contents (Elt Ideal))
  (G : (⟨S2048, .f32⟩ : BufTy).Contents (Elt Ideal))

/-- The reference's sum of the partials and the residual. -/
def refSum : FVec Ideal S2048x2048 .f32 := addf (Host.reduceAdd A (constant (F := Ideal) S_ .f32 0x00000000#32) reducesTo_S16x2048x2048_S2048x2048_d0 h_S_) R
/-- The reference's sums of squares along the rows. -/
def refSq (y : FVec Ideal S2048x2048 .f32) : FVec Ideal S2048 .f32 := Host.reduceAdd (mulf y y) (constant (F := Ideal) S_ .f32 0x00000000#32) reducesTo_S2048x2048_S2048_d1 h_S_
/-- The reference's roots of the rows' mean squares. -/
def refRoot (y : FVec Ideal S2048x2048 .f32) : FVec Ideal S2048x1 .f32 :=
  Host.sqrt (addf (Host.divf (broadcastInDim S2048x1 ![0] bcast_S2048_S2048x1_0 (refSq y)) (broadcastInDim S2048x1 ![] bcast_S_S2048x1 (constant (F := Ideal) S_ .f32 0x45000000#32)))
    (broadcastInDim S2048x1 ![] bcast_S_S2048x1 (constant (F := Ideal) S_ .f32 0x358637BD#32)))
/-- The reference's result. -/
def refVal : FVec Ideal S2048x2048 .f32 :=
  mulf (Host.divf (refSum A R) (broadcastInDim S2048x2048 ![0, 1] bcast_S2048x1_S2048x2048_0_1 (refRoot (refSum A R))))
    (broadcastInDim S2048x2048 ![0, 1] bcast_S1x2048_S2048x2048_0_1 (broadcastInDim S1x2048 ![1] bcast_S2048_S1x2048_1 G))

theorem refSum_at (i j : Fin 2048) : refSum A R (ix2 i j) = Cert.KernelIdeal.Ar.total A R i j := by
  have h : Host.reduceAdd A (constant (F := Ideal) S_ .f32 0x00000000#32) reducesTo_S16x2048x2048_S2048x2048_d0 h_S_ (ix2 i j) = ∑ d : Fin 16, A (ix3 d i j) := by
    refine (Ideal.hostReduceAdd_r3_a0 _ A _ _).trans ?_
    rw [show constant (F := Ideal) S_ .f32 0x00000000#32 (Shape.Idx.first h_S_) = 0 from Ideal.ofBits_zero_f32, zero_add]
    exact Finset.sum_congr rfl fun d _ => congrArg A (funext fun x => by fin_cases x <;> rfl)
  show (Host.reduceAdd A (constant (F := Ideal) S_ .f32 0x00000000#32) reducesTo_S16x2048x2048_S2048x2048_d0 h_S_ (ix2 i j) : EReal) + R (ix2 i j) = _
  rw [h]; rfl

theorem refSq_at (y : FVec Ideal S2048x2048 .f32) (i : Fin 2048) : refSq y (ix1 i) = ∑ j : Fin 2048, (y (ix2 i j) : EReal) * y (ix2 i j) := by
  refine (Ideal.hostReduceAdd_r2_a1 _ (mulf y y) _ _).trans ?_
  rw [show constant (F := Ideal) S_ .f32 0x00000000#32 (Shape.Idx.first h_S_) = 0 from Ideal.ofBits_zero_f32, zero_add]
  exact Finset.sum_congr rfl fun d _ => congrArg (fun z : S2048x2048.Idx => (y z : EReal) * y z) (funext fun x => by fin_cases x <;> rfl)

theorem refRoot_at (i : Fin 2048) : refRoot (refSum A R) (ix2 i (0 : Fin 1)) = Ideal.sqrt (Cert.KernelIdeal.Ar.meanSq A R i) := by
  have h : broadcastInDim S2048x1 ![0] bcast_S2048_S2048x1_0 (refSq (refSum A R)) (ix2 i (0 : Fin 1)) = refSq (refSum A R) (ix1 i) :=
    broadcastInDim_apply _ _ _ _ _ fun x => by fin_cases x; rfl
  show Ideal.sqrt (Ideal.div (broadcastInDim S2048x1 ![0] bcast_S2048_S2048x1_0 (refSq (refSum A R)) (ix2 i (0 : Fin 1))) Cert.KernelIdeal.Ar.nCols + Cert.KernelIdeal.Ar.eps) = _
  rw [h, refSq_at]
  unfold Cert.KernelIdeal.Ar.meanSq
  simp only [refSum_at]

/-- The reference's result, element by element. -/
theorem refVal_at (i j : Fin 2048) : refVal A R G (ix2 i j)
    = (Ideal.div (Cert.KernelIdeal.Ar.total A R i j) (Ideal.sqrt (Cert.KernelIdeal.Ar.meanSq A R i)) : EReal) * G (ix1 j) := by
  have h1 : broadcastInDim S2048x2048 ![0, 1] bcast_S2048x1_S2048x2048_0_1 (refRoot (refSum A R)) (ix2 i j) = refRoot (refSum A R) (ix2 i (0 : Fin 1)) :=
    broadcastInDim_apply _ _ _ _ _ fun x => by fin_cases x <;> rfl
  have h2 : broadcastInDim S2048x2048 ![0, 1] bcast_S1x2048_S2048x2048_0_1 (broadcastInDim S1x2048 ![1] bcast_S2048_S1x2048_1 G) (ix2 i j) = G (ix1 j) :=
    (broadcastInDim_apply _ _ _ _ (ix2 (0 : Fin 1) j) fun x => by fin_cases x <;> rfl).trans
      (broadcastInDim_apply _ _ _ _ (ix1 j) fun x => by fin_cases x; rfl)
  show (Ideal.div (refSum A R (ix2 i j)) (broadcastInDim S2048x2048 ![0, 1] bcast_S2048x1_S2048x2048_0_1 (refRoot (refSum A R)) (ix2 i j)) : EReal)
    * broadcastInDim S2048x2048 ![0, 1] bcast_S1x2048_S2048x2048_0_1 (broadcastInDim S1x2048 ![1] bcast_S2048_S1x2048_1 G) (ix2 i j) = _
  rw [h1, h2, refRoot_at, refSum_at]

/-- The kernel's result is the reference's. -/
theorem result_eq (m : (ℓ : Loc Cert.KernelIdeal.nD Cert.KernelIdeal.τ Cert.KernelIdeal.sig) → Buf (Elt Ideal) ℓ)
    (hA : ∀ (c : Dev Cert.KernelIdeal.nD) (i j : Fin 2048), m ((c.tc : Thread Cert.KernelIdeal.nD Cert.KernelIdeal.τ).loc Cert.KernelIdeal.main_arg0) (ix3 (0 : Fin 1) i j) = A (ix3 (c : Fin 16) i j))
    (hR : ∀ c : Dev Cert.KernelIdeal.nD, m ((c.tc : Thread Cert.KernelIdeal.nD Cert.KernelIdeal.τ).loc Cert.KernelIdeal.main_arg1) = R)
    (hG : ∀ c : Dev Cert.KernelIdeal.nD, m ((c.tc : Thread Cert.KernelIdeal.nD Cert.KernelIdeal.τ).loc Cert.KernelIdeal.main_arg2) = G) :
    Cert.KernelIdeal.Ar.result m = refVal A R G := by
  have key (i j : Fin 2048) : Cert.KernelIdeal.Ar.result m (ix2 i j) = refVal A R G (ix2 i j) :=
    (Cert.KernelIdeal.Ar.result_at m A R G hA hR hG i j).trans
      ((congrArg (fun z : EReal => z * (G (ix1 j) : EReal)) (Cert.KernelIdeal.Ar.mul_rsqrt _ _ (Cert.KernelIdeal.Ar.meanSq_pos A R i))).trans (refVal_at A R G i j).symm)
  funext x
  have hx : x = ix2 (x 0 : Fin 2048) (x 1 : Fin 2048) := ValueIdx.eq_ix2 x
  exact (congrArg (Cert.KernelIdeal.Ar.result m) hx).trans ((key _ _).trans (congrArg (refVal A R G) hx).symm)

/-- On every device the kernel ends with the reference's result. -/
theorem algebraic : Cert.algebraic_KernelIdeal_ReferenceIdeal := by
  intro m ρ m' ρ' _ hagree
  have e : Cert.KernelIdeal.Ar.result m = refVal (m' (((0 : Dev nD).tc : Thread nD τ).loc main_arg0)) (m' (((0 : Dev nD).tc : Thread nD τ).loc main_arg1)) (m' (((0 : Dev nD).tc : Thread nD τ).loc main_arg2)) :=
    result_eq _ _ _ m (fun c i j => by
        rw [(hagree c).1, Layout.block_apply]
        refine congrArg _ (funext fun x => Fin.ext ?_)
        rw [Layout.Tiles.idx_val]
        fin_cases x <;> simp)
      (fun c => (hagree c).2.1) (fun c => (hagree c).2.2)
  refine ⟨refVal (m' (((0 : Dev nD).tc : Thread nD τ).loc main_arg0)) (m' (((0 : Dev nD).tc : Thread nD τ).loc main_arg1)) (m' (((0 : Dev nD).tc : Thread nD τ).loc main_arg2)), ?_, ?_⟩
  · exact (θ_run Cert.KernelIdeal.defs _ _).mono (fun _ h c => ⟨(h.1 c).1.trans e, (h.1 c).2⟩) (Cert.KernelIdeal.Ar.run_final (F := Ideal) m ρ)
  · exact (θ_run Cert.ReferenceIdeal.defs _ _).mono (fun _ h => h 0) (Cert.ReferenceIdeal.Value.run (F := Ideal) m' ρ')

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  frame_p, frame_pi, frame_ri, trivial, algebraic⟩

end Cert.Proof

end
